-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v113) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v139) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x8192x3 : Shape := ⟨3, ![8, 8192, 3]⟩
abbrev S8x8192x128 : Shape := ⟨3, ![8, 8192, 128]⟩
abbrev S128x131 : Shape := ⟨2, ![128, 131]⟩
abbrev S128 : Shape := ⟨1, ![128]⟩
abbrev S128x128 : Shape := ⟨2, ![128, 128]⟩
abbrev S256x128 : Shape := ⟨2, ![256, 128]⟩
abbrev S256 : Shape := ⟨1, ![256]⟩
abbrev S_ : Shape := ⟨0, ![]⟩
abbrev S1 : Shape := ⟨1, ![1]⟩
abbrev S3 : Shape := ⟨1, ![3]⟩

class Facts : Prop where
  bcast_S_S128 : S_.BroadcastsInDim S128 (![] : Fin 0 → Fin S128.rank)
  reducesTo_S128_S_d0 : S128.ReducesTo [0] S_
  h_S_ : 0 < S_.numel
  bcast_S_S256 : S_.BroadcastsInDim S256 (![] : Fin 0 → Fin S256.rank)
  reducesTo_S256_S_d0 : S256.ReducesTo [0] S_
  bcast_S_S1 : S_.BroadcastsInDim S1 (![] : Fin 0 → Fin S1.rank)
  concatenates_S1_S1_S1_S3_d0 : Shape.Concatenates [S1, S1, S1] S3 0

variable [Facts]

def fn {F : FTy → Type} [FloatOps F] (main_arg0 : FVec F S8x8192x3 .f32) (main_arg1 : FVec F S8x8192x128 .f32) (main_arg2 : FVec F S128x131 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S256x128 .f32) (main_arg11 : FVec F S256 .f32) (main_arg12 : FVec F S256 .f32) (main_arg13 : FVec F S256 .f32) : IVec S3 1 :=
  let main_v0 : FVec F S128 .f32 := Host.absf main_arg4
  let main_cst : FVec F S_ .f32 := constant S_ .f32 0x7F800000#32
  let main_v1 : FVec F S128 .f32 := broadcastInDim S128 ![] bcast_S_S128 main_cst
  let main_v2 : IVec S128 1 := cmpf .olt main_v0 main_v1
  let main_c : IVec S_ 1 := constantI S_ 1 1#1
  let main_v3 : IVec S_ 1 := (fun x v => Host.reduce IntOp.andi x v reducesTo_S128_S_d0 h_S_) main_v2 main_c
  let main_v4 : FVec F S128 .f32 := Host.absf main_arg8
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : FVec F S256 .f32 := Host.absf main_arg12
  let main_cst_2 : FVec F S_ .f32 := constant S_ .f32 0x7F800000#32
  let main_v9 : FVec F S256 .f32 := broadcastInDim S256 ![] bcast_S_S256 main_cst_2
  let main_v10 : IVec S256 1 := cmpf .olt main_v8 main_v9
  let main_c_3 : IVec S_ 1 := constantI S_ 1 1#1
  let main_v11 : IVec S_ 1 := (fun x v => Host.reduce IntOp.andi x v reducesTo_S256_S_d0 h_S_) main_v10 main_c_3
  let main_v12 : IVec S1 1 := broadcastInDim S1 ![] bcast_S_S1 main_v3
  let main_v13 : IVec S1 1 := broadcastInDim S1 ![] bcast_S_S1 main_v7
  let main_v14 : IVec S1 1 := broadcastInDim S1 ![] bcast_S_S1 main_v11
  let main_v15 : IVec S3 1 := concatenate S3 0 [⟨S1, main_v12⟩, ⟨S1, main_v13⟩, ⟨S1, main_v14⟩] concatenates_S1_S1_S1_S3_d0
  main_v15
-- ==== Kernel.lean ====
abbrev S8x8192x3 : Shape := ⟨3, ![8, 8192, 3]⟩
abbrev S8x8192x128 : Shape := ⟨3, ![8, 8192, 128]⟩
abbrev S128x131 : Shape := ⟨2, ![128, 131]⟩
abbrev S128 : Shape := ⟨1, ![128]⟩
abbrev S128x128 : Shape := ⟨2, ![128, 128]⟩
abbrev S256x128 : Shape := ⟨2, ![256, 128]⟩
abbrev S256 : Shape := ⟨1, ![256]⟩
abbrev S3x8x8192 : Shape := ⟨3, ![3, 8, 8192]⟩
abbrev S3x8x512 : Shape := ⟨3, ![3, 8, 512]⟩
abbrev S1x8x8192 : Shape := ⟨3, ![1, 8, 8192]⟩
abbrev S8x8192 : Shape := ⟨2, ![8, 8192]⟩
abbrev S8x512 : Shape := ⟨2, ![8, 512]⟩
abbrev S8x1 : Shape := ⟨2, ![8, 1]⟩
abbrev S8 : Shape := ⟨1, ![8]⟩
abbrev S1x8x512 : Shape := ⟨3, ![1, 8, 512]⟩
abbrev S8x512x3 : Shape := ⟨3, ![8, 512, 3]⟩
abbrev S_ : Shape := ⟨0, ![]⟩
abbrev S8x512x1 : Shape := ⟨3, ![8, 512, 1]⟩
abbrev S8x1x8192 : Shape := ⟨3, ![8, 1, 8192]⟩
abbrev S8x512x8192 : Shape := ⟨3, ![8, 512, 8192]⟩
abbrev S8x512x32 : Shape := ⟨3, ![8, 512, 32]⟩
abbrev S8x16384 : Shape := ⟨2, ![8, 16384]⟩
abbrev S8x16384x1 : Shape := ⟨3, ![8, 16384, 1]⟩
abbrev S8x16384x3 : Shape := ⟨3, ![8, 16384, 3]⟩
abbrev S8x16384x3x1 : Shape := ⟨4, ![8, 16384, 3, 1]⟩
abbrev S1 : Shape := ⟨1, ![1]⟩
abbrev S1x1x1x1 : Shape := ⟨4, ![1, 1, 1, 1]⟩
abbrev S8x512x32x3 : Shape := ⟨4, ![8, 512, 32, 3]⟩
abbrev S8x512x1x3 : Shape := ⟨4, ![8, 512, 1, 3]⟩
abbrev S8x16384x128 : Shape := ⟨3, ![8, 16384, 128]⟩
abbrev S8x16384x128x1 : Shape := ⟨4, ![8, 16384, 128, 1]⟩
abbrev S8x512x32x128 : Shape := ⟨4, ![8, 512, 32, 128]⟩
abbrev S8x512x32x125 : Shape := ⟨4, ![8, 512, 32, 125]⟩
abbrev S8x512x32x256 : Shape := ⟨4, ![8, 512, 32, 256]⟩
abbrev S131072x256 : Shape := ⟨2, ![131072, 256]⟩
abbrev S131x128 : Shape := ⟨2, ![131, 128]⟩
abbrev S128x256 : Shape := ⟨2, ![128, 256]⟩
abbrev S2x256 : Shape := ⟨2, ![2, 256]⟩
abbrev S1x128 : Shape := ⟨2, ![1, 128]⟩
abbrev S131072x128 : Shape := ⟨2, ![131072, 128]⟩
abbrev S256x1x128 : Shape := ⟨3, ![256, 1, 128]⟩
abbrev S512x256 : Shape := ⟨2, ![512, 256]⟩
abbrev S512x128 : Shape := ⟨2, ![512, 128]⟩
abbrev S1x1x128 : Shape := ⟨3, ![1, 1, 128]⟩
abbrev S2x128 : Shape := ⟨2, ![2, 128]⟩
abbrev S1x256 : Shape := ⟨2, ![1, 256]⟩
abbrev S256x1x256 : Shape := ⟨3, ![256, 1, 256]⟩
abbrev S1x1x256 : Shape := ⟨3, ![1, 1, 256]⟩
abbrev S256x256 : Shape := ⟨2, ![256, 256]⟩
abbrev S4096x256 : Shape := ⟨2, ![4096, 256]⟩
abbrev S16x256 : Shape := ⟨2, ![16, 256]⟩
abbrev S16x32x256 : Shape := ⟨3, ![16, 32, 256]⟩
abbrev S8x512x256 : Shape := ⟨3, ![8, 512, 256]⟩

abbrev nBuf : Space → Nat
  | .hbm => 210
  | .vmem => 40
  | .smem => 0
  | _ => 0

abbrev hbmTy0_0 (i : Nat) : BufTy := match i % 128 with
  | 0 => ⟨S8x8192x3, .f32⟩
  | 1 => ⟨S8x8192x128, .f32⟩
  | 2 => ⟨S128x131, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S256x128, .f32⟩
  | 11 => ⟨S256, .f32⟩
  | 12 => ⟨S256, .f32⟩
  | 13 => ⟨S256, .f32⟩
  | 14 => ⟨S3x8x8192, .f32⟩
  | 15 => ⟨S3x8x512, .f32⟩
  | 16 => ⟨S8x512x3, .f32⟩
  | 17 => ⟨S8x512x3, .f32⟩
  | 18 => ⟨S_, .f32⟩
  | 19 => ⟨S8x512, .f32⟩
  | 20 => ⟨S8x512x1, .f32⟩
  | 21 => ⟨S8x8192x3, .f32⟩
  | 22 => ⟨S_, .f32⟩
  | 23 => ⟨S8x8192, .f32⟩
  | 24 => ⟨S8x1x8192, .f32⟩
  | 25 => ⟨S8x512x8192, .f32⟩
  | 26 => ⟨S8x512x8192, .f32⟩
  | 27 => ⟨S8x512x8192, .f32⟩
  | 28 => ⟨S8x512x8192, .f32⟩
  | 29 => ⟨S_, .f32⟩
  | 30 => ⟨S8x512x8192, .f32⟩
  | 31 => ⟨S8x512x8192, .f32⟩
  | 32 => ⟨S8x512x8192, .f32⟩
  | 33 => ⟨S_, .f32⟩
  | 34 => ⟨S_, .f32⟩
  | 35 => ⟨S8x512x8192, .f32⟩
  | 36 => ⟨S8x512x8192, .f32⟩
  | 37 => ⟨S8x512x8192, .f32⟩
  | 38 => ⟨S_, .f32⟩
  | 39 => ⟨S8x512x8192, .f32⟩
  | 40 => ⟨S8x512x8192, .i1⟩
  | 41 => ⟨S_, .f32⟩
  | 42 => ⟨S_, .f32⟩
  | 43 => ⟨S8x512x8192, .f32⟩
  | 44 => ⟨S8x512x8192, .f32⟩
  | 45 => ⟨S8x512x8192, .f32⟩
  | 46 => ⟨S8x512x32, .f32⟩
  | 47 => ⟨S8x512x32, .i32⟩
  | 48 => ⟨S8x512x32, .f32⟩
  | 49 => ⟨S8x512x1, .i32⟩
  | 50 => ⟨S8x512x32, .i32⟩
  | 51 => ⟨S8x512x32, .f32⟩
  | 52 => ⟨S_, .f32⟩
  | 53 => ⟨S8x512x32, .f32⟩
  | 54 => ⟨S8x512x32, .i1⟩
  | 55 => ⟨S8x512x32, .i32⟩
  | 56 => ⟨S8x16384, .i32⟩
  | 57 => ⟨S8x16384x1, .i32⟩
  | 58 => ⟨S8x16384x3, .i32⟩
  | 59 => ⟨S_, .i32⟩
  | 60 => ⟨S8x16384x3, .i32⟩
  | 61 => ⟨S8x16384x3, .i1⟩
  | 62 => ⟨S_, .i32⟩
  | 63 => ⟨S8x16384x3, .i32⟩
  | 64 => ⟨S8x16384x3, .i32⟩
  | 65 => ⟨S8x16384x3, .i32⟩
  | 66 => ⟨S8x16384x3x1, .i32⟩
  | 67 => ⟨S1, .i32⟩
  | 68 => ⟨S_, .i32⟩
  | 69 => ⟨S8x16384x3x1, .i32⟩
  | 70 => ⟨S8x16384x3x1, .i1⟩
  | 71 => ⟨S1x1x1x1, .i32⟩
  | 72 => ⟨S8x16384x3x1, .i32⟩
  | 73 => ⟨S8x16384x3x1, .i1⟩
  | 74 => ⟨S8x16384x3x1, .i1⟩
  | 75 => ⟨S_, .i1⟩
  | 76 => ⟨S8x16384x3, .i1⟩
  | 77 => ⟨S8x16384x3, .f32⟩
  | 78 => ⟨S_, .f32⟩
  | 79 => ⟨S8x16384x3, .f32⟩
  | 80 => ⟨S8x16384x3, .f32⟩
  | 81 => ⟨S8x512x32x3, .f32⟩
  | 82 => ⟨S8x512x1x3, .f32⟩
  | 83 => ⟨S8x512x32x3, .f32⟩
  | 84 => ⟨S8x512x32x3, .f32⟩
  | 85 => ⟨S8x16384x1, .i32⟩
  | 86 => ⟨S8x16384x128, .i32⟩
  | 87 => ⟨S_, .i32⟩
  | 88 => ⟨S8x16384x128, .i32⟩
  | 89 => ⟨S8x16384x128, .i1⟩
  | 90 => ⟨S_, .i32⟩
  | 91 => ⟨S8x16384x128, .i32⟩
  | 92 => ⟨S8x16384x128, .i32⟩
  | 93 => ⟨S8x16384x128, .i32⟩
  | 94 => ⟨S8x16384x128x1, .i32⟩
  | 95 => ⟨S1, .i32⟩
  | 96 => ⟨S_, .i32⟩
  | 97 => ⟨S8x16384x128x1, .i32⟩
  | 98 => ⟨S8x16384x128x1, .i1⟩
  | 99 => ⟨S1x1x1x1, .i32⟩
  | 100 => ⟨S8x16384x128x1, .i32⟩
  | 101 => ⟨S8x16384x128x1, .i1⟩
  | 102 => ⟨S8x16384x128x1, .i1⟩
  | 103 => ⟨S_, .i1⟩
  | 104 => ⟨S8x16384x128, .i1⟩
  | 105 => ⟨S8x16384x128, .f32⟩
  | 106 => ⟨S_, .f32⟩
  | 107 => ⟨S8x16384x128, .f32⟩
  | 108 => ⟨S8x16384x128, .f32⟩
  | 109 => ⟨S8x512x32x128, .f32⟩
  | 110 => ⟨S_, .f32⟩
  | 111 => ⟨S8x512x32x125, .f32⟩
  | 112 => ⟨S8x512x32x256, .f32⟩
  | 113 => ⟨S131072x256, .f32⟩
  | 114 => ⟨S_, .f32⟩
  | 115 => ⟨S256x128, .f32⟩
  | 116 => ⟨S131x128, .f32⟩
  | 117 => ⟨S_, .i32⟩
  | 118 => ⟨S1, .i32⟩
  | 119 => ⟨S256x128, .f32⟩
  | 120 => ⟨S128x128, .f32⟩
  | 121 => ⟨S128x256, .f32⟩
  | 122 => ⟨S_, .f32⟩
  | 123 => ⟨S2x256, .f32⟩
  | 124 => ⟨S1x128, .f32⟩
  | 125 => ⟨S131072x128, .f32⟩
  | 126 => ⟨S256x1x128, .f32⟩
  | 127 => ⟨S256x1x128, .f32⟩
  | _ => ⟨S8x8192x3, .f32⟩

abbrev hbmTy0_1 (i : Nat) : BufTy := match i % 128 with
  | 0 => ⟨S256x128, .f32⟩
  | 1 => ⟨S256x128, .f32⟩
  | 2 => ⟨S_, .f32⟩
  | 3 => ⟨S128, .f32⟩
  | 4 => ⟨S_, .f32⟩
  | 5 => ⟨S128, .f32⟩
  | 6 => ⟨S128, .f32⟩
  | 7 => ⟨S_, .f32⟩
  | 8 => ⟨S128, .f32⟩
  | 9 => ⟨S_, .f32⟩
  | 10 => ⟨S128, .f32⟩
  | 11 => ⟨S128, .f32⟩
  | 12 => ⟨S128, .f32⟩
  | 13 => ⟨S128, .f32⟩
  | 14 => ⟨S_, .f32⟩
  | 15 => ⟨S128, .f32⟩
  | 16 => ⟨S128, .f32⟩
  | 17 => ⟨S128, .f32⟩
  | 18 => ⟨S128, .f32⟩
  | 19 => ⟨S128, .f32⟩
  | 20 => ⟨S128, .f32⟩
  | 21 => ⟨S1x128, .f32⟩
  | 22 => ⟨S1x128, .f32⟩
  | 23 => ⟨S2x128, .f32⟩
  | 24 => ⟨S1x128, .f32⟩
  | 25 => ⟨S131072x128, .f32⟩
  | 26 => ⟨S256x1x128, .f32⟩
  | 27 => ⟨S256x1x128, .f32⟩
  | 28 => ⟨S256x128, .f32⟩
  | 29 => ⟨S256x128, .f32⟩
  | 30 => ⟨S_, .f32⟩
  | 31 => ⟨S128, .f32⟩
  | 32 => ⟨S_, .f32⟩
  | 33 => ⟨S128, .f32⟩
  | 34 => ⟨S128, .f32⟩
  | 35 => ⟨S_, .f32⟩
  | 36 => ⟨S128, .f32⟩
  | 37 => ⟨S_, .f32⟩
  | 38 => ⟨S128, .f32⟩
  | 39 => ⟨S128, .f32⟩
  | 40 => ⟨S128, .f32⟩
  | 41 => ⟨S128, .f32⟩
  | 42 => ⟨S_, .f32⟩
  | 43 => ⟨S128, .f32⟩
  | 44 => ⟨S128, .f32⟩
  | 45 => ⟨S128, .f32⟩
  | 46 => ⟨S128, .f32⟩
  | 47 => ⟨S128, .f32⟩
  | 48 => ⟨S128, .f32⟩
  | 49 => ⟨S1x128, .f32⟩
  | 50 => ⟨S1x128, .f32⟩
  | 51 => ⟨S2x128, .f32⟩
  | 52 => ⟨S1x256, .f32⟩
  | 53 => ⟨S131072x256, .f32⟩
  | 54 => ⟨S256x1x256, .f32⟩
  | 55 => ⟨S256x1x256, .f32⟩
  | 56 => ⟨S256x256, .f32⟩
  | 57 => ⟨S256x256, .f32⟩
  | 58 => ⟨S_, .f32⟩
  | 59 => ⟨S256, .f32⟩
  | 60 => ⟨S_, .f32⟩
  | 61 => ⟨S256, .f32⟩
  | 62 => ⟨S256, .f32⟩
  | 63 => ⟨S_, .f32⟩
  | 64 => ⟨S256, .f32⟩
  | 65 => ⟨S_, .f32⟩
  | 66 => ⟨S256, .f32⟩
  | 67 => ⟨S256, .f32⟩
  | 68 => ⟨S256, .f32⟩
  | 69 => ⟨S256, .f32⟩
  | 70 => ⟨S_, .f32⟩
  | 71 => ⟨S256, .f32⟩
  | 72 => ⟨S256, .f32⟩
  | 73 => ⟨S256, .f32⟩
  | 74 => ⟨S256, .f32⟩
  | 75 => ⟨S256, .f32⟩
  | 76 => ⟨S256, .f32⟩
  | 77 => ⟨S1x256, .f32⟩
  | 78 => ⟨S1x256, .f32⟩
  | 79 => ⟨S2x256, .f32⟩
  | 80 => ⟨S4096x256, .f32⟩
  | 81 => ⟨S8x512x256, .f32⟩
  | _ => ⟨S8x8192x3, .f32⟩

abbrev hbmTy (i : Nat) : BufTy := match i / 128 with
  | 0 => hbmTy0_0 i
  | 1 => hbmTy0_1 i
  | _ => ⟨S8x8192x3, .f32⟩

abbrev bufTy : (tb : Table) → Fin (tcTables nBuf tb) → BufTy
  | .hbm, ⟨i, _⟩ => hbmTy i
  | .local _ .vmem, ⟨0, _⟩ => ⟨S3x8x8192, .f32⟩
  | .local _ .vmem, ⟨1, _⟩ => ⟨S3x8x512, .f32⟩
  | .local _ .vmem, ⟨2, _⟩ => ⟨S512x256, .f32⟩
  | .local _ .vmem, ⟨3, _⟩ => ⟨S512x256, .f32⟩
  | .local _ .vmem, ⟨4, _⟩ => ⟨S256x128, .f32⟩
  | .local _ .vmem, ⟨5, _⟩ => ⟨S1x128, .f32⟩
  | .local _ .vmem, ⟨6, _⟩ => ⟨S2x256, .f32⟩
  | .local _ .vmem, ⟨7, _⟩ => ⟨S512x128, .f32⟩
  | .local _ .vmem, ⟨8, _⟩ => ⟨S512x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S512x128, .f32⟩
  | .local _ .vmem, ⟨14, _⟩ => ⟨S512x128, .f32⟩
  | .local _ .vmem, ⟨15, _⟩ => ⟨S128x128, .f32⟩
  | .local _ .vmem, ⟨16, _⟩ => ⟨S1x128, .f32⟩
  | .local _ .vmem, ⟨17, _⟩ => ⟨S2x128, .f32⟩
  | .local _ .vmem, ⟨18, _⟩ => ⟨S512x128, .f32⟩
  | .local _ .vmem, ⟨19, _⟩ => ⟨S512x128, .f32⟩
  | .local _ .vmem, ⟨20, _⟩ => ⟨S1x1x128, .f32⟩
  | .local _ .vmem, ⟨21, _⟩ => ⟨S1x1x128, .f32⟩
  | .local _ .vmem, ⟨22, _⟩ => ⟨S1x1x128, .f32⟩
  | .local _ .vmem, ⟨23, _⟩ => ⟨S1x1x128, .f32⟩
  | .local _ .vmem, ⟨24, _⟩ => ⟨S512x128, .f32⟩
  | .local _ .vmem, ⟨25, _⟩ => ⟨S512x128, .f32⟩
  | .local _ .vmem, ⟨26, _⟩ => ⟨S128x256, .f32⟩
  | .local _ .vmem, ⟨27, _⟩ => ⟨S1x256, .f32⟩
  | .local _ .vmem, ⟨28, _⟩ => ⟨S2x128, .f32⟩
  | .local _ .vmem, ⟨29, _⟩ => ⟨S512x256, .f32⟩
  | .local _ .vmem, ⟨30, _⟩ => ⟨S512x256, .f32⟩
  | .local _ .vmem, ⟨31, _⟩ => ⟨S1x1x256, .f32⟩
  | .local _ .vmem, ⟨32, _⟩ => ⟨S1x1x256, .f32⟩
  | .local _ .vmem, ⟨33, _⟩ => ⟨S1x1x256, .f32⟩
  | .local _ .vmem, ⟨34, _⟩ => ⟨S1x1x256, .f32⟩
  | .local _ .vmem, ⟨35, _⟩ => ⟨S512x256, .f32⟩
  | .local _ .vmem, ⟨36, _⟩ => ⟨S512x256, .f32⟩
  | .local _ .vmem, ⟨37, _⟩ => ⟨S2x256, .f32⟩
  | .local _ .vmem, ⟨38, _⟩ => ⟨S16x256, .f32⟩
  | .local _ .vmem, ⟨39, _⟩ => ⟨S16x256, .f32⟩
  | _, _ => ⟨S8x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_cst_4 : Ref sig .tc := ⟨.hbm, 41, rfl⟩
abbrev main_call1_v0 : Ref sig .tc := ⟨.hbm, 42, rfl⟩
abbrev main_call1_v1 : Ref sig .tc := ⟨.hbm, 43, rfl⟩
abbrev main_v20 : Ref sig .tc := ⟨.hbm, 44, rfl⟩
abbrev main_v21 : Ref sig .tc := ⟨.hbm, 45, rfl⟩
abbrev main_values : Ref sig .tc := ⟨.hbm, 46, rfl⟩
abbrev main_indices : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_call2_v0 : Ref sig .tc := ⟨.hbm, 51, rfl⟩
abbrev main_call2_cst : Ref sig .tc := ⟨.hbm, 52, rfl⟩
abbrev main_call2_v1 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_call4_c : Ref sig .tc := ⟨.hbm, 59, rfl⟩
abbrev main_call4_v0 : Ref sig .tc := ⟨.hbm, 60, rfl⟩
abbrev main_call4_v1 : Ref sig .tc := ⟨.hbm, 61, rfl⟩
abbrev main_call4_c_0 : Ref sig .tc := ⟨.hbm, 62, rfl⟩
abbrev main_call4_v2 : Ref sig .tc := ⟨.hbm, 63, rfl⟩
abbrev main_call4_v3 : Ref sig .tc := ⟨.hbm, 64, rfl⟩
abbrev main_call4_v4 : Ref sig .tc := ⟨.hbm, 65, rfl⟩
abbrev main_call4_v5 : Ref sig .tc := ⟨.hbm, 66, rfl⟩
abbrev main_call4_c_1 : Ref sig .tc := ⟨.hbm, 67, rfl⟩
abbrev main_call4_c_2 : Ref sig .tc := ⟨.hbm, 68, rfl⟩
abbrev main_call4_v6 : Ref sig .tc := ⟨.hbm, 69, rfl⟩
abbrev main_call4_v7 : Ref sig .tc := ⟨.hbm, 70, rfl⟩
abbrev main_call4_v8 : Ref sig .tc := ⟨.hbm, 71, rfl⟩
abbrev main_call4_v9 : Ref sig .tc := ⟨.hbm, 72, rfl⟩
abbrev main_call4_v10 : Ref sig .tc := ⟨.hbm, 73, rfl⟩
abbrev main_call4_v11 : Ref sig .tc := ⟨.hbm, 74, rfl⟩
abbrev main_call4_c_3 : Ref sig .tc := ⟨.hbm, 75, rfl⟩
abbrev main_call4_v12 : Ref sig .tc := ⟨.hbm, 76, rfl⟩
abbrev main_call4_v13 : Ref sig .tc := ⟨.hbm, 77, rfl⟩
abbrev main_call4_cst : Ref sig .tc := ⟨.hbm, 78, rfl⟩
abbrev main_call4_v14 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_call5_c : Ref sig .tc := ⟨.hbm, 87, rfl⟩
abbrev main_call5_v0 : Ref sig .tc := ⟨.hbm, 88, rfl⟩
abbrev main_call5_v1 : Ref sig .tc := ⟨.hbm, 89, rfl⟩
abbrev main_call5_c_0 : Ref sig .tc := ⟨.hbm, 90, rfl⟩
abbrev main_call5_v2 : Ref sig .tc := ⟨.hbm, 91, rfl⟩
abbrev main_call5_v3 : Ref sig .tc := ⟨.hbm, 92, rfl⟩
abbrev main_call5_v4 : Ref sig .tc := ⟨.hbm, 93, rfl⟩
abbrev main_call5_v5 : Ref sig .tc := ⟨.hbm, 94, rfl⟩
abbrev main_call5_c_1 : Ref sig .tc := ⟨.hbm, 95, rfl⟩
abbrev main_call5_c_2 : Ref sig .tc := ⟨.hbm, 96, rfl⟩
abbrev main_call5_v6 : Ref sig .tc := ⟨.hbm, 97, rfl⟩
abbrev main_call5_v7 : Ref sig .tc := ⟨.hbm, 98, rfl⟩
abbrev main_call5_v8 : Ref sig .tc := ⟨.hbm, 99, rfl⟩
abbrev main_call5_v9 : Ref sig .tc := ⟨.hbm, 100, rfl⟩
abbrev main_call5_v10 : Ref sig .tc := ⟨.hbm, 101, rfl⟩
abbrev main_call5_v11 : Ref sig .tc := ⟨.hbm, 102, rfl⟩
abbrev main_call5_c_3 : Ref sig .tc := ⟨.hbm, 103, rfl⟩
abbrev main_call5_v12 : Ref sig .tc := ⟨.hbm, 104, rfl⟩
abbrev main_call5_v13 : Ref sig .tc := ⟨.hbm, 105, rfl⟩
abbrev main_call5_cst : Ref sig .tc := ⟨.hbm, 106, rfl⟩
abbrev main_call5_v14 : Ref sig .tc := ⟨.hbm, 107, rfl⟩
abbrev main_v37 : Ref sig .tc := ⟨.hbm, 108, rfl⟩
abbrev main_v38 : Ref sig .tc := ⟨.hbm, 109, rfl⟩
abbrev main_cst_5 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_cst_6 : Ref sig .tc := ⟨.hbm, 114, rfl⟩
abbrev main_v42 : Ref sig .tc := ⟨.hbm, 115, rfl⟩
abbrev main_v43 : Ref sig .tc := ⟨.hbm, 116, rfl⟩
abbrev main_c : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_cst_7 : Ref sig .tc := ⟨.hbm, 122, rfl⟩
abbrev main_v48 : Ref sig .tc := ⟨.hbm, 123, rfl⟩
abbrev main_v49 : Ref sig .tc := ⟨.hbm, 124, rfl⟩
abbrev main_v50_0 : Ref sig .tc := ⟨.hbm, 125, rfl⟩
abbrev main_v50_1 : Ref sig .tc := ⟨.hbm, 126, rfl⟩
abbrev main_v50_2 : Ref sig .tc := ⟨.hbm, 127, rfl⟩
abbrev main_v51 : Ref sig .tc := ⟨.hbm, 128, rfl⟩
abbrev main_v52 : Ref sig .tc := ⟨.hbm, 129, rfl⟩
abbrev main_cst_8 : Ref sig .tc := ⟨.hbm, 130, rfl⟩
abbrev main_v53 : Ref sig .tc := ⟨.hbm, 131, rfl⟩
abbrev main_cst_9 : Ref sig .tc := ⟨.hbm, 132, rfl⟩
abbrev main_v54 : Ref sig .tc := ⟨.hbm, 133, rfl⟩
abbrev main_v55 : Ref sig .tc := ⟨.hbm, 134, rfl⟩
abbrev main_cst_10 : Ref sig .tc := ⟨.hbm, 135, rfl⟩
abbrev main_v56 : Ref sig .tc := ⟨.hbm, 136, rfl⟩
abbrev main_cst_11 : Ref sig .tc := ⟨.hbm, 137, rfl⟩
abbrev main_v57 : Ref sig .tc := ⟨.hbm, 138, rfl⟩
abbrev main_v58 : Ref sig .tc := ⟨.hbm, 139, rfl⟩
abbrev main_v59 : Ref sig .tc := ⟨.hbm, 140, rfl⟩
abbrev main_v60 : Ref sig .tc := ⟨.hbm, 141, rfl⟩
abbrev main_cst_12 : Ref sig .tc := ⟨.hbm, 142, rfl⟩
abbrev main_v61 : Ref sig .tc := ⟨.hbm, 143, rfl⟩
abbrev main_v62 : Ref sig .tc := ⟨.hbm, 144, rfl⟩
abbrev main_v63 : Ref sig .tc := ⟨.hbm, 145, rfl⟩
abbrev main_v64 : Ref sig .tc := ⟨.hbm, 146, rfl⟩
abbrev main_v65 : Ref sig .tc := ⟨.hbm, 147, rfl⟩
abbrev main_v66 : Ref sig .tc := ⟨.hbm, 148, rfl⟩
abbrev main_v67 : Ref sig .tc := ⟨.hbm, 149, rfl⟩
abbrev main_v68 : Ref sig .tc := ⟨.hbm, 150, rfl⟩
abbrev main_v69 : Ref sig .tc := ⟨.hbm, 151, rfl⟩
abbrev main_v70 : Ref sig .tc := ⟨.hbm, 152, rfl⟩
abbrev main_v71_0 : Ref sig .tc := ⟨.hbm, 153, rfl⟩
abbrev main_v71_1 : Ref sig .tc := ⟨.hbm, 154, rfl⟩
abbrev main_v71_2 : Ref sig .tc := ⟨.hbm, 155, rfl⟩
abbrev main_v72 : Ref sig .tc := ⟨.hbm, 156, rfl⟩
abbrev main_v73 : Ref sig .tc := ⟨.hbm, 157, rfl⟩
abbrev main_cst_13 : Ref sig .tc := ⟨.hbm, 158, rfl⟩
abbrev main_v74 : Ref sig .tc := ⟨.hbm, 159, rfl⟩
abbrev main_cst_14 : Ref sig .tc := ⟨.hbm, 160, rfl⟩
abbrev main_v75 : Ref sig .tc := ⟨.hbm, 161, rfl⟩
abbrev main_v76 : Ref sig .tc := ⟨.hbm, 162, rfl⟩
abbrev main_cst_15 : Ref sig .tc := ⟨.hbm, 163, rfl⟩
abbrev main_v77 : Ref sig .tc := ⟨.hbm, 164, rfl⟩
abbrev main_cst_16 : Ref sig .tc := ⟨.hbm, 165, rfl⟩
abbrev main_v78 : Ref sig .tc := ⟨.hbm, 166, rfl⟩
abbrev main_v79 : Ref sig .tc := ⟨.hbm, 167, rfl⟩
abbrev main_v80 : Ref sig .tc := ⟨.hbm, 168, rfl⟩
abbrev main_v81 : Ref sig .tc := ⟨.hbm, 169, rfl⟩
abbrev main_cst_17 : Ref sig .tc := ⟨.hbm, 170, rfl⟩
abbrev main_v82 : Ref sig .tc := ⟨.hbm, 171, rfl⟩
abbrev main_v83 : Ref sig .tc := ⟨.hbm, 172, rfl⟩
abbrev main_v84 : Ref sig .tc := ⟨.hbm, 173, rfl⟩
abbrev main_v85 : Ref sig .tc := ⟨.hbm, 174, rfl⟩
abbrev main_v86 : Ref sig .tc := ⟨.hbm, 175, rfl⟩
abbrev main_v87 : Ref sig .tc := ⟨.hbm, 176, rfl⟩
abbrev main_v88 : Ref sig .tc := ⟨.hbm, 177, rfl⟩
abbrev main_v89 : Ref sig .tc := ⟨.hbm, 178, rfl⟩
abbrev main_v90 : Ref sig .tc := ⟨.hbm, 179, rfl⟩
abbrev main_v91 : Ref sig .tc := ⟨.hbm, 180, rfl⟩
abbrev main_v92_0 : Ref sig .tc := ⟨.hbm, 181, rfl⟩
abbrev main_v92_1 : Ref sig .tc := ⟨.hbm, 182, rfl⟩
abbrev main_v92_2 : Ref sig .tc := ⟨.hbm, 183, rfl⟩
abbrev main_v93 : Ref sig .tc := ⟨.hbm, 184, rfl⟩
abbrev main_v94 : Ref sig .tc := ⟨.hbm, 185, rfl⟩
abbrev main_cst_18 : Ref sig .tc := ⟨.hbm, 186, rfl⟩
abbrev main_v95 : Ref sig .tc := ⟨.hbm, 187, rfl⟩
abbrev main_cst_19 : Ref sig .tc := ⟨.hbm, 188, rfl⟩
abbrev main_v96 : Ref sig .tc := ⟨.hbm, 189, rfl⟩
abbrev main_v97 : Ref sig .tc := ⟨.hbm, 190, rfl⟩
abbrev main_cst_20 : Ref sig .tc := ⟨.hbm, 191, rfl⟩
abbrev main_v98 : Ref sig .tc := ⟨.hbm, 192, rfl⟩
abbrev main_cst_21 : Ref sig .tc := ⟨.hbm, 193, rfl⟩
abbrev main_v99 : Ref sig .tc := ⟨.hbm, 194, rfl⟩
abbrev main_v100 : Ref sig .tc := ⟨.hbm, 195, rfl⟩
abbrev main_v101 : Ref sig .tc := ⟨.hbm, 196, rfl⟩
abbrev main_v102 : Ref sig .tc := ⟨.hbm, 197, rfl⟩
abbrev main_cst_22 : Ref sig .tc := ⟨.hbm, 198, rfl⟩
abbrev main_v103 : Ref sig .tc := ⟨.hbm, 199, rfl⟩
abbrev main_v104 : Ref sig .tc := ⟨.hbm, 200, rfl⟩
abbrev main_v105 : Ref sig .tc := ⟨.hbm, 201, rfl⟩
abbrev main_v106 : Ref sig .tc := ⟨.hbm, 202, rfl⟩
abbrev main_v107 : Ref sig .tc := ⟨.hbm, 203, rfl⟩
abbrev main_v108 : Ref sig .tc := ⟨.hbm, 204, rfl⟩
abbrev main_v109 : Ref sig .tc := ⟨.hbm, 205, rfl⟩
abbrev main_v110 : Ref sig .tc := ⟨.hbm, 206, rfl⟩
abbrev main_v111 : Ref sig .tc := ⟨.hbm, 207, rfl⟩
abbrev main_v112 : Ref sig .tc := ⟨.hbm, 208, rfl⟩
abbrev main_v113 : Ref sig .tc := ⟨.hbm, 209, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg4_1 : Ref sig .tc := ⟨.vmem, 8, rfl⟩
abbrev cc1_stg5_0 : Ref sig .tc := ⟨.vmem, 9, rfl⟩
abbrev cc1_stg5_1 : Ref sig .tc := ⟨.vmem, 10, rfl⟩
abbrev cc1_stg6_0 : Ref sig .tc := ⟨.vmem, 11, rfl⟩
abbrev cc1_stg6_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc2_stg6_0 : Ref sig .tc := ⟨.vmem, 22, rfl⟩
abbrev cc2_stg6_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg4_1 : Ref sig .tc := ⟨.vmem, 30, rfl⟩
abbrev cc3_stg5_0 : Ref sig .tc := ⟨.vmem, 31, rfl⟩
abbrev cc3_stg5_1 : Ref sig .tc := ⟨.vmem, 32, rfl⟩
abbrev cc3_stg6_0 : Ref sig .tc := ⟨.vmem, 33, rfl⟩
abbrev cc3_stg6_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg2_1 : Ref sig .tc := ⟨.vmem, 39, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem4_1 : DmaSem sig := 8
abbrev cc1_sem5_0 : DmaSem sig := 9
abbrev cc1_sem5_1 : DmaSem sig := 10
abbrev cc1_sem6_0 : DmaSem sig := 11
abbrev cc1_sem6_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem4_1 : DmaSem sig := 19
abbrev cc2_sem5_0 : DmaSem sig := 20
abbrev cc2_sem5_1 : DmaSem sig := 21
abbrev cc2_sem6_0 : DmaSem sig := 22
abbrev cc2_sem6_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem4_1 : DmaSem sig := 30
abbrev cc3_sem5_0 : DmaSem sig := 31
abbrev cc3_sem5_1 : DmaSem sig := 32
abbrev cc3_sem6_0 : DmaSem sig := 33
abbrev cc3_sem6_1 : DmaSem sig := 34
abbrev cc4_sem0_0 : DmaSem sig := 35
abbrev cc4_sem0_1 : DmaSem sig := 36
abbrev cc4_sem1_0 : DmaSem sig := 37
abbrev cc4_sem2_0 : DmaSem sig := 38
abbrev cc4_sem2_1 : DmaSem sig := 39

abbrev nD : Nat := 1
abbrev τ : Topo := Topo.v7x

variable {F : FTy → Type} [FloatOps F]

abbrev grid0 : Pipeline.Grid := .none

@[reducible] def k0_t1_loop : Scf.Loop 32 :=
  let c0_i32_7 : BitVec 32 := 0#32
  let c512_i32 : BitVec 32 := 512#32
  let v11 : BitVec 32 := Scalar.addi c0_i32_7 c512_i32
  let c1_i32 : BitVec 32 := 1#32
  ⟨c0_i32_7, v11, c1_i32⟩
abbrev stage0_0 : Fin 1 → Memref sig .tc .vmem S3x8x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![256], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![256], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S512x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x1x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x1x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![256], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S512x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S2x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S512x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x1x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x1x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![256], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S16x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]
-- ==== ReferenceIdeal.lean ====
abbrev S8x8192x3 : Shape := ⟨3, ![8, 8192, 3]⟩
abbrev S8x8192x128 : Shape := ⟨3, ![8, 8192, 128]⟩
abbrev S128x131 : Shape := ⟨2, ![128, 131]⟩
abbrev S128 : Shape := ⟨1, ![128]⟩
abbrev S128x128 : Shape := ⟨2, ![128, 128]⟩
abbrev S256x128 : Shape := ⟨2, ![256, 128]⟩
abbrev S256 : Shape := ⟨1, ![256]⟩
abbrev S_ : Shape := ⟨0, ![]⟩
abbrev S8x512 : Shape := ⟨2, ![8, 512]⟩
abbrev S8x8192 : Shape := ⟨2, ![8, 8192]⟩
abbrev S8 : Shape := ⟨1, ![8]⟩
abbrev S1 : Shape := ⟨1, ![1]⟩
abbrev S8x1x1 : Shape := ⟨3, ![8, 1, 1]⟩
abbrev S8x1x3 : Shape := ⟨3, ![8, 1, 3]⟩
abbrev S8x1x3x1 : Shape := ⟨4, ![8, 1, 3, 1]⟩
abbrev S1x1x1x1 : Shape := ⟨4, ![1, 1, 1, 1]⟩
abbrev S8x512x1 : Shape := ⟨3, ![8, 512, 1]⟩
abbrev S8x512x3 : Shape := ⟨3, ![8, 512, 3]⟩
abbrev S8x512x3x1 : Shape := ⟨4, ![8, 512, 3, 1]⟩
abbrev S8x1x8192 : Shape := ⟨3, ![8, 1, 8192]⟩
abbrev S8x512x8192 : Shape := ⟨3, ![8, 512, 8192]⟩
abbrev S8x512x32 : Shape := ⟨3, ![8, 512, 32]⟩
abbrev S8x16384 : Shape := ⟨2, ![8, 16384]⟩
abbrev S8x16384x1 : Shape := ⟨3, ![8, 16384, 1]⟩
abbrev S8x16384x3 : Shape := ⟨3, ![8, 16384, 3]⟩
abbrev S8x16384x3x1 : Shape := ⟨4, ![8, 16384, 3, 1]⟩
abbrev S8x512x32x3 : Shape := ⟨4, ![8, 512, 32, 3]⟩
abbrev S8x512x1x3 : Shape := ⟨4, ![8, 512, 1, 3]⟩
abbrev S8x16384x128 : Shape := ⟨3, ![8, 16384, 128]⟩
abbrev S8x16384x128x1 : Shape := ⟨4, ![8, 16384, 128, 1]⟩
abbrev S8x512x32x128 : Shape := ⟨4, ![8, 512, 32, 128]⟩
abbrev S8x512x32x131 : Shape := ⟨4, ![8, 512, 32, 131]⟩
abbrev S4096x32x131 : Shape := ⟨3, ![4096, 32, 131]⟩
abbrev S131x128 : Shape := ⟨2, ![131, 128]⟩
abbrev S4096x32x128 : Shape := ⟨3, ![4096, 32, 128]⟩
abbrev S1x1x128 : Shape := ⟨3, ![1, 1, 128]⟩
abbrev S128x256 : Shape := ⟨2, ![128, 256]⟩
abbrev S4096x32x256 : Shape := ⟨3, ![4096, 32, 256]⟩
abbrev S1x1x256 : Shape := ⟨3, ![1, 1, 256]⟩
abbrev S4096x256 : Shape := ⟨2, ![4096, 256]⟩
abbrev S8x512x256 : Shape := ⟨3, ![8, 512, 256]⟩

abbrev nBuf : Space → Nat
  | .hbm => 373
  | .vmem => 0
  | .smem => 0
  | _ => 0

abbrev hbmTy0_0 (i : Nat) : BufTy := match i % 128 with
  | 0 => ⟨S8x8192x3, .f32⟩
  | 1 => ⟨S8x8192x128, .f32⟩
  | 2 => ⟨S128x131, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S256x128, .f32⟩
  | 11 => ⟨S256, .f32⟩
  | 12 => ⟨S256, .f32⟩
  | 13 => ⟨S256, .f32⟩
  | 14 => ⟨S_, .i32⟩
  | 15 => ⟨S8x512, .i32⟩
  | 16 => ⟨S_, .f32⟩
  | 17 => ⟨S8x8192, .f32⟩
  | 18 => ⟨S_, .i32⟩
  | 19 => ⟨S8, .i32⟩
  | 20 => ⟨S_, .i32⟩
  | 21 => ⟨S_, .i32⟩
  | 22 => ⟨S8x8192x3, .f32⟩
  | 23 => ⟨S_, .i32⟩
  | 24 => ⟨S_, .i32⟩
  | 25 => ⟨S8x512, .i32⟩
  | 26 => ⟨S8x8192, .f32⟩
  | 27 => ⟨S8, .i32⟩
  | 28 => ⟨S_, .i32⟩
  | 29 => ⟨S_, .i1⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S1, .i32⟩
  | 39 => ⟨S8x512, .i32⟩
  | 40 => ⟨S8x1x1, .i32⟩
  | 41 => ⟨S8x1x3, .i32⟩
  | 42 => ⟨S_, .i32⟩
  | 43 => ⟨S8x1x3, .i32⟩
  | 44 => ⟨S8x1x3, .i1⟩
  | 45 => ⟨S_, .i32⟩
  | 46 => ⟨S8x1x3, .i32⟩
  | 47 => ⟨S8x1x3, .i32⟩
  | 48 => ⟨S8x1x3, .i32⟩
  | 49 => ⟨S8x1x3x1, .i32⟩
  | 50 => ⟨S1, .i32⟩
  | 51 => ⟨S_, .i32⟩
  | 52 => ⟨S8x1x3x1, .i32⟩
  | 53 => ⟨S8x1x3x1, .i1⟩
  | 54 => ⟨S1x1x1x1, .i32⟩
  | 55 => ⟨S8x1x3x1, .i32⟩
  | 56 => ⟨S8x1x3x1, .i1⟩
  | 57 => ⟨S8x1x3x1, .i1⟩
  | 58 => ⟨S_, .i1⟩
  | 59 => ⟨S8x1x3, .i1⟩
  | 60 => ⟨S8x1x3, .f32⟩
  | 61 => ⟨S_, .f32⟩
  | 62 => ⟨S8x1x3, .f32⟩
  | 63 => ⟨S8x1x3, .f32⟩
  | 64 => ⟨S8x8192x3, .f32⟩
  | 65 => ⟨S8x8192x3, .f32⟩
  | 66 => ⟨S8x8192x3, .f32⟩
  | 67 => ⟨S_, .f32⟩
  | 68 => ⟨S8x8192, .f32⟩
  | 69 => ⟨S8x8192, .f32⟩
  | 70 => ⟨S8x8192, .i32⟩
  | 71 => ⟨S_, .f32⟩
  | 72 => ⟨S_, .i32⟩
  | 73 => ⟨S8, .f32⟩
  | 74 => ⟨S8, .i32⟩
  | 75 => ⟨S_, .i32⟩
  | 76 => ⟨S_, .i32⟩
  | 77 => ⟨S8x512x1, .i32⟩
  | 78 => ⟨S8x512x3, .i32⟩
  | 79 => ⟨S_, .i32⟩
  | 80 => ⟨S8x512x3, .i32⟩
  | 81 => ⟨S8x512x3, .i1⟩
  | 82 => ⟨S_, .i32⟩
  | 83 => ⟨S8x512x3, .i32⟩
  | 84 => ⟨S8x512x3, .i32⟩
  | 85 => ⟨S8x512x3, .i32⟩
  | 86 => ⟨S8x512x3x1, .i32⟩
  | 87 => ⟨S1, .i32⟩
  | 88 => ⟨S_, .i32⟩
  | 89 => ⟨S8x512x3x1, .i32⟩
  | 90 => ⟨S8x512x3x1, .i1⟩
  | 91 => ⟨S1x1x1x1, .i32⟩
  | 92 => ⟨S8x512x3x1, .i32⟩
  | 93 => ⟨S8x512x3x1, .i1⟩
  | 94 => ⟨S8x512x3x1, .i1⟩
  | 95 => ⟨S_, .i1⟩
  | 96 => ⟨S8x512x3, .i1⟩
  | 97 => ⟨S8x512x3, .f32⟩
  | 98 => ⟨S_, .f32⟩
  | 99 => ⟨S8x512x3, .f32⟩
  | 100 => ⟨S8x512x3, .f32⟩
  | 101 => ⟨S8x512x3, .f32⟩
  | 102 => ⟨S_, .f32⟩
  | 103 => ⟨S8x512, .f32⟩
  | 104 => ⟨S8x512x1, .f32⟩
  | 105 => ⟨S8x8192x3, .f32⟩
  | 106 => ⟨S_, .f32⟩
  | 107 => ⟨S8x8192, .f32⟩
  | 108 => ⟨S8x1x8192, .f32⟩
  | 109 => ⟨S8x512x8192, .f32⟩
  | 110 => ⟨S8x512x8192, .f32⟩
  | 111 => ⟨S8x512x8192, .f32⟩
  | 112 => ⟨S8x512x8192, .f32⟩
  | 113 => ⟨S_, .f32⟩
  | 114 => ⟨S8x512x8192, .f32⟩
  | 115 => ⟨S8x512x8192, .f32⟩
  | 116 => ⟨S8x512x8192, .f32⟩
  | 117 => ⟨S_, .f32⟩
  | 118 => ⟨S_, .f32⟩
  | 119 => ⟨S8x512x8192, .f32⟩
  | 120 => ⟨S8x512x8192, .f32⟩
  | 121 => ⟨S8x512x8192, .f32⟩
  | 122 => ⟨S_, .f32⟩
  | 123 => ⟨S8x512x8192, .f32⟩
  | 124 => ⟨S8x512x8192, .i1⟩
  | 125 => ⟨S_, .f32⟩
  | 126 => ⟨S_, .f32⟩
  | 127 => ⟨S8x512x8192, .f32⟩
  | _ => ⟨S8x8192x3, .f32⟩

abbrev hbmTy0_1 (i : Nat) : BufTy := match i % 128 with
  | 0 => ⟨S8x512x8192, .f32⟩
  | 1 => ⟨S8x512x8192, .f32⟩
  | 2 => ⟨S8x512x32, .f32⟩
  | 3 => ⟨S8x512x32, .i32⟩
  | 4 => ⟨S8x512x32, .f32⟩
  | 5 => ⟨S8x512x1, .i32⟩
  | 6 => ⟨S8x512x32, .i32⟩
  | 7 => ⟨S8x512x32, .f32⟩
  | 8 => ⟨S_, .f32⟩
  | 9 => ⟨S8x512x32, .f32⟩
  | 10 => ⟨S8x512x32, .i1⟩
  | 11 => ⟨S8x512x32, .i32⟩
  | 12 => ⟨S8x16384, .i32⟩
  | 13 => ⟨S8x16384x1, .i32⟩
  | 14 => ⟨S8x16384x3, .i32⟩
  | 15 => ⟨S_, .i32⟩
  | 16 => ⟨S8x16384x3, .i32⟩
  | 17 => ⟨S8x16384x3, .i1⟩
  | 18 => ⟨S_, .i32⟩
  | 19 => ⟨S8x16384x3, .i32⟩
  | 20 => ⟨S8x16384x3, .i32⟩
  | 21 => ⟨S8x16384x3, .i32⟩
  | 22 => ⟨S8x16384x3x1, .i32⟩
  | 23 => ⟨S1, .i32⟩
  | 24 => ⟨S_, .i32⟩
  | 25 => ⟨S8x16384x3x1, .i32⟩
  | 26 => ⟨S8x16384x3x1, .i1⟩
  | 27 => ⟨S1x1x1x1, .i32⟩
  | 28 => ⟨S8x16384x3x1, .i32⟩
  | 29 => ⟨S8x16384x3x1, .i1⟩
  | 30 => ⟨S8x16384x3x1, .i1⟩
  | 31 => ⟨S_, .i1⟩
  | 32 => ⟨S8x16384x3, .i1⟩
  | 33 => ⟨S8x16384x3, .f32⟩
  | 34 => ⟨S_, .f32⟩
  | 35 => ⟨S8x16384x3, .f32⟩
  | 36 => ⟨S8x16384x3, .f32⟩
  | 37 => ⟨S8x512x32x3, .f32⟩
  | 38 => ⟨S8x512x1x3, .f32⟩
  | 39 => ⟨S8x512x32x3, .f32⟩
  | 40 => ⟨S8x512x32x3, .f32⟩
  | 41 => ⟨S8x16384x1, .i32⟩
  | 42 => ⟨S8x16384x128, .i32⟩
  | 43 => ⟨S_, .i32⟩
  | 44 => ⟨S8x16384x128, .i32⟩
  | 45 => ⟨S8x16384x128, .i1⟩
  | 46 => ⟨S_, .i32⟩
  | 47 => ⟨S8x16384x128, .i32⟩
  | 48 => ⟨S8x16384x128, .i32⟩
  | 49 => ⟨S8x16384x128, .i32⟩
  | 50 => ⟨S8x16384x128x1, .i32⟩
  | 51 => ⟨S1, .i32⟩
  | 52 => ⟨S_, .i32⟩
  | 53 => ⟨S8x16384x128x1, .i32⟩
  | 54 => ⟨S8x16384x128x1, .i1⟩
  | 55 => ⟨S1x1x1x1, .i32⟩
  | 56 => ⟨S8x16384x128x1, .i32⟩
  | 57 => ⟨S8x16384x128x1, .i1⟩
  | 58 => ⟨S8x16384x128x1, .i1⟩
  | 59 => ⟨S_, .i1⟩
  | 60 => ⟨S8x16384x128, .i1⟩
  | 61 => ⟨S8x16384x128, .f32⟩
  | 62 => ⟨S_, .f32⟩
  | 63 => ⟨S8x16384x128, .f32⟩
  | 64 => ⟨S8x16384x128, .f32⟩
  | 65 => ⟨S8x512x32x128, .f32⟩
  | 66 => ⟨S8x512x32x131, .f32⟩
  | 67 => ⟨S4096x32x131, .f32⟩
  | 68 => ⟨S131x128, .f32⟩
  | 69 => ⟨S4096x32x128, .f32⟩
  | 70 => ⟨S1x1x128, .f32⟩
  | 71 => ⟨S4096x32x128, .f32⟩
  | 72 => ⟨S4096x32x128, .f32⟩
  | 73 => ⟨S_, .f32⟩
  | 74 => ⟨S128, .f32⟩
  | 75 => ⟨S_, .f32⟩
  | 76 => ⟨S128, .f32⟩
  | 77 => ⟨S128, .f32⟩
  | 78 => ⟨S_, .i32⟩
  | 79 => ⟨S_, .f32⟩
  | 80 => ⟨S128, .f32⟩
  | 81 => ⟨S1x1x128, .f32⟩
  | 82 => ⟨S_, .f32⟩
  | 83 => ⟨S1x1x128, .f32⟩
  | 84 => ⟨S1x1x128, .f32⟩
  | 85 => ⟨S4096x32x128, .f32⟩
  | 86 => ⟨S4096x32x128, .f32⟩
  | 87 => ⟨S4096x32x128, .f32⟩
  | 88 => ⟨S_, .f32⟩
  | 89 => ⟨S_, .f32⟩
  | 90 => ⟨S_, .f32⟩
  | 91 => ⟨S_, .f32⟩
  | 92 => ⟨S128, .f32⟩
  | 93 => ⟨S128, .f32⟩
  | 94 => ⟨S128, .f32⟩
  | 95 => ⟨S_, .f32⟩
  | 96 => ⟨S_, .i1⟩
  | 97 => ⟨S_, .f32⟩
  | 98 => ⟨S_, .f32⟩
  | 99 => ⟨S128, .f32⟩
  | 100 => ⟨S128, .f32⟩
  | 101 => ⟨S1x1x128, .f32⟩
  | 102 => ⟨S4096x32x128, .f32⟩
  | 103 => ⟨S4096x32x128, .f32⟩
  | 104 => ⟨S_, .f32⟩
  | 105 => ⟨S128, .f32⟩
  | 106 => ⟨S128, .f32⟩
  | 107 => ⟨S128, .f32⟩
  | 108 => ⟨S1x1x128, .f32⟩
  | 109 => ⟨S4096x32x128, .f32⟩
  | 110 => ⟨S4096x32x128, .f32⟩
  | 111 => ⟨S1x1x128, .f32⟩
  | 112 => ⟨S4096x32x128, .f32⟩
  | 113 => ⟨S4096x32x128, .f32⟩
  | 114 => ⟨S1x1x128, .f32⟩
  | 115 => ⟨S4096x32x128, .f32⟩
  | 116 => ⟨S4096x32x128, .f32⟩
  | 117 => ⟨S_, .f32⟩
  | 118 => ⟨S4096x32x128, .f32⟩
  | 119 => ⟨S4096x32x128, .f32⟩
  | 120 => ⟨S4096x32x128, .f32⟩
  | 121 => ⟨S_, .f32⟩
  | 122 => ⟨S4096x32x128, .f32⟩
  | 123 => ⟨S4096x32x128, .f32⟩
  | 124 => ⟨S4096x32x128, .f32⟩
  | 125 => ⟨S4096x32x128, .f32⟩
  | 126 => ⟨S128x128, .f32⟩
  | 127 => ⟨S4096x32x128, .f32⟩
  | _ => ⟨S8x8192x3, .f32⟩

abbrev hbmTy0_2 (i : Nat) : BufTy := match i % 128 with
  | 0 => ⟨S1x1x128, .f32⟩
  | 1 => ⟨S4096x32x128, .f32⟩
  | 2 => ⟨S4096x32x128, .f32⟩
  | 3 => ⟨S_, .f32⟩
  | 4 => ⟨S128, .f32⟩
  | 5 => ⟨S_, .f32⟩
  | 6 => ⟨S128, .f32⟩
  | 7 => ⟨S128, .f32⟩
  | 8 => ⟨S_, .i32⟩
  | 9 => ⟨S_, .f32⟩
  | 10 => ⟨S128, .f32⟩
  | 11 => ⟨S1x1x128, .f32⟩
  | 12 => ⟨S_, .f32⟩
  | 13 => ⟨S1x1x128, .f32⟩
  | 14 => ⟨S1x1x128, .f32⟩
  | 15 => ⟨S4096x32x128, .f32⟩
  | 16 => ⟨S4096x32x128, .f32⟩
  | 17 => ⟨S4096x32x128, .f32⟩
  | 18 => ⟨S_, .f32⟩
  | 19 => ⟨S_, .f32⟩
  | 20 => ⟨S_, .f32⟩
  | 21 => ⟨S_, .f32⟩
  | 22 => ⟨S128, .f32⟩
  | 23 => ⟨S128, .f32⟩
  | 24 => ⟨S128, .f32⟩
  | 25 => ⟨S_, .f32⟩
  | 26 => ⟨S_, .i1⟩
  | 27 => ⟨S_, .f32⟩
  | 28 => ⟨S_, .f32⟩
  | 29 => ⟨S128, .f32⟩
  | 30 => ⟨S128, .f32⟩
  | 31 => ⟨S1x1x128, .f32⟩
  | 32 => ⟨S4096x32x128, .f32⟩
  | 33 => ⟨S4096x32x128, .f32⟩
  | 34 => ⟨S_, .f32⟩
  | 35 => ⟨S128, .f32⟩
  | 36 => ⟨S128, .f32⟩
  | 37 => ⟨S128, .f32⟩
  | 38 => ⟨S1x1x128, .f32⟩
  | 39 => ⟨S4096x32x128, .f32⟩
  | 40 => ⟨S4096x32x128, .f32⟩
  | 41 => ⟨S1x1x128, .f32⟩
  | 42 => ⟨S4096x32x128, .f32⟩
  | 43 => ⟨S4096x32x128, .f32⟩
  | 44 => ⟨S1x1x128, .f32⟩
  | 45 => ⟨S4096x32x128, .f32⟩
  | 46 => ⟨S4096x32x128, .f32⟩
  | 47 => ⟨S_, .f32⟩
  | 48 => ⟨S4096x32x128, .f32⟩
  | 49 => ⟨S4096x32x128, .f32⟩
  | 50 => ⟨S4096x32x128, .f32⟩
  | 51 => ⟨S_, .f32⟩
  | 52 => ⟨S4096x32x128, .f32⟩
  | 53 => ⟨S4096x32x128, .f32⟩
  | 54 => ⟨S4096x32x128, .f32⟩
  | 55 => ⟨S4096x32x128, .f32⟩
  | 56 => ⟨S128x256, .f32⟩
  | 57 => ⟨S4096x32x256, .f32⟩
  | 58 => ⟨S1x1x256, .f32⟩
  | 59 => ⟨S4096x32x256, .f32⟩
  | 60 => ⟨S4096x32x256, .f32⟩
  | 61 => ⟨S_, .f32⟩
  | 62 => ⟨S256, .f32⟩
  | 63 => ⟨S_, .f32⟩
  | 64 => ⟨S256, .f32⟩
  | 65 => ⟨S256, .f32⟩
  | 66 => ⟨S_, .i32⟩
  | 67 => ⟨S_, .f32⟩
  | 68 => ⟨S256, .f32⟩
  | 69 => ⟨S1x1x256, .f32⟩
  | 70 => ⟨S_, .f32⟩
  | 71 => ⟨S1x1x256, .f32⟩
  | 72 => ⟨S1x1x256, .f32⟩
  | 73 => ⟨S4096x32x256, .f32⟩
  | 74 => ⟨S4096x32x256, .f32⟩
  | 75 => ⟨S4096x32x256, .f32⟩
  | 76 => ⟨S_, .f32⟩
  | 77 => ⟨S_, .f32⟩
  | 78 => ⟨S_, .f32⟩
  | 79 => ⟨S_, .f32⟩
  | 80 => ⟨S256, .f32⟩
  | 81 => ⟨S256, .f32⟩
  | 82 => ⟨S256, .f32⟩
  | 83 => ⟨S_, .f32⟩
  | 84 => ⟨S_, .i1⟩
  | 85 => ⟨S_, .f32⟩
  | 86 => ⟨S_, .f32⟩
  | 87 => ⟨S256, .f32⟩
  | 88 => ⟨S256, .f32⟩
  | 89 => ⟨S1x1x256, .f32⟩
  | 90 => ⟨S4096x32x256, .f32⟩
  | 91 => ⟨S4096x32x256, .f32⟩
  | 92 => ⟨S_, .f32⟩
  | 93 => ⟨S256, .f32⟩
  | 94 => ⟨S256, .f32⟩
  | 95 => ⟨S256, .f32⟩
  | 96 => ⟨S1x1x256, .f32⟩
  | 97 => ⟨S4096x32x256, .f32⟩
  | 98 => ⟨S4096x32x256, .f32⟩
  | 99 => ⟨S1x1x256, .f32⟩
  | 100 => ⟨S4096x32x256, .f32⟩
  | 101 => ⟨S4096x32x256, .f32⟩
  | 102 => ⟨S1x1x256, .f32⟩
  | 103 => ⟨S4096x32x256, .f32⟩
  | 104 => ⟨S4096x32x256, .f32⟩
  | 105 => ⟨S_, .f32⟩
  | 106 => ⟨S4096x32x256, .f32⟩
  | 107 => ⟨S4096x32x256, .f32⟩
  | 108 => ⟨S4096x32x256, .f32⟩
  | 109 => ⟨S_, .f32⟩
  | 110 => ⟨S4096x32x256, .f32⟩
  | 111 => ⟨S4096x32x256, .f32⟩
  | 112 => ⟨S4096x32x256, .f32⟩
  | 113 => ⟨S4096x32x256, .f32⟩
  | 114 => ⟨S_, .f32⟩
  | 115 => ⟨S4096x256, .f32⟩
  | 116 => ⟨S8x512x256, .f32⟩
  | _ => ⟨S8x8192x3, .f32⟩

abbrev hbmTy (i : Nat) : BufTy := match i / 128 with
  | 0 => hbmTy0_0 i
  | 1 => hbmTy0_1 i
  | 2 => hbmTy0_2 i
  | _ => ⟨S8x8192x3, .f32⟩

abbrev bufTy : (tb : Table) → Fin (tcTables nBuf tb) → BufTy
  | .hbm, ⟨i, _⟩ => hbmTy i
  | _, _ => ⟨S8x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_c_1 : Ref sig .tc := ⟨.hbm, 20, rfl⟩
abbrev main_c_2 : Ref sig .tc := ⟨.hbm, 21, rfl⟩
abbrev main_v3_0 : Ref sig .tc := ⟨.hbm, 22, rfl⟩
abbrev main_v3_1 : Ref sig .tc := ⟨.hbm, 23, rfl⟩
abbrev main_v3_2 : Ref sig .tc := ⟨.hbm, 24, rfl⟩
abbrev main_v3_3 : Ref sig .tc := ⟨.hbm, 25, rfl⟩
abbrev main_v3_4 : Ref sig .tc := ⟨.hbm, 26, rfl⟩
abbrev main_v3_5 : Ref sig .tc := ⟨.hbm, 27, rfl⟩
abbrev main_while0c_c_33 : Ref sig .tc := ⟨.hbm, 28, rfl⟩
abbrev main_while0c_v140 : Ref sig .tc := ⟨.hbm, 29, rfl⟩
abbrev main_while0b_c_33 : Ref sig .tc := ⟨.hbm, 30, rfl⟩
abbrev main_while0b_v140 : Ref sig .tc := ⟨.hbm, 31, rfl⟩
abbrev main_while0b_c_34 : Ref sig .tc := ⟨.hbm, 32, rfl⟩
abbrev main_while0b_v141 : Ref sig .tc := ⟨.hbm, 33, rfl⟩
abbrev main_while0b_c_35 : Ref sig .tc := ⟨.hbm, 34, rfl⟩
abbrev main_while0b_v142 : Ref sig .tc := ⟨.hbm, 35, rfl⟩
abbrev main_while0b_v143 : Ref sig .tc := ⟨.hbm, 36, rfl⟩
abbrev main_while0b_v144 : Ref sig .tc := ⟨.hbm, 37, rfl⟩
abbrev main_while0b_v145 : Ref sig .tc := ⟨.hbm, 38, rfl⟩
abbrev main_while0b_v146 : Ref sig .tc := ⟨.hbm, 39, rfl⟩
abbrev main_while0b_v147 : Ref sig .tc := ⟨.hbm, 40, rfl⟩
abbrev main_while0b_v148 : Ref sig .tc := ⟨.hbm, 41, rfl⟩
abbrev main_while0b_call0_c : Ref sig .tc := ⟨.hbm, 42, rfl⟩
abbrev main_while0b_call0_v0 : Ref sig .tc := ⟨.hbm, 43, rfl⟩
abbrev main_while0b_call0_v1 : Ref sig .tc := ⟨.hbm, 44, rfl⟩
abbrev main_while0b_call0_c_0 : Ref sig .tc := ⟨.hbm, 45, rfl⟩
abbrev main_while0b_call0_v2 : Ref sig .tc := ⟨.hbm, 46, rfl⟩
abbrev main_while0b_call0_v3 : Ref sig .tc := ⟨.hbm, 47, rfl⟩
abbrev main_while0b_call0_v4 : Ref sig .tc := ⟨.hbm, 48, rfl⟩
abbrev main_while0b_call0_v5 : Ref sig .tc := ⟨.hbm, 49, rfl⟩
abbrev main_while0b_call0_c_1 : Ref sig .tc := ⟨.hbm, 50, rfl⟩
abbrev main_while0b_call0_c_2 : Ref sig .tc := ⟨.hbm, 51, rfl⟩
abbrev main_while0b_call0_v6 : Ref sig .tc := ⟨.hbm, 52, rfl⟩
abbrev main_while0b_call0_v7 : Ref sig .tc := ⟨.hbm, 53, rfl⟩
abbrev main_while0b_call0_v8 : Ref sig .tc := ⟨.hbm, 54, rfl⟩
abbrev main_while0b_call0_v9 : Ref sig .tc := ⟨.hbm, 55, rfl⟩
abbrev main_while0b_call0_v10 : Ref sig .tc := ⟨.hbm, 56, rfl⟩
abbrev main_while0b_call0_v11 : Ref sig .tc := ⟨.hbm, 57, rfl⟩
abbrev main_while0b_call0_c_3 : Ref sig .tc := ⟨.hbm, 58, rfl⟩
abbrev main_while0b_call0_v12 : Ref sig .tc := ⟨.hbm, 59, rfl⟩
abbrev main_while0b_call0_v13 : Ref sig .tc := ⟨.hbm, 60, rfl⟩
abbrev main_while0b_call0_cst : Ref sig .tc := ⟨.hbm, 61, rfl⟩
abbrev main_while0b_call0_v14 : Ref sig .tc := ⟨.hbm, 62, rfl⟩
abbrev main_while0b_v149 : Ref sig .tc := ⟨.hbm, 63, rfl⟩
abbrev main_while0b_v150 : Ref sig .tc := ⟨.hbm, 64, rfl⟩
abbrev main_while0b_v151 : Ref sig .tc := ⟨.hbm, 65, rfl⟩
abbrev main_while0b_v152 : Ref sig .tc := ⟨.hbm, 66, rfl⟩
abbrev main_while0b_cst_36 : Ref sig .tc := ⟨.hbm, 67, rfl⟩
abbrev main_while0b_v153 : Ref sig .tc := ⟨.hbm, 68, rfl⟩
abbrev main_while0b_v154 : Ref sig .tc := ⟨.hbm, 69, rfl⟩
abbrev main_while0b_call1_v0 : Ref sig .tc := ⟨.hbm, 70, rfl⟩
abbrev main_while0b_call1_cst : Ref sig .tc := ⟨.hbm, 71, rfl⟩
abbrev main_while0b_call1_c : Ref sig .tc := ⟨.hbm, 72, rfl⟩
abbrev main_while0b_call1_v1_0 : Ref sig .tc := ⟨.hbm, 73, rfl⟩
abbrev main_while0b_v155 : Ref sig .tc := ⟨.hbm, 74, rfl⟩
abbrev main_while0b_c_37 : Ref sig .tc := ⟨.hbm, 75, rfl⟩
abbrev main_while0b_v156 : Ref sig .tc := ⟨.hbm, 76, rfl⟩
abbrev main_v4 : Ref sig .tc := ⟨.hbm, 77, rfl⟩
abbrev main_v5 : Ref sig .tc := ⟨.hbm, 78, rfl⟩
abbrev main_call2_c : Ref sig .tc := ⟨.hbm, 79, rfl⟩
abbrev main_call2_v0 : Ref sig .tc := ⟨.hbm, 80, rfl⟩
abbrev main_call2_v1 : Ref sig .tc := ⟨.hbm, 81, rfl⟩
abbrev main_call2_c_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_call2_c_1 : Ref sig .tc := ⟨.hbm, 87, rfl⟩
abbrev main_call2_c_2 : Ref sig .tc := ⟨.hbm, 88, rfl⟩
abbrev main_call2_v6 : Ref sig .tc := ⟨.hbm, 89, rfl⟩
abbrev main_call2_v7 : Ref sig .tc := ⟨.hbm, 90, rfl⟩
abbrev main_call2_v8 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_c_3 : Ref sig .tc := ⟨.hbm, 95, rfl⟩
abbrev main_call2_v12 : Ref sig .tc := ⟨.hbm, 96, rfl⟩
abbrev main_call2_v13 : Ref sig .tc := ⟨.hbm, 97, rfl⟩
abbrev main_call2_cst : Ref sig .tc := ⟨.hbm, 98, rfl⟩
abbrev main_call2_v14 : Ref sig .tc := ⟨.hbm, 99, rfl⟩
abbrev main_v6 : Ref sig .tc := ⟨.hbm, 100, rfl⟩
abbrev main_v7 : Ref sig .tc := ⟨.hbm, 101, rfl⟩
abbrev main_cst_3 : Ref sig .tc := ⟨.hbm, 102, rfl⟩
abbrev main_v8 : Ref sig .tc := ⟨.hbm, 103, rfl⟩
abbrev main_v9 : Ref sig .tc := ⟨.hbm, 104, rfl⟩
abbrev main_v10 : Ref sig .tc := ⟨.hbm, 105, rfl⟩
abbrev main_cst_4 : Ref sig .tc := ⟨.hbm, 106, rfl⟩
abbrev main_v11 : Ref sig .tc := ⟨.hbm, 107, rfl⟩
abbrev main_v12 : Ref sig .tc := ⟨.hbm, 108, rfl⟩
abbrev main_v13 : Ref sig .tc := ⟨.hbm, 109, rfl⟩
abbrev main_v14 : Ref sig .tc := ⟨.hbm, 110, rfl⟩
abbrev main_v15 : Ref sig .tc := ⟨.hbm, 111, rfl⟩
abbrev main_v16 : Ref sig .tc := ⟨.hbm, 112, rfl⟩
abbrev main_cst_5 : Ref sig .tc := ⟨.hbm, 113, rfl⟩
abbrev main_v17 : Ref sig .tc := ⟨.hbm, 114, rfl⟩
abbrev main_v18 : Ref sig .tc := ⟨.hbm, 115, rfl⟩
abbrev main_v19 : Ref sig .tc := ⟨.hbm, 116, rfl⟩
abbrev main_cst_6 : Ref sig .tc := ⟨.hbm, 117, rfl⟩
abbrev main_call3_v0 : Ref sig .tc := ⟨.hbm, 118, rfl⟩
abbrev main_call3_v1 : Ref sig .tc := ⟨.hbm, 119, rfl⟩
abbrev main_v20 : Ref sig .tc := ⟨.hbm, 120, rfl⟩
abbrev main_v21 : Ref sig .tc := ⟨.hbm, 121, rfl⟩
abbrev main_cst_7 : Ref sig .tc := ⟨.hbm, 122, rfl⟩
abbrev main_v22 : Ref sig .tc := ⟨.hbm, 123, rfl⟩
abbrev main_v23 : Ref sig .tc := ⟨.hbm, 124, rfl⟩
abbrev main_cst_8 : Ref sig .tc := ⟨.hbm, 125, rfl⟩
abbrev main_call4_v0 : Ref sig .tc := ⟨.hbm, 126, rfl⟩
abbrev main_call4_v1 : Ref sig .tc := ⟨.hbm, 127, rfl⟩
abbrev main_v24 : Ref sig .tc := ⟨.hbm, 128, rfl⟩
abbrev main_v25 : Ref sig .tc := ⟨.hbm, 129, rfl⟩
abbrev main_values : Ref sig .tc := ⟨.hbm, 130, rfl⟩
abbrev main_indices : Ref sig .tc := ⟨.hbm, 131, rfl⟩
abbrev main_v26 : Ref sig .tc := ⟨.hbm, 132, rfl⟩
abbrev main_v27 : Ref sig .tc := ⟨.hbm, 133, rfl⟩
abbrev main_v28 : Ref sig .tc := ⟨.hbm, 134, rfl⟩
abbrev main_call5_v0 : Ref sig .tc := ⟨.hbm, 135, rfl⟩
abbrev main_call5_cst : Ref sig .tc := ⟨.hbm, 136, rfl⟩
abbrev main_call5_v1 : Ref sig .tc := ⟨.hbm, 137, rfl⟩
abbrev main_v29 : Ref sig .tc := ⟨.hbm, 138, rfl⟩
abbrev main_v30 : Ref sig .tc := ⟨.hbm, 139, rfl⟩
abbrev main_v31 : Ref sig .tc := ⟨.hbm, 140, rfl⟩
abbrev main_v32 : Ref sig .tc := ⟨.hbm, 141, rfl⟩
abbrev main_v33 : Ref sig .tc := ⟨.hbm, 142, rfl⟩
abbrev main_call7_c : Ref sig .tc := ⟨.hbm, 143, rfl⟩
abbrev main_call7_v0 : Ref sig .tc := ⟨.hbm, 144, rfl⟩
abbrev main_call7_v1 : Ref sig .tc := ⟨.hbm, 145, rfl⟩
abbrev main_call7_c_0 : Ref sig .tc := ⟨.hbm, 146, rfl⟩
abbrev main_call7_v2 : Ref sig .tc := ⟨.hbm, 147, rfl⟩
abbrev main_call7_v3 : Ref sig .tc := ⟨.hbm, 148, rfl⟩
abbrev main_call7_v4 : Ref sig .tc := ⟨.hbm, 149, rfl⟩
abbrev main_call7_v5 : Ref sig .tc := ⟨.hbm, 150, rfl⟩
abbrev main_call7_c_1 : Ref sig .tc := ⟨.hbm, 151, rfl⟩
abbrev main_call7_c_2 : Ref sig .tc := ⟨.hbm, 152, rfl⟩
abbrev main_call7_v6 : Ref sig .tc := ⟨.hbm, 153, rfl⟩
abbrev main_call7_v7 : Ref sig .tc := ⟨.hbm, 154, rfl⟩
abbrev main_call7_v8 : Ref sig .tc := ⟨.hbm, 155, rfl⟩
abbrev main_call7_v9 : Ref sig .tc := ⟨.hbm, 156, rfl⟩
abbrev main_call7_v10 : Ref sig .tc := ⟨.hbm, 157, rfl⟩
abbrev main_call7_v11 : Ref sig .tc := ⟨.hbm, 158, rfl⟩
abbrev main_call7_c_3 : Ref sig .tc := ⟨.hbm, 159, rfl⟩
abbrev main_call7_v12 : Ref sig .tc := ⟨.hbm, 160, rfl⟩
abbrev main_call7_v13 : Ref sig .tc := ⟨.hbm, 161, rfl⟩
abbrev main_call7_cst : Ref sig .tc := ⟨.hbm, 162, rfl⟩
abbrev main_call7_v14 : Ref sig .tc := ⟨.hbm, 163, rfl⟩
abbrev main_v34 : Ref sig .tc := ⟨.hbm, 164, rfl⟩
abbrev main_v35 : Ref sig .tc := ⟨.hbm, 165, rfl⟩
abbrev main_v36 : Ref sig .tc := ⟨.hbm, 166, rfl⟩
abbrev main_v37 : Ref sig .tc := ⟨.hbm, 167, rfl⟩
abbrev main_v38 : Ref sig .tc := ⟨.hbm, 168, rfl⟩
abbrev main_v39 : Ref sig .tc := ⟨.hbm, 169, rfl⟩
abbrev main_v40 : Ref sig .tc := ⟨.hbm, 170, rfl⟩
abbrev main_call8_c : Ref sig .tc := ⟨.hbm, 171, rfl⟩
abbrev main_call8_v0 : Ref sig .tc := ⟨.hbm, 172, rfl⟩
abbrev main_call8_v1 : Ref sig .tc := ⟨.hbm, 173, rfl⟩
abbrev main_call8_c_0 : Ref sig .tc := ⟨.hbm, 174, rfl⟩
abbrev main_call8_v2 : Ref sig .tc := ⟨.hbm, 175, rfl⟩
abbrev main_call8_v3 : Ref sig .tc := ⟨.hbm, 176, rfl⟩
abbrev main_call8_v4 : Ref sig .tc := ⟨.hbm, 177, rfl⟩
abbrev main_call8_v5 : Ref sig .tc := ⟨.hbm, 178, rfl⟩
abbrev main_call8_c_1 : Ref sig .tc := ⟨.hbm, 179, rfl⟩
abbrev main_call8_c_2 : Ref sig .tc := ⟨.hbm, 180, rfl⟩
abbrev main_call8_v6 : Ref sig .tc := ⟨.hbm, 181, rfl⟩
abbrev main_call8_v7 : Ref sig .tc := ⟨.hbm, 182, rfl⟩
abbrev main_call8_v8 : Ref sig .tc := ⟨.hbm, 183, rfl⟩
abbrev main_call8_v9 : Ref sig .tc := ⟨.hbm, 184, rfl⟩
abbrev main_call8_v10 : Ref sig .tc := ⟨.hbm, 185, rfl⟩
abbrev main_call8_v11 : Ref sig .tc := ⟨.hbm, 186, rfl⟩
abbrev main_call8_c_3 : Ref sig .tc := ⟨.hbm, 187, rfl⟩
abbrev main_call8_v12 : Ref sig .tc := ⟨.hbm, 188, rfl⟩
abbrev main_call8_v13 : Ref sig .tc := ⟨.hbm, 189, rfl⟩
abbrev main_call8_cst : Ref sig .tc := ⟨.hbm, 190, rfl⟩
abbrev main_call8_v14 : Ref sig .tc := ⟨.hbm, 191, rfl⟩
abbrev main_v41 : Ref sig .tc := ⟨.hbm, 192, rfl⟩
abbrev main_v42 : Ref sig .tc := ⟨.hbm, 193, rfl⟩
abbrev main_v43 : Ref sig .tc := ⟨.hbm, 194, rfl⟩
abbrev main_v44 : Ref sig .tc := ⟨.hbm, 195, rfl⟩
abbrev main_v45 : Ref sig .tc := ⟨.hbm, 196, rfl⟩
abbrev main_v46 : Ref sig .tc := ⟨.hbm, 197, rfl⟩
abbrev main_v47 : Ref sig .tc := ⟨.hbm, 198, rfl⟩
abbrev main_v48 : Ref sig .tc := ⟨.hbm, 199, rfl⟩
abbrev main_v49 : Ref sig .tc := ⟨.hbm, 200, rfl⟩
abbrev main_cst_9 : Ref sig .tc := ⟨.hbm, 201, rfl⟩
abbrev main_v50 : Ref sig .tc := ⟨.hbm, 202, rfl⟩
abbrev main_cst_10 : Ref sig .tc := ⟨.hbm, 203, rfl⟩
abbrev main_v51 : Ref sig .tc := ⟨.hbm, 204, rfl⟩
abbrev main_v52 : Ref sig .tc := ⟨.hbm, 205, rfl⟩
abbrev main_c_11 : Ref sig .tc := ⟨.hbm, 206, rfl⟩
abbrev main_call9_cst : Ref sig .tc := ⟨.hbm, 207, rfl⟩
abbrev main_call9_v0 : Ref sig .tc := ⟨.hbm, 208, rfl⟩
abbrev main_call9_v1 : Ref sig .tc := ⟨.hbm, 209, rfl⟩
abbrev main_call9_cst_0 : Ref sig .tc := ⟨.hbm, 210, rfl⟩
abbrev main_call9_v2 : Ref sig .tc := ⟨.hbm, 211, rfl⟩
abbrev main_call9_v3 : Ref sig .tc := ⟨.hbm, 212, rfl⟩
abbrev main_call9_v4 : Ref sig .tc := ⟨.hbm, 213, rfl⟩
abbrev main_call9_v5 : Ref sig .tc := ⟨.hbm, 214, rfl⟩
abbrev main_call9_v6 : Ref sig .tc := ⟨.hbm, 215, rfl⟩
abbrev main_call9_v7 : Ref sig .tc := ⟨.hbm, 216, rfl⟩
abbrev main_call9_cst_1 : Ref sig .tc := ⟨.hbm, 217, rfl⟩
abbrev main_call9_v8 : Ref sig .tc := ⟨.hbm, 218, rfl⟩
abbrev main_call9_cst_2 : Ref sig .tc := ⟨.hbm, 219, rfl⟩
abbrev main_call9_v9 : Ref sig .tc := ⟨.hbm, 220, rfl⟩
abbrev main_call9_v10 : Ref sig .tc := ⟨.hbm, 221, rfl⟩
abbrev main_call9_v11 : Ref sig .tc := ⟨.hbm, 222, rfl⟩
abbrev main_call9_cst_3 : Ref sig .tc := ⟨.hbm, 223, rfl⟩
abbrev main_call9_v12 : Ref sig .tc := ⟨.hbm, 224, rfl⟩
abbrev main_call9_cst_4 : Ref sig .tc := ⟨.hbm, 225, rfl⟩
abbrev main_call9_call0_v0 : Ref sig .tc := ⟨.hbm, 226, rfl⟩
abbrev main_call9_call0_v1 : Ref sig .tc := ⟨.hbm, 227, rfl⟩
abbrev main_v53 : Ref sig .tc := ⟨.hbm, 228, rfl⟩
abbrev main_v54 : Ref sig .tc := ⟨.hbm, 229, rfl⟩
abbrev main_v55 : Ref sig .tc := ⟨.hbm, 230, rfl⟩
abbrev main_v56 : Ref sig .tc := ⟨.hbm, 231, rfl⟩
abbrev main_cst_12 : Ref sig .tc := ⟨.hbm, 232, rfl⟩
abbrev main_v57 : Ref sig .tc := ⟨.hbm, 233, rfl⟩
abbrev main_v58 : Ref sig .tc := ⟨.hbm, 234, rfl⟩
abbrev main_v59 : Ref sig .tc := ⟨.hbm, 235, rfl⟩
abbrev main_v60 : Ref sig .tc := ⟨.hbm, 236, rfl⟩
abbrev main_v61 : Ref sig .tc := ⟨.hbm, 237, rfl⟩
abbrev main_v62 : Ref sig .tc := ⟨.hbm, 238, rfl⟩
abbrev main_v63 : Ref sig .tc := ⟨.hbm, 239, rfl⟩
abbrev main_v64 : Ref sig .tc := ⟨.hbm, 240, rfl⟩
abbrev main_v65 : Ref sig .tc := ⟨.hbm, 241, rfl⟩
abbrev main_v66 : Ref sig .tc := ⟨.hbm, 242, rfl⟩
abbrev main_v67 : Ref sig .tc := ⟨.hbm, 243, rfl⟩
abbrev main_v68 : Ref sig .tc := ⟨.hbm, 244, rfl⟩
abbrev main_cst_13 : Ref sig .tc := ⟨.hbm, 245, rfl⟩
abbrev main_v69 : Ref sig .tc := ⟨.hbm, 246, rfl⟩
abbrev main_v70 : Ref sig .tc := ⟨.hbm, 247, rfl⟩
abbrev main_v71 : Ref sig .tc := ⟨.hbm, 248, rfl⟩
abbrev main_cst_14 : Ref sig .tc := ⟨.hbm, 249, rfl⟩
abbrev main_v72 : Ref sig .tc := ⟨.hbm, 250, rfl⟩
abbrev main_v73 : Ref sig .tc := ⟨.hbm, 251, rfl⟩
abbrev main_v74 : Ref sig .tc := ⟨.hbm, 252, rfl⟩
abbrev main_v75 : Ref sig .tc := ⟨.hbm, 253, rfl⟩
abbrev main_v76 : Ref sig .tc := ⟨.hbm, 254, rfl⟩
abbrev main_v77 : Ref sig .tc := ⟨.hbm, 255, rfl⟩
abbrev main_v78 : Ref sig .tc := ⟨.hbm, 256, rfl⟩
abbrev main_v79 : Ref sig .tc := ⟨.hbm, 257, rfl⟩
abbrev main_v80 : Ref sig .tc := ⟨.hbm, 258, rfl⟩
abbrev main_cst_15 : Ref sig .tc := ⟨.hbm, 259, rfl⟩
abbrev main_v81 : Ref sig .tc := ⟨.hbm, 260, rfl⟩
abbrev main_cst_16 : Ref sig .tc := ⟨.hbm, 261, rfl⟩
abbrev main_v82 : Ref sig .tc := ⟨.hbm, 262, rfl⟩
abbrev main_v83 : Ref sig .tc := ⟨.hbm, 263, rfl⟩
abbrev main_c_17 : Ref sig .tc := ⟨.hbm, 264, rfl⟩
abbrev main_call10_cst : Ref sig .tc := ⟨.hbm, 265, rfl⟩
abbrev main_call10_v0 : Ref sig .tc := ⟨.hbm, 266, rfl⟩
abbrev main_call10_v1 : Ref sig .tc := ⟨.hbm, 267, rfl⟩
abbrev main_call10_cst_0 : Ref sig .tc := ⟨.hbm, 268, rfl⟩
abbrev main_call10_v2 : Ref sig .tc := ⟨.hbm, 269, rfl⟩
abbrev main_call10_v3 : Ref sig .tc := ⟨.hbm, 270, rfl⟩
abbrev main_call10_v4 : Ref sig .tc := ⟨.hbm, 271, rfl⟩
abbrev main_call10_v5 : Ref sig .tc := ⟨.hbm, 272, rfl⟩
abbrev main_call10_v6 : Ref sig .tc := ⟨.hbm, 273, rfl⟩
abbrev main_call10_v7 : Ref sig .tc := ⟨.hbm, 274, rfl⟩
abbrev main_call10_cst_1 : Ref sig .tc := ⟨.hbm, 275, rfl⟩
abbrev main_call10_v8 : Ref sig .tc := ⟨.hbm, 276, rfl⟩
abbrev main_call10_cst_2 : Ref sig .tc := ⟨.hbm, 277, rfl⟩
abbrev main_call10_v9 : Ref sig .tc := ⟨.hbm, 278, rfl⟩
abbrev main_call10_v10 : Ref sig .tc := ⟨.hbm, 279, rfl⟩
abbrev main_call10_v11 : Ref sig .tc := ⟨.hbm, 280, rfl⟩
abbrev main_call10_cst_3 : Ref sig .tc := ⟨.hbm, 281, rfl⟩
abbrev main_call10_v12 : Ref sig .tc := ⟨.hbm, 282, rfl⟩
abbrev main_call10_cst_4 : Ref sig .tc := ⟨.hbm, 283, rfl⟩
abbrev main_call10_call0_v0 : Ref sig .tc := ⟨.hbm, 284, rfl⟩
abbrev main_call10_call0_v1 : Ref sig .tc := ⟨.hbm, 285, rfl⟩
abbrev main_v84 : Ref sig .tc := ⟨.hbm, 286, rfl⟩
abbrev main_v85 : Ref sig .tc := ⟨.hbm, 287, rfl⟩
abbrev main_v86 : Ref sig .tc := ⟨.hbm, 288, rfl⟩
abbrev main_v87 : Ref sig .tc := ⟨.hbm, 289, rfl⟩
abbrev main_cst_18 : Ref sig .tc := ⟨.hbm, 290, rfl⟩
abbrev main_v88 : Ref sig .tc := ⟨.hbm, 291, rfl⟩
abbrev main_v89 : Ref sig .tc := ⟨.hbm, 292, rfl⟩
abbrev main_v90 : Ref sig .tc := ⟨.hbm, 293, rfl⟩
abbrev main_v91 : Ref sig .tc := ⟨.hbm, 294, rfl⟩
abbrev main_v92 : Ref sig .tc := ⟨.hbm, 295, rfl⟩
abbrev main_v93 : Ref sig .tc := ⟨.hbm, 296, rfl⟩
abbrev main_v94 : Ref sig .tc := ⟨.hbm, 297, rfl⟩
abbrev main_v95 : Ref sig .tc := ⟨.hbm, 298, rfl⟩
abbrev main_v96 : Ref sig .tc := ⟨.hbm, 299, rfl⟩
abbrev main_v97 : Ref sig .tc := ⟨.hbm, 300, rfl⟩
abbrev main_v98 : Ref sig .tc := ⟨.hbm, 301, rfl⟩
abbrev main_v99 : Ref sig .tc := ⟨.hbm, 302, rfl⟩
abbrev main_cst_19 : Ref sig .tc := ⟨.hbm, 303, rfl⟩
abbrev main_v100 : Ref sig .tc := ⟨.hbm, 304, rfl⟩
abbrev main_v101 : Ref sig .tc := ⟨.hbm, 305, rfl⟩
abbrev main_v102 : Ref sig .tc := ⟨.hbm, 306, rfl⟩
abbrev main_cst_20 : Ref sig .tc := ⟨.hbm, 307, rfl⟩
abbrev main_v103 : Ref sig .tc := ⟨.hbm, 308, rfl⟩
abbrev main_v104 : Ref sig .tc := ⟨.hbm, 309, rfl⟩
abbrev main_v105 : Ref sig .tc := ⟨.hbm, 310, rfl⟩
abbrev main_v106 : Ref sig .tc := ⟨.hbm, 311, rfl⟩
abbrev main_v107 : Ref sig .tc := ⟨.hbm, 312, rfl⟩
abbrev main_v108 : Ref sig .tc := ⟨.hbm, 313, rfl⟩
abbrev main_v109 : Ref sig .tc := ⟨.hbm, 314, rfl⟩
abbrev main_v110 : Ref sig .tc := ⟨.hbm, 315, rfl⟩
abbrev main_v111 : Ref sig .tc := ⟨.hbm, 316, rfl⟩
abbrev main_cst_21 : Ref sig .tc := ⟨.hbm, 317, rfl⟩
abbrev main_v112 : Ref sig .tc := ⟨.hbm, 318, rfl⟩
abbrev main_cst_22 : Ref sig .tc := ⟨.hbm, 319, rfl⟩
abbrev main_v113 : Ref sig .tc := ⟨.hbm, 320, rfl⟩
abbrev main_v114 : Ref sig .tc := ⟨.hbm, 321, rfl⟩
abbrev main_c_23 : Ref sig .tc := ⟨.hbm, 322, rfl⟩
abbrev main_call11_cst : Ref sig .tc := ⟨.hbm, 323, rfl⟩
abbrev main_call11_v0 : Ref sig .tc := ⟨.hbm, 324, rfl⟩
abbrev main_call11_v1 : Ref sig .tc := ⟨.hbm, 325, rfl⟩
abbrev main_call11_cst_0 : Ref sig .tc := ⟨.hbm, 326, rfl⟩
abbrev main_call11_v2 : Ref sig .tc := ⟨.hbm, 327, rfl⟩
abbrev main_call11_v3 : Ref sig .tc := ⟨.hbm, 328, rfl⟩
abbrev main_call11_v4 : Ref sig .tc := ⟨.hbm, 329, rfl⟩
abbrev main_call11_v5 : Ref sig .tc := ⟨.hbm, 330, rfl⟩
abbrev main_call11_v6 : Ref sig .tc := ⟨.hbm, 331, rfl⟩
abbrev main_call11_v7 : Ref sig .tc := ⟨.hbm, 332, rfl⟩
abbrev main_call11_cst_1 : Ref sig .tc := ⟨.hbm, 333, rfl⟩
abbrev main_call11_v8 : Ref sig .tc := ⟨.hbm, 334, rfl⟩
abbrev main_call11_cst_2 : Ref sig .tc := ⟨.hbm, 335, rfl⟩
abbrev main_call11_v9 : Ref sig .tc := ⟨.hbm, 336, rfl⟩
abbrev main_call11_v10 : Ref sig .tc := ⟨.hbm, 337, rfl⟩
abbrev main_call11_v11 : Ref sig .tc := ⟨.hbm, 338, rfl⟩
abbrev main_call11_cst_3 : Ref sig .tc := ⟨.hbm, 339, rfl⟩
abbrev main_call11_v12 : Ref sig .tc := ⟨.hbm, 340, rfl⟩
abbrev main_call11_cst_4 : Ref sig .tc := ⟨.hbm, 341, rfl⟩
abbrev main_call11_call0_v0 : Ref sig .tc := ⟨.hbm, 342, rfl⟩
abbrev main_call11_call0_v1 : Ref sig .tc := ⟨.hbm, 343, rfl⟩
abbrev main_v115 : Ref sig .tc := ⟨.hbm, 344, rfl⟩
abbrev main_v116 : Ref sig .tc := ⟨.hbm, 345, rfl⟩
abbrev main_v117 : Ref sig .tc := ⟨.hbm, 346, rfl⟩
abbrev main_v118 : Ref sig .tc := ⟨.hbm, 347, rfl⟩
abbrev main_cst_24 : Ref sig .tc := ⟨.hbm, 348, rfl⟩
abbrev main_v119 : Ref sig .tc := ⟨.hbm, 349, rfl⟩
abbrev main_v120 : Ref sig .tc := ⟨.hbm, 350, rfl⟩
abbrev main_v121 : Ref sig .tc := ⟨.hbm, 351, rfl⟩
abbrev main_v122 : Ref sig .tc := ⟨.hbm, 352, rfl⟩
abbrev main_v123 : Ref sig .tc := ⟨.hbm, 353, rfl⟩
abbrev main_v124 : Ref sig .tc := ⟨.hbm, 354, rfl⟩
abbrev main_v125 : Ref sig .tc := ⟨.hbm, 355, rfl⟩
abbrev main_v126 : Ref sig .tc := ⟨.hbm, 356, rfl⟩
abbrev main_v127 : Ref sig .tc := ⟨.hbm, 357, rfl⟩
abbrev main_v128 : Ref sig .tc := ⟨.hbm, 358, rfl⟩
abbrev main_v129 : Ref sig .tc := ⟨.hbm, 359, rfl⟩
abbrev main_v130 : Ref sig .tc := ⟨.hbm, 360, rfl⟩
abbrev main_cst_25 : Ref sig .tc := ⟨.hbm, 361, rfl⟩
abbrev main_v131 : Ref sig .tc := ⟨.hbm, 362, rfl⟩
abbrev main_v132 : Ref sig .tc := ⟨.hbm, 363, rfl⟩
abbrev main_v133 : Ref sig .tc := ⟨.hbm, 364, rfl⟩
abbrev main_cst_26 : Ref sig .tc := ⟨.hbm, 365, rfl⟩
abbrev main_v134 : Ref sig .tc := ⟨.hbm, 366, rfl⟩
abbrev main_v135 : Ref sig .tc := ⟨.hbm, 367, rfl⟩
abbrev main_v136 : Ref sig .tc := ⟨.hbm, 368, rfl⟩
abbrev main_v137 : Ref sig .tc := ⟨.hbm, 369, rfl⟩
abbrev main_cst_27 : Ref sig .tc := ⟨.hbm, 370, rfl⟩
abbrev main_v138 : Ref sig .tc := ⟨.hbm, 371, rfl⟩
abbrev main_v139 : Ref sig .tc := ⟨.hbm, 372, rfl⟩

abbrev nD : Nat := 1
abbrev τ : Topo := Topo.v7x

variable {F : FTy → Type} [FloatOps F]

abbrev main_while0_count : Scf.Loop 32 := ⟨0#32, 512#32, 1#32⟩
-- ==== Proof.KernelRun.lean ====
module

public import proofs.«01_k».proof.Proof.Gen.KernelIdeal.Frame

@[expose] public section

/-! The run of the kernel with the contents of its buffers at the end, by the launch its frame uses. -/

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel's program runs, and every buffer ends at its contents after the last stretch. -/
theorem run_all : θ_run defs (onTc (τ := τ) (main (F := F))) ⟨m, fun _ => 0, ρ⟩ (fun r => ∀ (c : Dev nD) (b : Ref sig .tc),
      (Proc.devRef .tc b : DevRef τ sig).isScoped = false → r.2.mem ((c.tc : Thread nD τ).loc b) = W22 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h _ => fun c b hb => h c _ (mem_uc b (by rw [hb]; exact Bool.false_ne_true)))

end Cert.KernelRun

end
-- ==== Proof.Lemmas.lean ====
/-
  Facts that speak of no program: gathers and scatters read at an index, jax's wrapped index words, least and greatest
  entries of a row by a fold, and the counted fold by an invariant.
-/
module

public import Idealize.ShloMosaic.Lib.Pointwise
public import Idealize.ShloMosaic.Lib.Routing.OpsPair
public import Idealize.ShloMosaic.PureOps.Ideal.Laws
public import Idealize.ShloMosaic.Lib.Exec

@[expose] public section

noncomputable section

namespace Cert.Lem

open Idealize.ShloMosaic

/-- A `take_along_axis` gather along the middle axis of three, read where its index is the word of `n` in range. -/
theorem take_apply {α : Type} {A B C R : ℕ} (d : GatherDims ⟨3, ![A, B, C]⟩ ⟨4, ![A, R, C, 1]⟩ ⟨3, ![A, R, C]⟩)
    (wf) (hd : d = ⟨[], [1], [0, 2], [0, 2], [1], 3, ![1, 1, 1], wf⟩)
    (x : (⟨3, ![A, B, C]⟩ : Shape).Idx → α) (idx : IVec ⟨4, ![A, R, C, 1]⟩ 32) (b : Fin A) (r : Fin R) (c : Fin C)
    (n : Fin B) (hB : B < 2 ^ 31) (hn : idx (ix4 b r c 0) = BitVec.ofNat 32 n) : Host.gather d x idx (ix3 b r c) = x (ix3 b n c) := by
  subst hd
  unfold Host.gather
  congr 1
  funext a
  apply Fin.ext
  have key : ∀ (q : (⟨4, ![A, R, C, 1]⟩ : Shape).Idx), q = ix4 b r c 0 → min (idx q).toInt.toNat (B - 1) = n := by
    rintro q rfl
    rw [hn, BitVec.toInt_eq_toNat_of_lt (by rw [BitVec.toNat_ofNat]; omega), BitVec.toNat_ofNat, Nat.mod_eq_of_lt (by omega)]
    omega
  match a with
  | ⟨0, _⟩ => show 0 + b.val + 0 = b.val; omega
  | ⟨1, _⟩ =>
    show min (idx (GatherDims.siIdx _ _ ⟨0, _⟩)).toInt.toNat (B - 1) + 0 + 0 = n.val
    rw [key _ (funext fun e => by fin_cases e <;> rfl)]
    omega
  | ⟨2, _⟩ => show 0 + c.val + 0 = c.val; omega

/-- Signed order of small words is that of their numbers, strictly. -/
theorem slt_ofNat (a b : ℕ) (ha : a < 2 ^ 31) (hb : b < 2 ^ 31) : (BitVec.ofNat 32 a).slt (BitVec.ofNat 32 b) = decide (a < b) := by
  rw [BitVec.slt, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  simp

/-- Signed order of small words is that of their numbers. -/
theorem sle_ofNat (a b : ℕ) (ha : a < 2 ^ 31) (hb : b < 2 ^ 31) : (BitVec.ofNat 32 a).sle (BitVec.ofNat 32 b) = decide (a ≤ b) := by
  rw [BitVec.sle, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  simp

/-- jax's wrap of a negative index leaves the word of a natural number alone. -/
theorem wrap_word (n : ℕ) (hn : n < 2 ^ 31) (k : BitVec 32) :
    Scalar.select (IntOp.cmpi .slt (BitVec.ofNat 32 n) 0#32) (IntOp.addi (BitVec.ofNat 32 n) k) (BitVec.ofNat 32 n) = BitVec.ofNat 32 n := by
  have h : IntOp.cmpi .slt (BitVec.ofNat 32 n) 0#32 = 0#1 := by
    show BitVec.ofBool ((BitVec.ofNat 32 n).slt (BitVec.ofNat 32 0)) = 0#1
    rw [slt_ofNat n 0 hn (by omega)]; simp
  rw [h]; rfl

/-- The range test that guards a `take_along_axis` passes for the word of a number below the extent, so the fill is not taken. -/
theorem in_range {α : Type} (n : ℕ) (hn : n < 8192) (x y : α) :
    Scalar.select (Finset.fold IntOp.andi (1#1)
      (fun _ : Fin 1 => IntOp.andi (IntOp.cmpi .sge (BitVec.ofNat 32 n) 0#32) (IntOp.cmpi .sle (BitVec.ofNat 32 n) 8191#32)) Finset.univ) x y = x := by
  have h1 : IntOp.cmpi .sge (BitVec.ofNat 32 n) 0#32 = 1#1 := by
    show BitVec.ofBool ((BitVec.ofNat 32 0).sle (BitVec.ofNat 32 n)) = 1#1
    rw [sle_ofNat 0 n (by omega) (by omega)]; simp
  have h2 : IntOp.cmpi .sle (BitVec.ofNat 32 n) 8191#32 = 1#1 := by
    show BitVec.ofBool ((BitVec.ofNat 32 n).sle (BitVec.ofNat 32 8191)) = 1#1
    rw [sle_ofNat n 8191 (by omega) (by omega), decide_eq_true (by omega)]; rfl
  rw [h1, h2]; rfl

/-- A fold that overwrites with the updates that land, all of one value, ends at that value. -/
theorem foldl_set {ι α : Type} (P : ι → Prop) [DecidablePred P] (g : ι → α) (v : α) (hv : ∀ n, P n → g n = v) :
    ∀ (l : List ι) (a : α), ((∃ n ∈ l, P n) ∨ a = v) → l.foldl (fun a n => if P n then g n else a) a = v
  | [], a, h => h.elim (fun ⟨_, h, _⟩ => absurd h List.not_mem_nil) id
  | n :: l, a, h => by
    rw [List.foldl_cons]
    apply foldl_set P g v hv l
    by_cases hn : P n
    · right; rw [if_pos hn, hv n hn]
    · rw [if_neg hn]
      rcases h with ⟨k, hk, hP⟩ | h
      · rcases List.mem_cons.mp hk with rfl | hk
        · exact absurd hP hn
        · exact .inl ⟨k, hk, hP⟩
      · exact .inr h

/-- A fold whose updates never apply ends where it began. -/
theorem foldl_skip {ι α : Type} (P : ι → Prop) [DecidablePred P] (g : ι → α) (hv : ∀ n, ¬ P n) :
    ∀ (l : List ι) (a : α), l.foldl (fun a n => if P n then g n else a) a = a
  | [], a => rfl
  | n :: l, a => by rw [List.foldl_cons, if_neg (hv n)]; exact foldl_skip P g hv l a

/-- A scatter that sets, read where some update lands and every update that lands has the value `v`. -/
theorem scatter_hit {α : Type} {s si u : Shape} {w : ℕ} (d : ScatterDims s si u) (x0 : s.Idx → α) (idx : IVec si w) (upd : u.Idx → α)
    (ι : s.Idx) (v : α) (k : u.Idx) (hk : d.resultIdx? k idx = some ι) (hv : ∀ k, d.resultIdx? k idx = some ι → upd k = v) :
    Host.scatter d (fun _ b => b) x0 idx upd ι = v := by
  rw [Idealize.ShloMosaic.Routing.scatter_at]
  exact foldl_set (fun n => d.resultIdx? (u.rowMajor.symm n) idx = some ι) (fun n => upd (u.rowMajor.symm n)) v (fun n hn => hv _ hn) _ _
    (.inl ⟨u.rowMajor k, List.mem_finRange _, by rw [Equiv.symm_apply_apply]; exact hk⟩)

/-- The same read where no update lands. -/
theorem scatter_miss {α : Type} {s si u : Shape} {w : ℕ} (d : ScatterDims s si u) (x0 : s.Idx → α) (idx : IVec si w) (upd : u.Idx → α)
    (ι : s.Idx) (hk : ∀ k, d.resultIdx? k idx ≠ some ι) : Host.scatter d (fun _ b => b) x0 idx upd ι = x0 ι := by
  rw [Idealize.ShloMosaic.Routing.scatter_at]
  exact foldl_skip (fun n => d.resultIdx? (u.rowMajor.symm n) idx = some ι) (fun n => upd (u.rowMajor.symm n)) (fun n => hk _) _ _

/-! ## The first greatest entry of a row -/

/-- `f` is the first position at which the row `d` is greatest. -/
def IsArg {n : ℕ} (d : Fin n → EReal) (f : Fin n) : Prop := (∀ k, d k ≤ d f) ∧ ∀ k, k < f → d k < d f

/-- There is one first greatest index. -/
theorem IsArg.unique {n : ℕ} {d : Fin n → EReal} {f g : Fin n} (hf : IsArg d f) (hg : IsArg d g) : f = g := by
  rcases lt_trichotomy f g with h | h | h
  · exact absurd (hg.2 f h) (not_lt.mpr (hf.1 g))
  · exact h
  · exact absurd (hf.2 g h) (not_lt.mpr (hg.1 f))

/-- There is a first greatest index. -/
theorem IsArg.exists {n : ℕ} [NeZero n] (d : Fin n → EReal) : ∃ f, IsArg d f := by
  obtain ⟨g, -, hg⟩ := Finset.exists_max_image Finset.univ d ⟨0, Finset.mem_univ _⟩
  let S := Finset.univ.filter fun k => d k = d g
  have hS : S.Nonempty := ⟨g, by simp [S]⟩
  refine ⟨S.min' hS, ?_, ?_⟩
  · have := (Finset.mem_filter.mp (S.min'_mem hS)).2
    intro k; rw [this]; exact hg k (Finset.mem_univ _)
  · have := (Finset.mem_filter.mp (S.min'_mem hS)).2
    intro k hk; rw [this]
    refine lt_of_le_of_ne (hg k (Finset.mem_univ _)) fun e => ?_
    exact absurd (S.min'_le k (Finset.mem_filter.mpr ⟨Finset.mem_univ _, e⟩)) (not_le.mpr hk)

/-- A maximum is the value at the greatest index. -/
theorem fold_max_eq {n : ℕ} (d : Fin n → EReal) (f : Fin n) (hf : ∀ k, d k ≤ d f) : Finset.fold max ⊥ d Finset.univ = d f := by
  apply le_antisymm
  · rw [Finset.fold_max_le]; exact ⟨bot_le, fun k _ => hf k⟩
  · rw [Finset.le_fold_max]; exact .inr ⟨f, Finset.mem_univ _, le_rfl⟩

/-- A fold of the signed minimum ends at an entry that no other entry, nor the initial word, is below. -/
theorem fold_minsi_eq {n : ℕ} (g : Fin n → BitVec 32) (i : BitVec 32) (f : Fin n) (hi : (g f).toInt ≤ i.toInt)
    (hf : ∀ k, (g f).toInt ≤ (g k).toInt) : Finset.fold IntOp.minsi i g Finset.univ = g f := by
  have key : ∀ s : Finset (Fin n), (g f).toInt ≤ (Finset.fold IntOp.minsi i g s).toInt ∧ (f ∈ s → Finset.fold IntOp.minsi i g s = g f) := by
    intro s
    induction s using Finset.induction_on with
    | empty => exact ⟨by simpa using hi, fun h => by simp at h⟩
    | insert a s ha ih =>
      rw [Finset.fold_insert ha]
      have hm : ∀ x y : BitVec 32, IntOp.minsi x y = if x.toInt < y.toInt then x else y := by
        intro x y; unfold IntOp.minsi; simp [BitVec.slt]
      rw [hm]
      refine ⟨by split; exacts [hf a, ih.1], fun h => ?_⟩
      rcases Finset.mem_insert.mp h with rfl | h
      · split
        · rfl
        · next hlt => exact BitVec.eq_of_toInt_eq (le_antisymm (not_lt.mp hlt) ih.1)
      · rw [ih.2 h, if_neg (not_lt.mpr (hf a))]
  exact (key _).2 (Finset.mem_univ _)

/-- The kernel's spelling of the first greatest position: the least position holding the maximum. -/
theorem arg_kernel {n : ℕ} (d : Fin n → EReal) (f : Fin n) (hf : IsArg d f) (N : ℕ) (hn : n ≤ N) (hN : N < 2 ^ 31)
    [∀ x, Decidable (d x = Finset.fold max ⊥ d Finset.univ)] :
    Finset.fold IntOp.minsi (2147483647#32) (fun x : Fin n => if d x = Finset.fold max ⊥ d Finset.univ then BitVec.ofNat 32 x.val else BitVec.ofNat 32 N)
      Finset.univ = BitVec.ofNat 32 f := by
  have hi : ∀ a, a < 2 ^ 31 → (BitVec.ofNat 32 a).toInt = a := fun a ha => by
    rw [BitVec.toInt_eq_toNat_of_lt (by rw [BitVec.toNat_ofNat]; omega), BitVec.toNat_ofNat, Nat.mod_eq_of_lt (by omega)]
  simp only [fold_max_eq d f hf.1]
  refine (fold_minsi_eq _ _ f ?_ fun k => ?_).trans (if_pos rfl)
  · rw [if_pos rfl, hi _ (by omega)]
    show (f.val : ℤ) ≤ (BitVec.ofNat 32 2147483647).toInt
    rw [hi _ (by omega)]; omega
  · rw [if_pos rfl, hi _ (by omega)]
    split
    · next h =>
      rw [hi _ (by omega)]
      by_contra hlt
      exact absurd (hf.2 k (by rw [Fin.lt_def]; omega)) (by rw [h]; exact lt_irrefl _)
    · rw [hi _ hN]; omega

/-- A left fold that keeps the better of two, by a transitive and total order: the result is one of them and none is better. -/
theorem foldl_best {α : Type} (le : α → α → Prop) (hr : ∀ a, le a a) (ht : ∀ a b c, le a b → le b c → le a c) (f : α → α → α)
    (hf : ∀ a b, (f a b = a ∨ f a b = b) ∧ le a (f a b) ∧ le b (f a b)) :
    ∀ (l : List α) (a : α), (l.foldl f a = a ∨ l.foldl f a ∈ l) ∧ le a (l.foldl f a) ∧ ∀ b ∈ l, le b (l.foldl f a)
  | [], a => ⟨.inl rfl, hr a, fun b h => absurd h List.not_mem_nil⟩
  | x :: l, a => by
    rw [List.foldl_cons]
    obtain ⟨h1, h2, h3⟩ := foldl_best le hr ht f hf l (f a x)
    obtain ⟨g1, g2, g3⟩ := hf a x
    refine ⟨?_, ht _ _ _ g2 h2, fun b hb => ?_⟩
    · rcases h1 with h1 | h1
      · rw [h1]; rcases g1 with g1 | g1
        · exact .inl g1
        · rw [g1]; exact .inr List.mem_cons_self
      · exact .inr (List.mem_cons_of_mem _ h1)
    · rcases List.mem_cons.mp hb with rfl | hb
      · exact ht _ _ _ g3 h2
      · exact h3 b hb

/-- What a pure counted loop computes has any property that its start has and each trip keeps. -/
theorem fold_induct {σ : Type} (P : ℕ → σ → Prop) : ∀ (n : ℕ) (g : Fin n → σ → σ) (init : σ) (_ : P 0 init)
    (_ : ∀ (k : Fin n) s, P k.val s → P (k.val + 1) (g k s)), P n ((List.finRange n).foldl (fun acc k => g k acc) init)
  | 0, g, init, h0, _ => by simpa using h0
  | n + 1, g, init, h0, hs => by
    rw [List.finRange_succ_last, List.foldl_append, List.foldl_map]
    exact hs (Fin.last n) _ (fold_induct P n (fun k => g k.castSucc) init h0 fun k s h => hs k.castSucc s h)

end Cert.Lem

end
-- ==== Proof.Layer1.lean ====
/-
  The kernel's first layer at the extended reals: what the region leaves in its result arrays, in terms of the arrays it reads.
-/
module

public import proofs.«01_k».proof.Proof.Gen.KernelIdeal.Frame
public import proofs.«01_k».proof.Proof.Lemmas
public import Idealize.ShloMosaic.Lib.Pipeline.Value
public import Idealize.ShloMosaic.Lib.WritesUnit
public import Idealize.ShloMosaic.Lib.StableHlo.ReadAt

@[expose] public section

set_option maxRecDepth 16384

noncomputable section

namespace Cert.Layer

open Cert.KernelIdeal Cert.KernelIdeal.Gen Idealize.ShloMosaic Idealize.ShloMosaic.TcCoe Idealize.SL.Sem
open Idealize.ShloMosaic.Pipeline (Dat)

/-- An index whose middle extent is one. -/
theorem mid_one {A N : ℕ} (i : (⟨3, ![A, 1, N]⟩ : Shape).Idx) : ∃ (t : Fin A) (o : Fin N), i = ix3 t 0 o := ⟨i 0, i 2, funext fun a => by
  match a with
  | ⟨0, _⟩ => rfl
  | ⟨1, _⟩ => exact Fin.ext (by have h : (i 1).val < 1 := (i 1).isLt; show (i 1).val = 0; omega)
  | ⟨2, _⟩ => rfl⟩

/-- An index whose first two extents are one. -/
theorem one_one {N : ℕ} (i : (⟨3, ![1, 1, N]⟩ : Shape).Idx) : ∃ o : Fin N, i = ix3 0 0 o := ⟨i 2, funext fun a => by
  match a with
  | ⟨0, _⟩ => exact Fin.ext (by have h : (i 0).val < 1 := (i 0).isLt; show (i 0).val = 0; omega)
  | ⟨1, _⟩ => exact Fin.ext (by have h : (i 1).val < 1 := (i 1).isLt; show (i 1).val = 0; omega)
  | ⟨2, _⟩ => rfl⟩

/-- The activation as the kernel writes it. -/
def gelu (n : EReal) : EReal :=
  Ideal.ofBits .f32 0x3F000000#32 * n * (Ideal.ofBits .f32 0x3F800000#32 + Ideal.erf (n * Ideal.ofBits .f32 0x3F3504F3#32))

/-- One element of the layer. -/
def y1 {R : ℕ} (x : Vec Ideal ⟨2, ![R, 256]⟩ .f32) (w : Vec Ideal S256x128 .f32) (b : Vec Ideal S1x128 .f32) (r : Fin R) (o : Fin 128) : EReal :=
  (∑ e : Fin 256, x (ix2 r e) * w (ix2 e o)) + b (ix2 0 o)

/-- The value stored, at an index of the tile. -/
theorem pay1_apply (x : Vec Ideal S512x256 .f32) (w : Vec Ideal S256x128 .f32) (b : Vec Ideal S1x128 .f32) (q : Fin 512) (o : Fin 128) :
    k1_pay1 x w b (ix2 q o) = y1 x w b q o := by
  unfold y1
  pointwise [k1_pay1]

/-- A tile's column sums. -/
theorem pay1_sum (x : Vec Ideal S512x256 .f32) (w : Vec Ideal S256x128 .f32) (b : Vec Ideal S1x128 .f32) (o : Fin 128) :
    k1_pay2 x w b (ix3 0 0 o) = ∑ q : Fin 512, y1 x w b q o := by
  simp only [← pay1_apply]
  pointwise [k1_pay2]

/-- A tile's column sums of squares. -/
theorem pay1_square (x : Vec Ideal S512x256 .f32) (w : Vec Ideal S256x128 .f32) (b : Vec Ideal S1x128 .f32) (o : Fin 128) :
    k1_pay3 x w b (ix3 0 0 o) = ∑ q : Fin 512, y1 x w b q o * y1 x w b q o := by
  simp only [← pay1_apply]
  pointwise [k1_pay3]

/-- The origin in two dimensions. -/
theorem zero2_1 : (![0, 0] : Fin 2 → ℕ) = 0 := by decide
/-- The origin in three dimensions. -/
theorem zero3_1 : (![0, 0, 0] : Fin 3 → ℕ) = 0 := by decide

/-- What one step leaves in the tile of values. -/
theorem out1_4_apply (x0 : Vec Ideal S512x256 .f32) (x1 : Vec Ideal S256x128 .f32) (x2 : Vec Ideal S1x128 .f32) (x3 : Vec Ideal S2x256 .f32) (q : Fin 512) (o : Fin 128) :
    out1_4 x0 x1 x2 x3 (ix2 q o) = y1 x0 x1 x2 q o := by
  unfold out1_4
  rw [View.canon_unit_zero zero2_1, View.ld_unit_zero zero2_1, View.ld_unit_zero zero2_1, View.ld_unit_zero zero2_1]
  exact pay1_apply x0 x1 x2 q o

/-- What one step leaves in the tile of sums. -/
theorem out1_5_apply (x0 : Vec Ideal S512x256 .f32) (x1 : Vec Ideal S256x128 .f32) (x2 : Vec Ideal S1x128 .f32) (x3 : Vec Ideal S2x256 .f32) (o : Fin 128) :
    out1_5 x0 x1 x2 x3 (ix3 0 0 o) = ∑ q : Fin 512, y1 x0 x1 x2 q o := by
  unfold out1_5
  rw [View.canon_unit_zero zero3_1, View.ld_unit_zero zero2_1, View.ld_unit_zero zero2_1, View.ld_unit_zero zero2_1]
  exact pay1_sum x0 x1 x2 o

/-- What one step leaves in the tile of sums of squares. -/
theorem out1_6_apply (x0 : Vec Ideal S512x256 .f32) (x1 : Vec Ideal S256x128 .f32) (x2 : Vec Ideal S1x128 .f32) (x3 : Vec Ideal S2x256 .f32) (o : Fin 128) :
    out1_6 x0 x1 x2 x3 (ix3 0 0 o) = ∑ q : Fin 512, y1 x0 x1 x2 q o * y1 x0 x1 x2 q o := by
  unfold out1_6
  rw [View.canon_unit_zero zero3_1, View.ld_unit_zero zero2_1, View.ld_unit_zero zero2_1, View.ld_unit_zero zero2_1]
  exact pay1_square x0 x1 x2 o

/-- Which block each window holds at a step. -/
theorem index1 : ∀ t : Fin cfg1.N, (win1_0.index t (0 : Fin 2) = t.val ∧ win1_0.index t (1 : Fin 2) = 0)
    ∧ (win1_1.index t (0 : Fin 2) = 0 ∧ win1_1.index t (1 : Fin 2) = 0) ∧ (win1_2.index t (0 : Fin 2) = 0 ∧ win1_2.index t (1 : Fin 2) = 0)
    ∧ (win1_3.index t (0 : Fin 2) = 0 ∧ win1_3.index t (1 : Fin 2) = 0) ∧ (win1_4.index t (0 : Fin 2) = t.val ∧ win1_4.index t (1 : Fin 2) = 0)
    ∧ (win1_5.index t (0 : Fin 3) = t.val ∧ win1_5.index t (1 : Fin 3) = 0 ∧ win1_5.index t (2 : Fin 3) = 0)
    ∧ (win1_6.index t (0 : Fin 3) = t.val ∧ win1_6.index t (1 : Fin 3) = 0 ∧ win1_6.index t (2 : Fin 3) = 0) :=
  (by decide +kernel : ∀ t : Fin grid1.N, _)

/-- Row `q` of block `t`. -/
abbrev row1 (t : Fin cfg1.N) (q : Fin 512) : Fin 131072 := ⟨t.val * 512 + q.val, by have h : t.val < 256 := t.isLt; omega⟩

/-- Where an element of the block lies in its array. -/
theorem emb1_0 (t : Fin cfg1.N) (q : Fin 512) (e : Fin 256) : ((cfg1.win 0).blk t).view.emb (ix2 q e) = ix2 (row1 t q) e := by
  obtain ⟨⟨e0, e1⟩, -⟩ := index1 t
  funext a; apply Fin.ext
  match a with
  | ⟨0, _⟩ => show win1_0.index t (0 : Fin 2) * 512 + 1 * q.val = t.val * 512 + q.val; omega
  | ⟨1, _⟩ => show win1_0.index t (1 : Fin 2) * 256 + 1 * e.val = e.val; omega

/-- Where an element of the block lies in its array. -/
theorem emb1_4 (t : Fin cfg1.N) (q : Fin 512) (e : Fin 128) : ((cfg1.win 4).blk t).view.emb (ix2 q e) = ix2 (row1 t q) e := by
  obtain ⟨-, -, -, -, ⟨e0, e1⟩, -⟩ := index1 t
  funext a; apply Fin.ext
  match a with
  | ⟨0, _⟩ => show win1_4.index t (0 : Fin 2) * 512 + 1 * q.val = t.val * 512 + q.val; omega
  | ⟨1, _⟩ => show win1_4.index t (1 : Fin 2) * 128 + 1 * e.val = e.val; omega

/-- Where an element of the block lies in its array. -/
theorem emb1_1 (t : Fin cfg1.N) (j : S256x128.Idx) : ((cfg1.win 1).blk t).view.emb j = j := by
  obtain ⟨-, ⟨e0, e1⟩, -⟩ := index1 t
  funext a; apply Fin.ext
  match a with
  | ⟨0, _⟩ => show win1_1.index t (0 : Fin 2) * 256 + 1 * (j 0).val = (j 0).val; omega
  | ⟨1, _⟩ => show win1_1.index t (1 : Fin 2) * 128 + 1 * (j 1).val = (j 1).val; omega

/-- Where an element of the block lies in its array. -/
theorem emb1_2 (t : Fin cfg1.N) (j : S1x128.Idx) : ((cfg1.win 2).blk t).view.emb j = j := by
  obtain ⟨-, -, ⟨e0, e1⟩, -⟩ := index1 t
  funext a; apply Fin.ext
  match a with
  | ⟨0, _⟩ => show win1_2.index t (0 : Fin 2) * 1 + 1 * (j 0).val = (j 0).val; omega
  | ⟨1, _⟩ => show win1_2.index t (1 : Fin 2) * 128 + 1 * (j 1).val = (j 1).val; omega

/-- Where an element of the block lies in its array. -/
theorem emb1_5 (t : Fin cfg1.N) (o : Fin 128) : ((cfg1.win 5).blk t).view.emb (ix3 0 0 o) = ix3 (⟨t.val, t.isLt⟩ : Fin 256) 0 o := by
  obtain ⟨-, -, -, -, -, ⟨e0, e1, e2⟩, -⟩ := index1 t
  funext a; apply Fin.ext
  match a with
  | ⟨0, _⟩ => show win1_5.index t (0 : Fin 3) * 1 + 1 * 0 = t.val; omega
  | ⟨1, _⟩ => show win1_5.index t (1 : Fin 3) * 1 + 1 * 0 = 0; omega
  | ⟨2, _⟩ => show win1_5.index t (2 : Fin 3) * 128 + 1 * o.val = o.val; omega

/-- Where an element of the block lies in its array. -/
theorem emb1_6 (t : Fin cfg1.N) (o : Fin 128) : ((cfg1.win 6).blk t).view.emb (ix3 0 0 o) = ix3 (⟨t.val, t.isLt⟩ : Fin 256) 0 o := by
  obtain ⟨-, -, -, -, -, -, ⟨e0, e1, e2⟩⟩ := index1 t
  funext a; apply Fin.ext
  match a with
  | ⟨0, _⟩ => show win1_6.index t (0 : Fin 3) * 1 + 1 * 0 = t.val; omega
  | ⟨1, _⟩ => show win1_6.index t (1 : Fin 3) * 1 + 1 * 0 = 0; omega
  | ⟨2, _⟩ => show win1_6.index t (2 : Fin 3) * 128 + 1 * o.val = o.val; omega

variable (V : (c : Dev nD) → (b : Ref sig .tc) → Buf (Elt Ideal) ((c : Thread nD τ).loc b))

/-- The block of rows that a step reads. -/
theorem iblk1_x (c : Dev nD) (t : Fin cfg1.N) (q : Fin 512) (e : Fin 256) : iblk1 V c 0 t (ix2 q e) = V c main_v41 (ix2 (row1 t q) e) :=
  congrArg (V c main_v41) (emb1_0 t q e)
/-- A step reads the whole weights. -/
theorem iblk1_w (c : Dev nD) (t : Fin cfg1.N) : iblk1 V c 1 t = V c main_v45 := funext fun j => congrArg (V c main_v45) (emb1_1 t j)
/-- A step reads the whole offset row. -/
theorem iblk1_b (c : Dev nD) (t : Fin cfg1.N) : iblk1 V c 2 t = V c main_v49 := funext fun j => congrArg (V c main_v49) (emb1_2 t j)

/-- A step's values at an element of its block. -/
theorem block1 (c : Dev nD) (t : Fin cfg1.N) (q : Fin 512) (o : Fin 128) :
    y1 (iblk1 V c 0 t) (iblk1 V c 1 t) (iblk1 V c 2 t) q o = y1 (V c main_v41) (V c main_v45) (V c main_v49) (row1 t q) o := by
  rw [iblk1_w, iblk1_b]
  unfold y1
  simp only [iblk1_x]

/-- The layer's rows. -/
theorem arr1_4 (c : Dev nD) : (dat1 V c).arrAt 4 cfg1.N = (fun i : S131072x128.Idx => y1 (V c main_v41) (V c main_v45) (V c main_v49) (i 0) (i 1) : S131072x128.Idx → EReal) := by
  refine Dat.arrAt_eq_of_cover (dat1 V c) 4 (fun i : S131072x128.Idx => y1 (V c main_v41) (V c main_v45) (V c main_v49) (i 0) (i 1) : S131072x128.Idx → EReal) (fun t _ => ?_) (fun i => ?_)
  · show (dat1 V c).after 4 t = _
    rw [after1_4]
    funext j
    have hj : ∃ (q : Fin 512) (o : Fin 128), j = ix2 q o := ⟨j 0, j 1, funext fun a => by fin_cases a <;> rfl⟩
    obtain ⟨q, o, rfl⟩ := hj
    rw [out1_4_apply]
    refine (block1 V c t q o).trans ?_
    exact (congrArg (fun i : S131072x128.Idx => y1 (V c main_v41) (V c main_v45) (V c main_v49) (i 0) (i 1)) (emb1_4 t q o)).symm
  · have hi : ∃ (r : Fin 131072) (o : Fin 128), i = ix2 r o := ⟨i 0, i 1, funext fun a => by fin_cases a <;> rfl⟩
    obtain ⟨r, o, rfl⟩ := hi
    let t : Fin cfg1.N := ⟨r.val / 512, by show r.val / 512 < 256; omega⟩
    refine ⟨t, flush1_4 _, ?_⟩
    have h := ((cfg1.win 4).blk t).view.emb_mem_set (ix2 (⟨r.val % 512, by omega⟩ : Fin 512) o)
    rw [emb1_4] at h
    have e : row1 t ⟨r.val % 512, by omega⟩ = r := Fin.ext (by show r.val / 512 * 512 + r.val % 512 = r.val; omega)
    rwa [e] at h

/-- The sums of the rows of each block. -/
theorem arr1_5 (c : Dev nD) : (dat1 V c).arrAt 5 cfg1.N = (fun i : S256x1x128.Idx => ∑ q : Fin 512, y1 (V c main_v41) (V c main_v45) (V c main_v49) (row1 (i 0) q) (i 2) : S256x1x128.Idx → EReal) := by
  refine Dat.arrAt_eq_of_cover (dat1 V c) 5 ((fun i : S256x1x128.Idx => ∑ q : Fin 512, y1 (V c main_v41) (V c main_v45) (V c main_v49) (row1 (i 0) q) (i 2) : S256x1x128.Idx → EReal)) (fun t _ => ?_) (fun i => ?_)
  · show (dat1 V c).after 5 t = _
    rw [after1_5]
    funext j
    obtain ⟨o, rfl⟩ := one_one j
    rw [out1_5_apply]
    simp only [block1 V c t]
    exact (congrArg ((fun i : S256x1x128.Idx => ∑ q : Fin 512, y1 (V c main_v41) (V c main_v45) (V c main_v49) (row1 (i 0) q) (i 2) : S256x1x128.Idx → EReal)) (emb1_5 t o)).symm
  · obtain ⟨t, o, rfl⟩ := mid_one (A := 256) (N := 128) i
    refine ⟨(t : Fin cfg1.N), flush1_5 _, ?_⟩
    have h := ((cfg1.win 5).blk (t : Fin cfg1.N)).view.emb_mem_set (ix3 0 0 o)
    have e := emb1_5 (t : Fin cfg1.N) o
    exact e ▸ h

/-- The sums of their squares. -/
theorem arr1_6 (c : Dev nD) : (dat1 V c).arrAt 6 cfg1.N = (fun i : S256x1x128.Idx => ∑ q : Fin 512, y1 (V c main_v41) (V c main_v45) (V c main_v49) (row1 (i 0) q) (i 2) * y1 (V c main_v41) (V c main_v45) (V c main_v49) (row1 (i 0) q) (i 2) : S256x1x128.Idx → EReal) := by
  refine Dat.arrAt_eq_of_cover (dat1 V c) 6 ((fun i : S256x1x128.Idx => ∑ q : Fin 512, y1 (V c main_v41) (V c main_v45) (V c main_v49) (row1 (i 0) q) (i 2) * y1 (V c main_v41) (V c main_v45) (V c main_v49) (row1 (i 0) q) (i 2) : S256x1x128.Idx → EReal)) (fun t _ => ?_) (fun i => ?_)
  · show (dat1 V c).after 6 t = _
    rw [after1_6]
    funext j
    obtain ⟨o, rfl⟩ := one_one j
    rw [out1_6_apply]
    simp only [block1 V c t]
    exact (congrArg ((fun i : S256x1x128.Idx => ∑ q : Fin 512, y1 (V c main_v41) (V c main_v45) (V c main_v49) (row1 (i 0) q) (i 2) * y1 (V c main_v41) (V c main_v45) (V c main_v49) (row1 (i 0) q) (i 2) : S256x1x128.Idx → EReal)) (emb1_6 t o)).symm
  · obtain ⟨t, o, rfl⟩ := mid_one (A := 256) (N := 128) i
    refine ⟨(t : Fin cfg1.N), flush1_6 _, ?_⟩
    have h := ((cfg1.win 6).blk (t : Fin cfg1.N)).view.emb_mem_set (ix3 0 0 o)
    have e := emb1_6 (t : Fin cfg1.N) o
    exact e ▸ h

end Cert.Layer

end
-- ==== Proof.Norm.lean ====
/-
  Batch normalisation over the reals: the kernel's scale and shift, from the sums of the values and of their squares, against the
  reference's difference from the mean over the deviation; and the two forms of the activation.
-/
module

public import proofs.«01_k».proof.Proof.Layer1
public import Idealize.ShloMosaic.PureOps.Ideal.Laws

@[expose] public section

noncomputable section

namespace Cert.Norm

open Idealize.ShloMosaic

/-- A value that is neither infinity. -/
def Re (x : EReal) : Prop := ∃ r : ℝ, x = (r : EReal)

/-- A sum of reals, read among the extended ones. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The word of one. -/
theorem one_eq : (Ideal.ofBits .f32 0x3F800000#32 : EReal) = 1 := by simp [Ideal.ofBits, Ideal.ieee, -EReal.coe_mul]; norm_num

/-- The number of rows. -/
abbrev cnt : EReal := Ideal.ofBits .f32 0x48000000#32
/-- The constant added to a variance. -/
abbrev eps : EReal := Ideal.ofBits .f32 0x3727C5AC#32

/-- The number of rows as a real. -/
theorem cnt_eq : cnt = ((131072 : ℝ) : EReal) := by simp [cnt, Ideal.ofBits, Ideal.ieee, -EReal.coe_mul]; norm_num
/-- The added constant is a positive real. -/
theorem eps_pos : ∃ e : ℝ, 0 < e ∧ eps = (e : EReal) := by
  refine ⟨_, ?_, by simp [eps, Ideal.ofBits, Ideal.ieee, -EReal.coe_mul]; rfl⟩
  norm_num

/-- The activation as the reference writes it, through the complementary error function. -/
def geluC (n : EReal) : EReal :=
  Ideal.ofBits .f32 0x3F000000#32 * n * Ideal.erfc (-n * Ideal.ofBits .f32 0x3F3504F3#32)

/-- The two activations agree. -/
theorem geluC_eq (n : EReal) : geluC n = Layer.gelu n := by
  unfold geluC Layer.gelu
  rw [EReal.neg_mul, Ideal.erfc_neg, one_eq]

/-- A sum over rows, split into blocks. -/
theorem sum_split {m n N : ℕ} (h : N = m * n) (f : Fin N → EReal) (g : Fin m → Fin n → Fin N) (hg : ∀ a b, (g a b).val = a.val * n + b.val) :
    ∑ a, ∑ b, f (g a b) = ∑ r, f r := by
  subst h
  rw [← Fintype.sum_prod_type']
  exact Fintype.sum_equiv finProdFinEquiv _ _ fun ⟨a, b⟩ => congrArg f (Fin.ext (by
    rw [hg, finProdFinEquiv_apply_val, Nat.mul_comm, Nat.add_comm]))

/-- A quotient of reals. -/
theorem div_re {x y : ℝ} (h : y ≠ 0) : Ideal.div (x : EReal) (y : EReal) = ((x / y : ℝ) : EReal) := by
  rw [Ideal.div_coe h, ← EReal.coe_mul]; congr 1; ring

/-- The variance by squares is the variance by differences. -/
theorem variance (u : Fin 131072 → ℝ) :
    (∑ r, u r * u r) / 131072 - (∑ r, u r) / 131072 * ((∑ r, u r) / 131072)
      = (∑ r, (u r - (∑ r, u r) / 131072) * (u r - (∑ r, u r) / 131072)) / 131072 := by
  have e : ∀ M : ℝ, ∑ r, (u r - M) * (u r - M) = ∑ r, u r * u r - 2 * M * ∑ r, u r + 131072 * (M * M) := by
    intro M
    have : ∀ r, (u r - M) * (u r - M) = u r * u r - 2 * M * u r + M * M := fun r => by ring
    simp only [this, Finset.sum_add_distrib, Finset.sum_sub_distrib, ← Finset.mul_sum, Finset.sum_const, Finset.card_univ, Fintype.card_fin, nsmul_eq_mul]
    push_cast; ring
  rw [e]; ring

/-- The kernel's scale of a column, from its two sums. -/
def scale (a s g : EReal) : EReal := Ideal.div g (Ideal.sqrt (Ideal.div s cnt - Ideal.div a cnt * Ideal.div a cnt + eps))
/-- The kernel's shift of a column. -/
def shift (a s g b : EReal) : EReal := b - Ideal.div a cnt * scale a s g
/-- The reference's normalisation. -/
def normal (x m v g b : EReal) : EReal := Ideal.div (x - m) (Ideal.sqrt (v + eps)) * g + b

/-- The two normalisations of a column of real values agree. -/
theorem normal_eq (u : Fin 131072 → ℝ) (g x : ℝ) (b a s m v : EReal) (ha : a = ∑ r, (u r : EReal)) (hs : s = ∑ r, (u r : EReal) * (u r : EReal))
    (hm : m = Ideal.div (∑ r, (u r : EReal)) cnt) (hv : v = Ideal.div (∑ r, ((u r : EReal) - m) * ((u r : EReal) - m)) cnt) :
    (x : EReal) * scale a s g + shift a s g b = normal x m v g b := by
  obtain ⟨e, he, hE⟩ := eps_pos
  have h0 : (131072 : ℝ) ≠ 0 := by norm_num
  let M : ℝ := (∑ r, u r) / 131072
  let W : ℝ := (∑ r, (u r - M) * (u r - M)) / 131072
  have hW : 0 ≤ W := div_nonneg (Finset.sum_nonneg fun r _ => mul_self_nonneg _) (by norm_num)
  have hM : Ideal.div (∑ r, (u r : EReal)) cnt = (M : EReal) := by rw [← coe_sum, cnt_eq, div_re h0]
  have hv' : v = (W : EReal) := by
    rw [hv, hm, hM, cnt_eq]
    simp only [← EReal.coe_sub, ← EReal.coe_mul]
    rw [← coe_sum, div_re h0]
  have hk : Ideal.div s cnt - Ideal.div a cnt * Ideal.div a cnt = (W : EReal) := by
    rw [ha, hM, hs, cnt_eq]
    simp only [← EReal.coe_mul]
    rw [← coe_sum, div_re h0, ← EReal.coe_sub]
    exact congrArg _ (variance u)
  have hq : Ideal.sqrt ((W : EReal) + eps) = (Real.sqrt (W + e) : EReal) := by
    rw [hE, ← EReal.coe_add, Ideal.sqrt_coe, if_neg (by linarith)]
  have hp : Real.sqrt (W + e) ≠ 0 := (Real.sqrt_pos.2 (by linarith)).ne'
  have hsc : scale a s g = ((g / Real.sqrt (W + e) : ℝ) : EReal) := by unfold scale; rw [hk, hq, div_re hp]
  have hn : normal x m v g b = (((x - M) / Real.sqrt (W + e) * g : ℝ) : EReal) + b := by
    unfold normal; rw [hv', hq, hm, hM, ← EReal.coe_sub, div_re hp, ← EReal.coe_mul]
  unfold shift
  rw [hsc, hn, ha, hM, ← EReal.coe_mul, ← EReal.coe_mul, sub_eq_add_neg, add_comm b, ← add_assoc, ← EReal.coe_neg, ← EReal.coe_add]
  congr 2; ring

/-- The reference's mean of a column. -/
def mean (y : Fin 4096 → Fin 32 → EReal) : EReal := Ideal.div (∑ p, ∑ k, y p k) cnt
/-- The reference's variance of a column. -/
def var (y : Fin 4096 → Fin 32 → EReal) : EReal := Ideal.div (∑ p, ∑ k, (y p k - mean y) * (y p k - mean y)) cnt

/-- Row `p * 32 + k`. -/
abbrev row (p : Fin 4096) (k : Fin 32) : Fin 131072 := ⟨p.val * 32 + k.val, by omega⟩
/-- Row `t * 512 + q`. -/
abbrev tile (t : Fin 256) (q : Fin 512) : Fin 131072 := ⟨t.val * 512 + q.val, by omega⟩

/-- A real sum has real terms. -/
theorem re_of_add {x y : EReal} (h : Re (x + y)) : Re x ∧ Re y := by
  obtain ⟨r, hr⟩ := h
  induction x with
  | bot => simp at hr
  | coe a =>
    induction y with
    | bot => simp at hr
    | coe b => exact ⟨⟨a, rfl⟩, ⟨b, rfl⟩⟩
    | top => simp at hr
  | top =>
    induction y with
    | bot => simp at hr
    | coe b => simp at hr
    | top => simp at hr

/-- A real finite sum has real terms. -/
theorem re_of_sum {ι : Type*} (s : Finset ι) (f : ι → EReal) (h : Re (∑ i ∈ s, f i)) : ∀ i ∈ s, Re (f i) := by
  classical
  induction s using Finset.induction_on with
  | empty => intro i hi; simp at hi
  | insert a s ha ih =>
    rw [Finset.sum_insert ha] at h
    intro i hi
    rcases Finset.mem_insert.1 hi with rfl | hi
    · exact (re_of_add h).1
    · exact ih (re_of_add h).2 i hi

/-- A value that is not real is one of the two infinities. -/
theorem not_re {x : EReal} (h : ¬ Re x) : x = ⊥ ∨ x = ⊤ := by
  induction x with
  | bot => exact Or.inl rfl
  | coe r => exact absurd ⟨r, rfl⟩ h
  | top => exact Or.inr rfl

/-- The square of an infinity. -/
theorem square_top {x : EReal} (h : ¬ Re x) : x * x = ⊤ := by
  rcases not_re h with rfl | rfl <;> simp

/-- A square is not negative. -/
theorem square_nonneg (x : EReal) : 0 ≤ x * x := by
  by_cases h : Re x
  · obtain ⟨r, rfl⟩ := h
    rw [← EReal.coe_mul]; exact EReal.coe_nonneg.2 (mul_self_nonneg r)
  · rw [square_top h]; exact le_top

/-- The squares of values that are not all real add up to the upper infinity. -/
theorem squares_top {ι : Type*} [Fintype ι] (f : ι → EReal) (i : ι) (h : ¬ Re (f i)) : ∑ j, f j * f j = ⊤ :=
  top_le_iff.1 ((square_top h).symm.le.trans (Finset.single_le_sum (f := fun j => f j * f j) (fun j _ => square_nonneg _) (Finset.mem_univ i)))

/-- The upper infinity over the number of rows. -/
theorem div_cnt_top : Ideal.div ⊤ cnt = ⊤ := by
  rw [cnt_eq, Ideal.div_coe (by norm_num)]; exact EReal.top_mul_coe_of_pos (by norm_num)
/-- The lower infinity over the number of rows. -/
theorem div_cnt_bot : Ideal.div ⊥ cnt = ⊥ := by
  rw [cnt_eq, Ideal.div_coe (by norm_num)]; exact EReal.bot_mul_coe_of_pos (by norm_num)
/-- An infinity over the number of rows is one. -/
theorem div_cnt_not {x : EReal} (h : ¬ Re x) : ¬ Re (Ideal.div x cnt) := by
  rintro ⟨r, hr⟩
  rcases not_re h with rfl | rfl
  · rw [div_cnt_bot] at hr; exact EReal.bot_ne_coe r hr
  · rw [div_cnt_top] at hr; exact EReal.top_ne_coe r hr

/-- Anything over the upper infinity is zero. -/
theorem div_top (x : EReal) : Ideal.div x ⊤ = 0 := by simp [Ideal.div]
/-- Anything over the lower infinity is zero. -/
theorem div_bot (x : EReal) : Ideal.div x ⊥ = 0 := by simp [Ideal.div]

/-- Where a column holds an infinity, the kernel's scale is zero and its shift the offset. -/
theorem scale_infinite (u : Fin 131072 → EReal) (r : Fin 131072) (hr : ¬ Re (u r)) (g b x : EReal) :
    x * scale (∑ r, u r) (∑ r, u r * u r) g + shift (∑ r, u r) (∑ r, u r * u r) g b = b := by
  have ha : ¬ Re (Ideal.div (∑ r, u r) cnt) := div_cnt_not fun h => hr (re_of_sum _ _ h r (Finset.mem_univ r))
  have hs : scale (∑ r, u r) (∑ r, u r * u r) g = 0 := by
    obtain ⟨e, -, hE⟩ := eps_pos
    unfold scale
    rw [squares_top u r hr, div_cnt_top, square_top ha, hE, show ((⊤ : EReal) - ⊤ + (e : EReal)) = ⊥ by simp [sub_eq_add_neg]]
    exact div_bot g
  unfold shift
  rw [hs]; simp

/-- Where a column holds an infinity, the reference's normalised values are the offset. -/
theorem normal_infinite (u : Fin 131072 → EReal) (r : Fin 131072) (hr : ¬ Re (u r)) (g b x m v : EReal) (hm : m = Ideal.div (∑ r, u r) cnt)
    (hv : v = Ideal.div (∑ r, (u r - m) * (u r - m)) cnt) : normal x m v g b = b := by
  have ha : ¬ Re m := hm ▸ div_cnt_not fun h => hr (re_of_sum _ _ h r (Finset.mem_univ r))
  have hd : ¬ Re (u r - m) := fun h => ha (by
    obtain ⟨a, e⟩ := (re_of_add (sub_eq_add_neg (u r) m ▸ h)).2
    exact ⟨-a, by rw [EReal.coe_neg, ← e, neg_neg]⟩)
  have hv' : v = ⊤ := by rw [hv, squares_top (fun r => u r - m) r hd, div_cnt_top]
  obtain ⟨e, -, hE⟩ := eps_pos
  unfold normal
  rw [hv', hE, show ((⊤ : EReal) + (e : EReal)) = ⊤ by simp, show Ideal.sqrt ⊤ = ⊤ from rfl, div_top]
  simp

/-- One column: the kernel's normalised value from the tiles' sums is the reference's from its mean and variance, whatever the column holds. -/
theorem column (Y : Fin 131072 → EReal) (y : Fin 4096 → Fin 32 → EReal) (hy : ∀ p k, y p k = Y (row p k))
    (g b : EReal) (hg : Re g) (p : Fin 4096) (k : Fin 32) :
    Y (row p k) * scale (∑ t, ∑ q, Y (tile t q)) (∑ t, ∑ q, Y (tile t q) * Y (tile t q)) g
        + shift (∑ t, ∑ q, Y (tile t q)) (∑ t, ∑ q, Y (tile t q) * Y (tile t q)) g b
      = normal (y p k) (mean y) (var y) g b := by
  have e1 : ∑ t, ∑ q, Y (tile t q) = ∑ r, Y r := sum_split (by norm_num) Y tile fun _ _ => rfl
  have e2 : ∑ t, ∑ q, Y (tile t q) * Y (tile t q) = ∑ r, Y r * Y r := sum_split (by norm_num) (fun r => Y r * Y r) tile fun _ _ => rfl
  have e3 : mean y = Ideal.div (∑ r, Y r) cnt := by
    unfold mean
    simp only [hy]
    rw [sum_split (by norm_num) Y row fun _ _ => rfl]
  have e4 : var y = Ideal.div (∑ r, (Y r - mean y) * (Y r - mean y)) cnt := by
    unfold var
    simp only [hy]
    rw [sum_split (by norm_num) (fun r => (Y r - mean y) * (Y r - mean y)) row fun _ _ => rfl]
  rw [e1, e2]
  by_cases hY : ∀ r, Re (Y r)
  · choose u hu using hY
    obtain ⟨g', rfl⟩ := hg
    simp only [hu] at e3 e4 ⊢
    rw [hy, hu]
    exact normal_eq u g' (u (row p k)) b _ _ _ _ rfl rfl e3 e4
  · obtain ⟨r, hr⟩ := not_forall.1 hY
    exact (scale_infinite Y r hr g b _).trans (normal_infinite Y r hr g b _ _ _ e3 e4).symm

/-- A layer from the one before it: the kernel's, from its scale and shift, is the reference's, from its mean and variance. -/
theorem next {I O : ℕ} (Y : Fin 131072 → Fin I → EReal) (y : Fin 4096 → Fin 32 → Fin I → EReal)
    (hy : ∀ p k e, y p k e = Y (row p k) e) (g b : Fin I → EReal) (hg : ∀ e, Re (g e))
    (w : Fin I → Fin O → EReal) (d : Fin O → EReal) (p : Fin 4096) (k : Fin 32) (o : Fin O) :
    (∑ e, Layer.gelu (Y (row p k) e * scale (∑ t, ∑ q, Y (tile t q) e) (∑ t, ∑ q, Y (tile t q) e * Y (tile t q) e) (g e)
        + shift (∑ t, ∑ q, Y (tile t q) e) (∑ t, ∑ q, Y (tile t q) e * Y (tile t q) e) (g e) (b e)) * w e o) + d o
      = (∑ e, geluC (normal (y p k e) (mean fun p k => y p k e) (var fun p k => y p k e) (g e) (b e)) * w e o) + d o := by
  congr 1
  refine Finset.sum_congr rfl fun e _ => ?_
  rw [geluC_eq, ← column (fun r => Y r e) (fun p k => y p k e) (fun p k => hy p k e) (g e) (b e) (hg e) p k]

/-- A sum over a padded row, in its three parts. -/
theorem sum_pad (f : Fin 256 → EReal) : ∑ e, f e = (∑ e : Fin 3, f ⟨e, by omega⟩ + ∑ e : Fin 128, f ⟨3 + e, by omega⟩) + ∑ e : Fin 125, f ⟨131 + e, by omega⟩ := by
  have h1 := Fin.sum_univ_add (a := 131) (b := 125) f
  have h2 := Fin.sum_univ_add (a := 3) (b := 128) fun e => f (Fin.castAdd 125 e)
  exact h1.trans (congrArg (· + _) h2)

end Cert.Norm

end
-- ==== Proof.FpsKernel.lean ====
/-
  The first kernel (farthest-point sampling) at the extended reals: one trip of its loop at an index, and the result
  array in terms of the state that the loop ends with.
-/
module

public import proofs.«01_k».proof.Proof.Gen.KernelIdeal.Frame
public import proofs.«01_k».proof.Proof.Lemmas
public import Idealize.ShloMosaic.Lib.Pipeline.Value
public import Idealize.ShloMosaic.Lib.WritesUnit
public import Idealize.ShloMosaic.Lib.StableHlo.ReadAt

@[expose] public section

set_option maxRecDepth 16384

noncomputable section

namespace Cert.FpsKernel

open Cert.KernelIdeal Cert.KernelIdeal.Gen Idealize.ShloMosaic Idealize.ShloMosaic.TcCoe Idealize.SL.Sem Cert.Lem
open Idealize.ShloMosaic.Pipeline (Dat)

/-- The sampler's loop state: distances, next index, and the three planes of samples. -/
abbrev St := FVec Ideal S8x8192 .f32 × IVec S8x1 32 × FVec Ideal S8x512 .f32 × FVec Ideal S8x512 .f32 × FVec Ideal S8x512 .f32

/-- Plane `a` of the coordinates. -/
def pl0 (x : Vec Ideal S3x8x8192 .f32) : Vec Ideal S1x8x8192 .f32 := View.ld x (Rect.unit (s := S3x8x8192) ![0, 0, 0] S1x8x8192.size inb_S3x8x8192_S1x8x8192_0_0_0)
/-- The plane of second coordinates. -/
def pl1 (x : Vec Ideal S3x8x8192 .f32) : Vec Ideal S1x8x8192 .f32 := View.ld x (Rect.unit (s := S3x8x8192) ![1, 0, 0] S1x8x8192.size inb_S3x8x8192_S1x8x8192_1_0_0)
/-- The plane of third coordinates. -/
def pl2 (x : Vec Ideal S3x8x8192 .f32) : Vec Ideal S1x8x8192 .f32 := View.ld x (Rect.unit (s := S3x8x8192) ![2, 0, 0] S1x8x8192.size inb_S3x8x8192_S1x8x8192_2_0_0)

/-- The first plane at an index. -/
theorem pl0_apply (x : Vec Ideal S3x8x8192 .f32) (b : Fin 8) (n : Fin 8192) : pl0 x (ix3 0 b n) = x (ix3 0 b n) :=
  congrArg x (funext fun a => Fin.ext (by
    match a with
    | ⟨0, _⟩ => rfl
    | ⟨1, _⟩ => show 0 + 1 * b.val = b.val; omega
    | ⟨2, _⟩ => show 0 + 1 * n.val = n.val; omega))
/-- The second plane at an index. -/
theorem pl1_apply (x : Vec Ideal S3x8x8192 .f32) (b : Fin 8) (n : Fin 8192) : pl1 x (ix3 0 b n) = x (ix3 1 b n) :=
  congrArg x (funext fun a => Fin.ext (by
    match a with
    | ⟨0, _⟩ => rfl
    | ⟨1, _⟩ => show 0 + 1 * b.val = b.val; omega
    | ⟨2, _⟩ => show 0 + 1 * n.val = n.val; omega))
/-- The third plane at an index. -/
theorem pl2_apply (x : Vec Ideal S3x8x8192 .f32) (b : Fin 8) (n : Fin 8192) : pl2 x (ix3 0 b n) = x (ix3 2 b n) :=
  congrArg x (funext fun a => Fin.ext (by
    match a with
    | ⟨0, _⟩ => rfl
    | ⟨1, _⟩ => show 0 + 1 * b.val = b.val; omega
    | ⟨2, _⟩ => show 0 + 1 * n.val = n.val; omega))

/-- One trip of the loop. -/
def trip (x : Vec Ideal S3x8x8192 .f32) (k : Fin k0_t1_loop.trips) (s : St) : St :=
  (k0_pay15 (pl0 x) (pl1 x) (pl2 x) s.1 s.2.1, k0_pay16 (pl0 x) (pl1 x) (pl2 x) s.1 s.2.1, k0_pay12 (pl0 x) k s.2.1 s.2.2.1,
    k0_pay13 (pl1 x) k s.2.1 s.2.2.2.1, k0_pay14 (pl2 x) k s.2.1 s.2.2.2.2)

/-- Where the loop starts. -/
def start : St := (k0_pay4, k0_pay5, k0_pay6, k0_pay6, k0_pay6)

/-- A sum in which a single index is unmasked. -/
theorem masked_sum (g : Fin 8192 → EReal) (f : Fin 8192) :
    ∑ x, Scalar.select (IntOp.cmpi CmpIPredicate.eq (BitVec.ofNat 32 x.val) (BitVec.ofNat 32 f.val)) (g x) 0 = g f := by
  rw [Finset.sum_eq_single f]
  · have h : IntOp.cmpi CmpIPredicate.eq (BitVec.ofNat 32 f.val) (BitVec.ofNat 32 f.val) = 1#1 := by
      show BitVec.ofBool (_ == _) = 1#1; simp
    rw [h]; rfl
  · intro x _ hx
    have h : IntOp.cmpi CmpIPredicate.eq (BitVec.ofNat 32 x.val) (BitVec.ofNat 32 f.val) = 0#1 := by
      show BitVec.ofBool (_ == _) = 0#1
      have hne : BitVec.ofNat 32 x.val ≠ BitVec.ofNat 32 f.val := fun e => hx (Fin.ext (by
        have e' := congrArg BitVec.toNat e
        rw [BitVec.toNat_ofNat, BitVec.toNat_ofNat, Nat.mod_eq_of_lt (by omega), Nat.mod_eq_of_lt (by omega)] at e'
        exact e'))
      rw [beq_eq_false_iff_ne.mpr hne]; rfl
    rw [h]; rfl
  · intro h; exact absurd (Finset.mem_univ _) h

/-- The masked sum picks the next point's first coordinate. -/
theorem pay9_apply (v : Vec Ideal S1x8x8192 .f32) (F : IVec S8x1 32) (b : Fin 8) (f : Fin 8192) (hf : F (ix2 b 0) = BitVec.ofNat 32 f) :
    k0_pay9 v F (ix2 b 0) = v (ix3 0 b f) := by
  pointwise [k0_pay9, k0_pay8, k0_pay1]
  rw [hf]; exact masked_sum (fun n => v (ix3 0 b n)) f
/-- The masked sum picks the next point's second coordinate. -/
theorem pay10_apply (v : Vec Ideal S1x8x8192 .f32) (F : IVec S8x1 32) (b : Fin 8) (f : Fin 8192) (hf : F (ix2 b 0) = BitVec.ofNat 32 f) :
    k0_pay10 v F (ix2 b 0) = v (ix3 0 b f) := by
  pointwise [k0_pay10, k0_pay8, k0_pay2]
  rw [hf]; exact masked_sum (fun n => v (ix3 0 b n)) f
/-- The masked sum picks the next point's third coordinate. -/
theorem pay11_apply (v : Vec Ideal S1x8x8192 .f32) (F : IVec S8x1 32) (b : Fin 8) (f : Fin 8192) (hf : F (ix2 b 0) = BitVec.ofNat 32 f) :
    k0_pay11 v F (ix2 b 0) = v (ix3 0 b f) := by
  pointwise [k0_pay11, k0_pay8, k0_pay3]
  rw [hf]; exact masked_sum (fun n => v (ix3 0 b n)) f

/-- The sampler makes 512 rounds. -/
theorem trips_eq : k0_t1_loop.trips = 512 := by decide +kernel

/-- The round counter as a word. -/
theorem iv_eq (k : ℕ) : Scf.iv 0#32 1#32 k = BitVec.ofNat 32 k := by
  unfold Scf.iv; simp

/-- A round's column is the one whose index is the counter. -/
theorem col_select {α : Type} (j k : ℕ) (hj : j < 512) (hk : k < 512) (x y : α) :
    Scalar.select (IntOp.cmpi CmpIPredicate.eq (BitVec.ofNat 32 j) (Scf.iv 0#32 1#32 k)) x y = if j = k then x else y := by
  rw [iv_eq]
  have h : IntOp.cmpi CmpIPredicate.eq (BitVec.ofNat 32 j) (BitVec.ofNat 32 k) = BitVec.ofBool (decide (j = k)) := by
    show BitVec.ofBool (_ == _) = _
    congr 1
    rw [Bool.beq_eq_decide_eq]; congr 1
    rw [eq_iff_iff]
    refine ⟨fun e => ?_, fun e => by rw [e]⟩
    have e' := congrArg BitVec.toNat e
    rwa [BitVec.toNat_ofNat, BitVec.toNat_ofNat, Nat.mod_eq_of_lt (by omega), Nat.mod_eq_of_lt (by omega)] at e'
  rw [h]
  by_cases e : j = k <;> simp [e, Scalar.select]

/-- A trip at an index, its farthest points words of `f`. -/
theorem trip_dist (x : Vec Ideal S3x8x8192 .f32) (k : Fin k0_t1_loop.trips) (s : St) (b : Fin 8) (n f : Fin 8192) (hf : s.2.1 (ix2 b 0) = BitVec.ofNat 32 f) :
    (trip x k s).1 (ix2 b n) = min (s.1 (ix2 b n)) ((x (ix3 0 b n) - x (ix3 0 b f)) * (x (ix3 0 b n) - x (ix3 0 b f))
      + (x (ix3 1 b n) - x (ix3 1 b f)) * (x (ix3 1 b n) - x (ix3 1 b f)) + (x (ix3 2 b n) - x (ix3 2 b f)) * (x (ix3 2 b n) - x (ix3 2 b f))) := by
  show k0_pay15 (pl0 x) (pl1 x) (pl2 x) s.1 s.2.1 (ix2 b n) = _
  pointwise [k0_pay15, k0_pay1, k0_pay2, k0_pay3]
  rw [pay9_apply _ _ b f hf, pay10_apply _ _ b f hf, pay11_apply _ _ b f hf]
  simp only [pl0_apply, pl1_apply, pl2_apply]

/-- The next index computed in a round is the first farthest. -/
theorem pay16_apply (v v2 v4 : Vec Ideal S1x8x8192 .f32) (F : IVec S8x1 32) (a : FVec Ideal S8x8192 .f32) (b : Fin 8) (f : Fin 8192)
    (hf : IsArg (fun n => k0_pay15 v v2 v4 a F (ix2 b n)) f) : k0_pay16 v v2 v4 a F (ix2 b 0) = BitVec.ofNat 32 f := by
  pointwise [k0_pay16]
  have e : Ideal.ofBits FTy.f32 4286578688#32 = (⊥ : EReal) := by rfl
  rw [e]
  exact arg_kernel _ f hf 8192 (by omega) (by omega)

/-- The next index after a round is the first farthest. -/
theorem trip_far (x : Vec Ideal S3x8x8192 .f32) (k : Fin k0_t1_loop.trips) (s : St) (b : Fin 8) (f : Fin 8192)
    (hf : IsArg (fun n => (trip x k s).1 (ix2 b n)) f) : (trip x k s).2.1 (ix2 b 0) = BitVec.ofNat 32 f := by
  have e1 : (trip x k s).1 = k0_pay15 (pl0 x) (pl1 x) (pl2 x) s.1 s.2.1 := by simp only [trip]
  have e2 : (trip x k s).2.1 = k0_pay16 (pl0 x) (pl1 x) (pl2 x) s.1 s.2.1 := by simp only [trip]
  rw [e1] at hf
  rw [e2]
  exact pay16_apply (pl0 x) (pl1 x) (pl2 x) s.2.1 s.1 b f hf

/-- The first coordinates after a round. -/
theorem trip_x (x : Vec Ideal S3x8x8192 .f32) (k : Fin k0_t1_loop.trips) (s : St) (b : Fin 8) (f : Fin 8192) (hf : s.2.1 (ix2 b 0) = BitVec.ofNat 32 f)
    (j : Fin 512) : (trip x k s).2.2.1 (ix2 b j) = if j.val = k.val then x (ix3 0 b f) else s.2.2.1 (ix2 b j) := by
  show k0_pay12 (pl0 x) k s.2.1 s.2.2.1 (ix2 b j) = _
  pointwise [k0_pay12, k0_pay7]
  rw [pay9_apply _ _ b f hf, pl0_apply]; exact col_select _ _ j.isLt (trips_eq ▸ k.isLt) _ _
/-- The second coordinates after a round. -/
theorem trip_y (x : Vec Ideal S3x8x8192 .f32) (k : Fin k0_t1_loop.trips) (s : St) (b : Fin 8) (f : Fin 8192) (hf : s.2.1 (ix2 b 0) = BitVec.ofNat 32 f)
    (j : Fin 512) : (trip x k s).2.2.2.1 (ix2 b j) = if j.val = k.val then x (ix3 1 b f) else s.2.2.2.1 (ix2 b j) := by
  show k0_pay13 (pl1 x) k s.2.1 s.2.2.2.1 (ix2 b j) = _
  pointwise [k0_pay13, k0_pay7]
  rw [pay10_apply _ _ b f hf, pl1_apply]; exact col_select _ _ j.isLt (trips_eq ▸ k.isLt) _ _
/-- The third coordinates after a round. -/
theorem trip_z (x : Vec Ideal S3x8x8192 .f32) (k : Fin k0_t1_loop.trips) (s : St) (b : Fin 8) (f : Fin 8192) (hf : s.2.1 (ix2 b 0) = BitVec.ofNat 32 f)
    (j : Fin 512) : (trip x k s).2.2.2.2 (ix2 b j) = if j.val = k.val then x (ix3 2 b f) else s.2.2.2.2 (ix2 b j) := by
  show k0_pay14 (pl2 x) k s.2.1 s.2.2.2.2 (ix2 b j) = _
  pointwise [k0_pay14, k0_pay7]
  rw [pay11_apply _ _ b f hf, pl2_apply]; exact col_select _ _ j.isLt (trips_eq ▸ k.isLt) _ _

/-- What the loop ends with. -/
def final (x : Vec Ideal S3x8x8192 .f32) : St := Scf.fold (trip x) start

/-- The three planes of what the body leaves. -/
def planes (x : Vec Ideal S3x8x8192 .f32) : Vec Ideal S3x8x512 .f32 := fun i =>
  if (i 0).val = 0 then (final x).2.2.1 (ix2 (i 1) (i 2)) else if (i 0).val = 1 then (final x).2.2.2.1 (ix2 (i 1) (i 2)) else (final x).2.2.2.2 (ix2 (i 1) (i 2))

/-- The sampler's step leaves the planes of samples. -/
theorem out_eq (c : Dev nD) (a0 : Memref sig .tc .vmem S3x8x8192 .f32) (h0 : a0.IsWhole) (a1 : Memref sig .tc .vmem S3x8x512 .f32) (h1 : a1.IsWhole)
   (x : Vec Ideal S3x8x8192 .f32) : out0_A_1 c a0 h0 a1 h1 x = planes x := by
  unfold out0_A_1
  unfold kernelRun0_A
  dsimp only
  sl_unfold_words
  simp only [View.readAt_eq_ld, h0.read_unread]
  have p17 : ∀ (a : FVec Ideal S8x512 .f32) (b : Fin 8) (j : Fin 512), k0_pay17 a (ix3 0 b j) = a (ix2 b j) := fun a b j => by pointwise [k0_pay17]
  have p18 : ∀ (a : FVec Ideal S8x512 .f32) (b : Fin 8) (j : Fin 512), k0_pay18 a (ix3 0 b j) = a (ix2 b j) := fun a b j => by pointwise [k0_pay18]
  have p19 : ∀ (a : FVec Ideal S8x512 .f32) (b : Fin 8) (j : Fin 512), k0_pay19 a (ix3 0 b j) = a (ix2 b j) := fun a b j => by pointwise [k0_pay19]
  have key : ∀ (e : Fin 3) (b : Fin 8) (j : Fin 512), planes x (ix3 e b j) = if e.val = 0 then (final x).2.2.1 (ix2 b j) else if e.val = 1 then
    (final x).2.2.2.1 (ix2 b j) else (final x).2.2.2.2 (ix2 b j) := fun _ _ _ => rfl
  funext i
  have hi : ∃ (e : Fin 3) (b : Fin 8) (j : Fin 512), i = ix3 e b j := ⟨i 0, i 1, i 2, funext fun a => by fin_cases a <;> rfl⟩
  obtain ⟨e, b, j, rfl⟩ := hi
  rw [key]
  by_cases e2 : e.val = 2
  · rw [if_neg (by omega), if_neg (by omega), ← p19 (final x).2.2.2.2]
    exact View.read_writes_cons_unit_of_mem _ _ _ _ _ (ix3 e b j) (ix3 0 b j) rfl (fun a => by
      match a with
      | ⟨0, _⟩ => exact e2
      | ⟨1, _⟩ => exact (Nat.zero_add _).symm
      | ⟨2, _⟩ => exact (Nat.zero_add _).symm)
  refine (View.read_writes_cons_unit_of_not_mem _ _ _ _ _ (ix3 e b j) rfl 0 (.inl (show e.val < 2 by omega))).trans ?_
  by_cases e1 : e.val = 1
  · rw [if_neg (by omega), if_pos e1, ← p18 (final x).2.2.2.1]
    exact View.read_writes_cons_unit_of_mem _ _ _ _ _ (ix3 e b j) (ix3 0 b j) rfl (fun a => by
      match a with
      | ⟨0, _⟩ => exact e1
      | ⟨1, _⟩ => exact (Nat.zero_add _).symm
      | ⟨2, _⟩ => exact (Nat.zero_add _).symm)
  refine (View.read_writes_cons_unit_of_not_mem _ _ _ _ _ (ix3 e b j) rfl 0 (.inl (show e.val < 1 by omega))).trans ?_
  rw [if_pos (by omega), ← p17 (final x).2.2.1]
  exact View.read_writes_cons_unit_of_mem _ _ _ _ _ (ix3 e b j) (ix3 0 b j) rfl (fun a => by
      match a with
      | ⟨0, _⟩ => show e.val = 0 + 0; omega
      | ⟨1, _⟩ => exact (Nat.zero_add _).symm
      | ⟨2, _⟩ => exact (Nat.zero_add _).symm)

variable (V : (c : Dev nD) → (b : Ref sig .tc) → Buf (Elt Ideal) ((c : Thread nD τ).loc b))

/-- The sampler's windows are at the origin. -/
theorem idx_facts : ∀ t : Fin cfg0.N, win0_0.index t (0 : Fin 3) = 0 ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0 :=
  (by decide +kernel : ∀ t : Fin grid0.N, _)

/-- Where an element of the block lies in its array. -/
theorem emb0 (t : Fin cfg0.N) (j : S3x8x8192.Idx) : ((cfg0.win 0).blk t).view.emb j = j := by
  obtain ⟨e0, e1, e2, -⟩ := idx_facts t
  funext a; apply Fin.ext
  match a with
  | ⟨0, _⟩ => show win0_0.index t (0 : Fin 3) * 3 + 1 * (j 0).val = (j 0).val; omega
  | ⟨1, _⟩ => show win0_0.index t (1 : Fin 3) * 8 + 1 * (j 1).val = (j 1).val; omega
  | ⟨2, _⟩ => show win0_0.index t (2 : Fin 3) * 8192 + 1 * (j 2).val = (j 2).val; omega

/-- Where an element of the block lies in its array. -/
theorem emb1 (t : Fin cfg0.N) (j : S3x8x512.Idx) : ((cfg0.win 1).blk t).view.emb j = j := by
  obtain ⟨-, -, -, e0, e1, e2⟩ := idx_facts t
  funext a; apply Fin.ext
  match a with
  | ⟨0, _⟩ => show win0_1.index t (0 : Fin 3) * 3 + 1 * (j 0).val = (j 0).val; omega
  | ⟨1, _⟩ => show win0_1.index t (1 : Fin 3) * 8 + 1 * (j 1).val = (j 1).val; omega
  | ⟨2, _⟩ => show win0_1.index t (2 : Fin 3) * 512 + 1 * (j 2).val = (j 2).val; omega

/-- The sampler reads the whole of the points. -/
theorem iblk_eq (c : Dev nD) (t : Fin cfg0.N) : iblk0 V c 0 t = V c main_v0 := by
  funext j
  exact congrArg (V c main_v0) (emb0 t j)

/-- The sampler's array holds the planes of samples. -/
theorem arr_eq (c : Dev nD) : (dat0 V c).arrAt 1 cfg0.N = planes (V c main_v0) := by
  refine Dat.arrAt_eq_of_cover (dat0 V c) 1 (planes (V c main_v0)) (fun t _ => ?_) (fun i => ?_)
  · show (dat0 V c).after 1 t = _
    rw [after0_1]
    unfold outsAt0
    rw [out_eq, iblk_eq]
    funext j
    exact (congrArg (planes (V c main_v0)) (emb1 t j)).symm
  · refine ⟨(⟨0, by decide⟩ : Fin cfg0.N), flush0_1 _, ?_⟩
    have h := ((cfg0.win 1).blk (⟨0, by decide⟩ : Fin cfg0.N)).view.emb_mem_set i
    rwa [emb1] at h

end Cert.FpsKernel

end
-- ==== Proof.RefOps.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead

@[expose] public section

/-! The reference as lists of host operations: `pre0`, then the loop with body `body0 … body4`, then `post1 … post20`.
    Beside each list, the buffers it writes. -/

set_option maxRecDepth 4000

noncomputable section

namespace Cert.RefRun

open Cert.ReferenceIdeal Cert.ReferenceIdeal.Gen
open Idealize.ShloMosaic Idealize.ShloMosaic.TcCoe Idealize.ShloMosaic.StableHlo
open Idealize.SL Idealize.SL.RA Idealize.SL.BI
open scoped Idealize.SL.BI
open Idealize.SL.BI.BIBase Idealize.SL.Sem

variable {F : FTy → Type} [FloatOps F]

/-- The reference before its loop: the start state. -/
abbrev pre0 : List (HloOp τ sig (Elt F)) :=
  [ StableHlo.nullary main_c (constantI S_ 32 0#32),
    StableHlo.unary main_c main_v0 (broadcastInDim S8x512 ![] bcast_S_S8x512 : (⟨S_, .i32⟩ : BufTy).Contents (Elt F) → (⟨S8x512, .i32⟩ : BufTy).Contents (Elt F)),
    StableHlo.nullary main_cst (constant S_ .f32 0x7F800000#32),
    StableHlo.unary main_cst main_v1 (broadcastInDim S8x8192 ![] bcast_S_S8x8192 : (⟨S_, .f32⟩ : BufTy).Contents (Elt F) → (⟨S8x8192, .f32⟩ : BufTy).Contents (Elt F)),
    StableHlo.nullary main_c_0 (constantI S_ 32 0#32),
    StableHlo.unary main_c_0 main_v2 (broadcastInDim S8 ![] bcast_S_S8 : (⟨S_, .i32⟩ : BufTy).Contents (Elt F) → (⟨S8, .i32⟩ : BufTy).Contents (Elt F)),
    StableHlo.nullary main_c_1 (constantI S_ 32 0#32),
    StableHlo.nullary main_c_2 (constantI S_ 32 0#32),
    StableHlo.unary main_arg0 main_v3_0 id,
    StableHlo.unary main_c_2 main_v3_1 id,
    StableHlo.unary main_c_1 main_v3_2 id,
    StableHlo.unary main_v0 main_v3_3 id,
    StableHlo.unary main_v1 main_v3_4 id,
    StableHlo.unary main_v2 main_v3_5 id ]
/-- Every operation of `pre0` works on buffers of the TensorCore. -/
theorem pre0_sub : (pre0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
/-- The buffers `pre0` writes. -/
abbrev pre0_W : List (Ref sig .tc) := [main_c, main_v0, main_cst, main_v1, main_c_0, main_v2, main_c_1, main_c_2, main_v3_0, main_v3_1, main_v3_2, main_v3_3, main_v3_4, main_v3_5]
/-- `pre0` writes no buffer but those listed. -/
theorem pre0_writes : (pre0 : List (HloOp τ sig (Elt F))).Forall fun op => op.writes ⊆ (pre0_W.map (Proc.devRef (τ := τ) .tc)).toFinset :=
  StableHlo.forall_writes_sub_of_map rfl
/-- `pre0` allocates nothing. -/
theorem pre0_fresh : (pre0 : List (HloOp τ sig (Elt F))).Forall fun op => op.fresh = ∅ :=
  StableHlo.forall_fresh_of_map rfl
/-- After the loop: the chosen indices, once per coordinate. -/
abbrev post1 : List (HloOp τ sig (Elt F)) :=
  [ StableHlo.unary main_v3_3 main_v4 (broadcastInDim S8x512x1 ![0, 1] bcast_S8x512_S8x512x1_0_1 : (⟨S8x512, .i32⟩ : BufTy).Contents (Elt F) → (⟨S8x512x1, .i32⟩ : BufTy).Contents (Elt F)),
    StableHlo.unary main_v4 main_v5 (broadcastInDim S8x512x3 ![0, 1, 2] bcast_S8x512x1_S8x512x3_0_1_2 : (⟨S8x512x1, .i32⟩ : BufTy).Contents (Elt F) → (⟨S8x512x3, .i32⟩ : BufTy).Contents (Elt F)) ]
/-- Every operation of `post1` works on buffers of the TensorCore. -/
theorem post1_sub : (post1 : List (HloOp τ sig (Elt F))).Forall fun op => op.bufs ⊆ StableHlo.tcRefs τ sig :=
  ⟨StableHlo.unary_bufs_sub .., StableHlo.unary_bufs_sub ..⟩
/-- The buffers `post1` writes. -/
abbrev post1_W : List (Ref sig .tc) := [main_v4, main_v5]
/-- `post1` writes no buffer but those listed. -/
theorem post1_writes : (post1 : List (HloOp τ sig (Elt F))).Forall fun op => op.writes ⊆ (post1_W.map (Proc.devRef (τ := τ) .tc)).toFinset :=
  StableHlo.forall_writes_sub_of_map rfl
/-- `post1` allocates nothing. -/
theorem post1_fresh : (post1 : List (HloOp τ sig (Elt F))).Forall fun op => op.fresh = ∅ :=
  StableHlo.forall_fresh_of_map rfl
/-- The chosen centres, read out of the points. -/
abbrev post2 : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S8x512x3, .i32⟩) (broadcastInDim S8x512x3 ![] bcast_S_S8x512x3),
    StableHlo.TRef.binary (.of main_v5 : StableHlo.TRef sig ⟨S8x512x3, .i32⟩) (.of main_call2_v0 : StableHlo.TRef sig ⟨S8x512x3, .i32⟩) (.of main_call2_v1 : StableHlo.TRef sig ⟨S8x512x3, .i1⟩) (cmpi .slt),
    StableHlo.TRef.nullary (.of main_call2_c_0 : StableHlo.TRef sig ⟨S_, .i32⟩) (constantI S_ 32 8192#32),
    StableHlo.TRef.unary (.of main_call2_c_0 : StableHlo.TRef sig ⟨S_, .i32⟩) (.of main_call2_v2 : StableHlo.TRef sig ⟨S8x512x3, .i32⟩) (broadcastInDim S8x512x3 ![] bcast_S_S8x512x3),
    StableHlo.TRef.binary (.of main_v5 : StableHlo.TRef sig ⟨S8x512x3, .i32⟩) (.of main_call2_v2 : StableHlo.TRef sig ⟨S8x512x3, .i32⟩) (.of main_call2_v3 : StableHlo.TRef sig ⟨S8x512x3, .i32⟩) addi,
    StableHlo.TRef.ternary (.of main_call2_v1 : StableHlo.TRef sig ⟨S8x512x3, .i1⟩) (.of main_call2_v3 : StableHlo.TRef sig ⟨S8x512x3, .i32⟩) (.of main_v5 : StableHlo.TRef sig ⟨S8x512x3, .i32⟩) (.of main_call2_v4 : StableHlo.TRef sig ⟨S8x512x3, .i32⟩) select,
    StableHlo.TRef.reshape (.of main_call2_v4 : StableHlo.TRef sig ⟨S8x512x3, .i32⟩) (.of main_call2_v5 : StableHlo.TRef sig ⟨S8x512x3x1, .i32⟩) (rfl : (.i32 : EltTy) = .i32) shapeCasts_S8x512x3_S8x512x3x1,
    StableHlo.TRef.nullary (.of main_call2_c_1 : StableHlo.TRef sig ⟨S1, .i32⟩) (constantI S1 32 8191#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S8x512x3x1, .i32⟩) (broadcastInDim S8x512x3x1 ![] bcast_S_S8x512x3x1),
    StableHlo.TRef.binary (.of main_call2_v5 : StableHlo.TRef sig ⟨S8x512x3x1, .i32⟩) (.of main_call2_v6 : StableHlo.TRef sig ⟨S8x512x3x1, .i32⟩) (.of main_call2_v7 : StableHlo.TRef sig ⟨S8x512x3x1, .i1⟩) (cmpi .sge),
    StableHlo.TRef.unary (.of main_call2_c_1 : StableHlo.TRef sig ⟨S1, .i32⟩) (.of main_call2_v8 : StableHlo.TRef sig ⟨S1x1x1x1, .i32⟩) (broadcastInDim S1x1x1x1 ![3] bcast_S1_S1x1x1x1_3),
    StableHlo.TRef.unary (.of main_call2_v8 : StableHlo.TRef sig ⟨S1x1x1x1, .i32⟩) (.of main_call2_v9 : StableHlo.TRef sig ⟨S8x512x3x1, .i32⟩) (broadcastInDim S8x512x3x1 ![0, 1, 2, 3] bcast_S1x1x1x1_S8x512x3x1_0_1_2_3),
    StableHlo.TRef.binary (.of main_call2_v5 : StableHlo.TRef sig ⟨S8x512x3x1, .i32⟩) (.of main_call2_v9 : StableHlo.TRef sig ⟨S8x512x3x1, .i32⟩) (.of main_call2_v10 : StableHlo.TRef sig ⟨S8x512x3x1, .i1⟩) (cmpi .sle),
    StableHlo.TRef.binary (.of main_call2_v7 : StableHlo.TRef sig ⟨S8x512x3x1, .i1⟩) (.of main_call2_v10 : StableHlo.TRef sig ⟨S8x512x3x1, .i1⟩) (.of main_call2_v11 : StableHlo.TRef sig ⟨S8x512x3x1, .i1⟩) andi,
    StableHlo.TRef.nullary (.of main_call2_c_3 : StableHlo.TRef sig ⟨S_, .i1⟩) (constantI S_ 1 1#1),
    StableHlo.TRef.binary (.of main_call2_v11 : StableHlo.TRef sig ⟨S8x512x3x1, .i1⟩) (.of main_call2_c_3 : StableHlo.TRef sig ⟨S_, .i1⟩) (.of main_call2_v12 : StableHlo.TRef sig ⟨S8x512x3, .i1⟩) (fun x v => Host.reduce IntOp.andi x v reducesTo_S8x512x3x1_S8x512x3_d3 h_S_),
    StableHlo.TRef.binary (.of main_arg0 : StableHlo.TRef sig ⟨S8x8192x3, .f32⟩) (.of main_call2_v5 : StableHlo.TRef sig ⟨S8x512x3x1, .i32⟩) (.of main_call2_v13 : StableHlo.TRef sig ⟨S8x512x3, .f32⟩) (fun x i => Host.gather gather_S8x8192x3_S8x512x3x1_S8x512x3_n_1_02_02_1_3_111 x i),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v14 : StableHlo.TRef sig ⟨S8x512x3, .f32⟩) (broadcastInDim S8x512x3 ![] bcast_S_S8x512x3),
    StableHlo.TRef.ternary (.of main_call2_v12 : StableHlo.TRef sig ⟨S8x512x3, .i1⟩) (.of main_call2_v13 : StableHlo.TRef sig ⟨S8x512x3, .f32⟩) (.of main_call2_v14 : StableHlo.TRef sig ⟨S8x512x3, .f32⟩) (.of main_v6 : StableHlo.TRef sig ⟨S8x512x3, .f32⟩) select ]
/-- Every operation of `post2` works on buffers of the TensorCore. -/
theorem post2_sub : (post2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
/-- The buffers `post2` writes. -/
abbrev post2_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v6]
/-- `post2` writes no buffer but those listed. -/
theorem post2_writes : (post2 : List (HloOp τ sig (Elt F))).Forall fun op => op.writes ⊆ (post2_W.map (Proc.devRef (τ := τ) .tc)).toFinset :=
  StableHlo.forall_writes_sub_of_map rfl
/-- `post2` allocates nothing. -/
theorem post2_fresh : (post2 : List (HloOp τ sig (Elt F))).Forall fun op => op.fresh = ∅ :=
  StableHlo.forall_fresh_of_map rfl
/-- Squared distances from centres to points. -/
abbrev post3 : List (HloOp τ sig (Elt F)) :=
  [ StableHlo.binary main_v6 main_v6 main_v7 (mulf : (⟨S8x512x3, .f32⟩ : BufTy).Contents (Elt F) → (⟨S8x512x3, .f32⟩ : BufTy).Contents (Elt F) → (⟨S8x512x3, .f32⟩ : BufTy).Contents (Elt F)),
    StableHlo.nullary main_cst_3 (constant S_ .f32 0x00000000#32),
    StableHlo.binary main_v7 main_cst_3 main_v8 ((fun x v => Host.reduceAdd x v reducesTo_S8x512x3_S8x512_d2 h_S_) : (⟨S8x512x3, .f32⟩ : BufTy).Contents (Elt F) → (⟨S_, .f32⟩ : BufTy).Contents (Elt F) → (⟨S8x512, .f32⟩ : BufTy).Contents (Elt F)),
    StableHlo.unary main_v8 main_v9 (broadcastInDim S8x512x1 ![0, 1] bcast_S8x512_S8x512x1_0_1 : (⟨S8x512, .f32⟩ : BufTy).Contents (Elt F) → (⟨S8x512x1, .f32⟩ : BufTy).Contents (Elt F)),
    StableHlo.binary main_arg0 main_arg0 main_v10 (mulf : (⟨S8x8192x3, .f32⟩ : BufTy).Contents (Elt F) → (⟨S8x8192x3, .f32⟩ : BufTy).Contents (Elt F) → (⟨S8x8192x3, .f32⟩ : BufTy).Contents (Elt F)),
    StableHlo.nullary main_cst_4 (constant S_ .f32 0x00000000#32),
    StableHlo.binary main_v10 main_cst_4 main_v11 ((fun x v => Host.reduceAdd x v reducesTo_S8x8192x3_S8x8192_d2 h_S_) : (⟨S8x8192x3, .f32⟩ : BufTy).Contents (Elt F) → (⟨S_, .f32⟩ : BufTy).Contents (Elt F) → (⟨S8x8192, .f32⟩ : BufTy).Contents (Elt F)),
    StableHlo.unary main_v11 main_v12 (broadcastInDim S8x1x8192 ![0, 2] bcast_S8x8192_S8x1x8192_0_2 : (⟨S8x8192, .f32⟩ : BufTy).Contents (Elt F) → (⟨S8x1x8192, .f32⟩ : BufTy).Contents (Elt F)),
    StableHlo.unary main_v9 main_v13 (broadcastInDim S8x512x8192 ![0, 1, 2] bcast_S8x512x1_S8x512x8192_0_1_2 : (⟨S8x512x1, .f32⟩ : BufTy).Contents (Elt F) → (⟨S8x512x8192, .f32⟩ : BufTy).Contents (Elt F)),
    StableHlo.unary main_v12 main_v14 (broadcastInDim S8x512x8192 ![0, 1, 2] bcast_S8x1x8192_S8x512x8192_0_1_2 : (⟨S8x1x8192, .f32⟩ : BufTy).Contents (Elt F) → (⟨S8x512x8192, .f32⟩ : BufTy).Contents (Elt F)),
    StableHlo.binary main_v13 main_v14 main_v15 (addf : (⟨S8x512x8192, .f32⟩ : BufTy).Contents (Elt F) → (⟨S8x512x8192, .f32⟩ : BufTy).Contents (Elt F) → (⟨S8x512x8192, .f32⟩ : BufTy).Contents (Elt F)),
    StableHlo.binary main_v6 main_arg0 main_v16 ((fun l r => Host.dotGeneral dot_S8x512x3_S8x8192x3_S8x512x8192_2_2_1_1_0_0 none l r) : (⟨S8x512x3, .f32⟩ : BufTy).Contents (Elt F) → (⟨S8x8192x3, .f32⟩ : BufTy).Contents (Elt F) → (⟨S8x512x8192, .f32⟩ : BufTy).Contents (Elt F)),
    StableHlo.nullary main_cst_5 (constant S_ .f32 0x40000000#32),
    StableHlo.unary main_cst_5 main_v17 (broadcastInDim S8x512x8192 ![] bcast_S_S8x512x8192 : (⟨S_, .f32⟩ : BufTy).Contents (Elt F) → (⟨S8x512x8192, .f32⟩ : BufTy).Contents (Elt F)),
    StableHlo.binary main_v17 main_v16 main_v18 (mulf : (⟨S8x512x8192, .f32⟩ : BufTy).Contents (Elt F) → (⟨S8x512x8192, .f32⟩ : BufTy).Contents (Elt F) → (⟨S8x512x8192, .f32⟩ : BufTy).Contents (Elt F)),
    StableHlo.binary main_v15 main_v18 main_v19 (subf : (⟨S8x512x8192, .f32⟩ : BufTy).Contents (Elt F) → (⟨S8x512x8192, .f32⟩ : BufTy).Contents (Elt F) → (⟨S8x512x8192, .f32⟩ : BufTy).Contents (Elt F)),
    StableHlo.nullary main_cst_6 (constant S_ .f32 0x00000000#32) ]
/-- Every operation of `post3` works on buffers of the TensorCore. -/
theorem post3_sub : (post3 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub ..⟩
/-- The buffers `post3` writes. -/
abbrev post3_W : List (Ref sig .tc) := [main_v7, main_cst_3, main_v8, main_v9, main_v10, main_cst_4, main_v11, main_v12, main_v13, main_v14, main_v15, main_v16, main_cst_5, main_v17, main_v18, main_v19, main_cst_6]
/-- `post3` writes no buffer but those listed. -/
theorem post3_writes : (post3 : List (HloOp τ sig (Elt F))).Forall fun op => op.writes ⊆ (post3_W.map (Proc.devRef (τ := τ) .tc)).toFinset :=
  StableHlo.forall_writes_sub_of_map rfl
/-- `post3` allocates nothing. -/
theorem post3_fresh : (post3 : List (HloOp τ sig (Elt F))).Forall fun op => op.fresh = ∅ :=
  StableHlo.forall_fresh_of_map rfl
/-- Those, clipped below at zero. -/
abbrev post4 : List (HloOp τ sig (Elt F)) :=
  [ StableHlo.TRef.unary (.of main_cst_6 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S8x512x8192, .f32⟩) (broadcastInDim S8x512x8192 ![] bcast_S_S8x512x8192),
    StableHlo.TRef.binary (.of main_call3_v1 : StableHlo.TRef sig ⟨S8x512x8192, .f32⟩) (.of main_v19 : StableHlo.TRef sig ⟨S8x512x8192, .f32⟩) (.of main_v20 : StableHlo.TRef sig ⟨S8x512x8192, .f32⟩) maximumf ]
/-- Every operation of `post4` works on buffers of the TensorCore. -/
theorem post4_sub : (post4 : List (HloOp τ sig (Elt F))).Forall fun op => op.bufs ⊆ StableHlo.tcRefs τ sig :=
  ⟨StableHlo.unary_bufs_sub .., StableHlo.unary_bufs_sub .., StableHlo.binary_bufs_sub ..⟩
/-- The buffers `post4` writes. -/
abbrev post4_W : List (Ref sig .tc) := [main_call3_v0, main_call3_v1, main_v20]
/-- `post4` writes no buffer but those listed. -/
theorem post4_writes : (post4 : List (HloOp τ sig (Elt F))).Forall fun op => op.writes ⊆ (post4_W.map (Proc.devRef (τ := τ) .tc)).toFinset :=
  StableHlo.forall_writes_sub_of_map rfl
/-- `post4` allocates nothing. -/
theorem post4_fresh : (post4 : List (HloOp τ sig (Elt F))).Forall fun op => op.fresh = ∅ :=
  StableHlo.forall_fresh_of_map rfl
/-- Distances and the test against the radius. -/
abbrev post5 : List (HloOp τ sig (Elt F)) :=
  [ StableHlo.unary main_v20 main_v21 (Host.sqrt : (⟨S8x512x8192, .f32⟩ : BufTy).Contents (Elt F) → (⟨S8x512x8192, .f32⟩ : BufTy).Contents (Elt F)),
    StableHlo.nullary main_cst_7 (constant S_ .f32 0x3E4CCCCD#32),
    StableHlo.unary main_cst_7 main_v22 (broadcastInDim S8x512x8192 ![] bcast_S_S8x512x8192 : (⟨S_, .f32⟩ : BufTy).Contents (Elt F) → (⟨S8x512x8192, .f32⟩ : BufTy).Contents (Elt F)),
    StableHlo.binary main_v21 main_v22 main_v23 (cmpf .ogt : (⟨S8x512x8192, .f32⟩ : BufTy).Contents (Elt F) → (⟨S8x512x8192, .f32⟩ : BufTy).Contents (Elt F) → (⟨S8x512x8192, .i1⟩ : BufTy).Contents (Elt F)),
    StableHlo.nullary main_cst_8 (constant S_ .f32 0x7F800000#32) ]
/-- Every operation of `post5` works on buffers of the TensorCore. -/
theorem post5_sub : (post5 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub ..⟩
/-- The buffers `post5` writes. -/
abbrev post5_W : List (Ref sig .tc) := [main_v21, main_cst_7, main_v22, main_v23, main_cst_8]
/-- `post5` writes no buffer but those listed. -/
theorem post5_writes : (post5 : List (HloOp τ sig (Elt F))).Forall fun op => op.writes ⊆ (post5_W.map (Proc.devRef (τ := τ) .tc)).toFinset :=
  StableHlo.forall_writes_sub_of_map rfl
/-- `post5` allocates nothing. -/
theorem post5_fresh : (post5 : List (HloOp τ sig (Elt F))).Forall fun op => op.fresh = ∅ :=
  StableHlo.forall_fresh_of_map rfl
/-- Distances outside the ball become infinite. -/
abbrev post6 : List (HloOp τ sig (Elt F)) :=
  [ StableHlo.TRef.unary (.of main_cst_8 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S8x512x8192, .f32⟩) (broadcastInDim S8x512x8192 ![] bcast_S_S8x512x8192),
    StableHlo.TRef.ternary (.of main_v23 : StableHlo.TRef sig ⟨S8x512x8192, .i1⟩) (.of main_call4_v1 : StableHlo.TRef sig ⟨S8x512x8192, .f32⟩) (.of main_v21 : StableHlo.TRef sig ⟨S8x512x8192, .f32⟩) (.of main_v24 : StableHlo.TRef sig ⟨S8x512x8192, .f32⟩) select ]
/-- Every operation of `post6` works on buffers of the TensorCore. -/
theorem post6_sub : (post6 : List (HloOp τ sig (Elt F))).Forall fun op => op.bufs ⊆ StableHlo.tcRefs τ sig :=
  ⟨StableHlo.unary_bufs_sub .., StableHlo.unary_bufs_sub .., StableHlo.ternary_bufs_sub ..⟩
/-- The buffers `post6` writes. -/
abbrev post6_W : List (Ref sig .tc) := [main_call4_v0, main_call4_v1, main_v24]
/-- `post6` writes no buffer but those listed. -/
theorem post6_writes : (post6 : List (HloOp τ sig (Elt F))).Forall fun op => op.writes ⊆ (post6_W.map (Proc.devRef (τ := τ) .tc)).toFinset :=
  StableHlo.forall_writes_sub_of_map rfl
/-- `post6` allocates nothing. -/
theorem post6_fresh : (post6 : List (HloOp τ sig (Elt F))).Forall fun op => op.fresh = ∅ :=
  StableHlo.forall_fresh_of_map rfl
/-- The 32 nearest points of each centre and their distances. -/
abbrev post7 : List (HloOp τ sig (Elt F)) :=
  [ StableHlo.unary main_v24 main_v25 (Host.negf : (⟨S8x512x8192, .f32⟩ : BufTy).Contents (Elt F) → (⟨S8x512x8192, .f32⟩ : BufTy).Contents (Elt F)),
    StableHlo.unary main_v25 main_values ((fun x => (Host.topK S8x512x32 2 (FloatOps.cmpfTotal .gt) x sliceFits_S8x512x8192_S8x512x32).1) : (⟨S8x512x8192, .f32⟩ : BufTy).Contents (Elt F) → (⟨S8x512x32, .f32⟩ : BufTy).Contents (Elt F)),
    StableHlo.unary main_v25 main_indices ((fun x => (Host.topK S8x512x32 2 (FloatOps.cmpfTotal .gt) x sliceFits_S8x512x8192_S8x512x32).2) : (⟨S8x512x8192, .f32⟩ : BufTy).Contents (Elt F) → (⟨S8x512x32, .i32⟩ : BufTy).Contents (Elt F)),
    StableHlo.unary main_values main_v26 (Host.negf : (⟨S8x512x32, .f32⟩ : BufTy).Contents (Elt F) → (⟨S8x512x32, .f32⟩ : BufTy).Contents (Elt F)),
    StableHlo.unary main_indices main_v27 ((extractStridedSlice S8x512x1 ![0, 0, 0] · slices_S8x512x32_S8x512x1_0_0_0) : (⟨S8x512x32, .i32⟩ : BufTy).Contents (Elt F) → (⟨S8x512x1, .i32⟩ : BufTy).Contents (Elt F)),
    StableHlo.unary main_v27 main_v28 (broadcastInDim S8x512x32 ![0, 1, 2] bcast_S8x512x1_S8x512x32_0_1_2 : (⟨S8x512x1, .i32⟩ : BufTy).Contents (Elt F) → (⟨S8x512x32, .i32⟩ : BufTy).Contents (Elt F)) ]
/-- Every operation of `post7` works on buffers of the TensorCore. -/
theorem post7_sub : (post7 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub ..⟩
/-- The buffers `post7` writes. -/
abbrev post7_W : List (Ref sig .tc) := [main_v25, main_values, main_indices, main_v26, main_v27, main_v28]
/-- `post7` writes no buffer but those listed. -/
theorem post7_writes : (post7 : List (HloOp τ sig (Elt F))).Forall fun op => op.writes ⊆ (post7_W.map (Proc.devRef (τ := τ) .tc)).toFinset :=
  StableHlo.forall_writes_sub_of_map rfl
/-- `post7` allocates nothing. -/
theorem post7_fresh : (post7 : List (HloOp τ sig (Elt F))).Forall fun op => op.fresh = ∅ :=
  StableHlo.forall_fresh_of_map rfl
/-- Which of the 32 lie outside the ball. -/
abbrev post8 : List (HloOp τ sig (Elt F)) :=
  [ StableHlo.TRef.unary (.of main_v26 : StableHlo.TRef sig ⟨S8x512x32, .f32⟩) (.of main_call5_v0 : StableHlo.TRef sig ⟨S8x512x32, .f32⟩) Host.absf,
    StableHlo.TRef.nullary (.of main_call5_cst : StableHlo.TRef sig ⟨S_, .f32⟩) (constant S_ .f32 0x7F800000#32),
    StableHlo.TRef.unary (.of main_call5_cst : StableHlo.TRef sig ⟨S_, .f32⟩) (.of main_call5_v1 : StableHlo.TRef sig ⟨S8x512x32, .f32⟩) (broadcastInDim S8x512x32 ![] bcast_S_S8x512x32),
    StableHlo.TRef.binary (.of main_call5_v0 : StableHlo.TRef sig ⟨S8x512x32, .f32⟩) (.of main_call5_v1 : StableHlo.TRef sig ⟨S8x512x32, .f32⟩) (.of main_v29 : StableHlo.TRef sig ⟨S8x512x32, .i1⟩) (cmpf .oeq) ]
/-- Every operation of `post8` works on buffers of the TensorCore. -/
theorem post8_sub : (post8 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub ..⟩
/-- The buffers `post8` writes. -/
abbrev post8_W : List (Ref sig .tc) := [main_call5_v0, main_call5_cst, main_call5_v1, main_v29]
/-- `post8` writes no buffer but those listed. -/
theorem post8_writes : (post8 : List (HloOp τ sig (Elt F))).Forall fun op => op.writes ⊆ (post8_W.map (Proc.devRef (τ := τ) .tc)).toFinset :=
  StableHlo.forall_writes_sub_of_map rfl
/-- `post8` allocates nothing. -/
theorem post8_fresh : (post8 : List (HloOp τ sig (Elt F))).Forall fun op => op.fresh = ∅ :=
  StableHlo.forall_fresh_of_map rfl
/-- Those are replaced by the nearest one. -/
abbrev post9 : List (HloOp τ sig (Elt F)) :=
  [ StableHlo.TRef.ternary (.of main_v29 : StableHlo.TRef sig ⟨S8x512x32, .i1⟩) (.of main_v28 : StableHlo.TRef sig ⟨S8x512x32, .i32⟩) (.of main_indices : StableHlo.TRef sig ⟨S8x512x32, .i32⟩) (.of main_v30 : StableHlo.TRef sig ⟨S8x512x32, .i32⟩) select ]
/-- Every operation of `post9` works on buffers of the TensorCore. -/
theorem post9_sub : (post9 : List (HloOp τ sig (Elt F))).Forall fun op => op.bufs ⊆ StableHlo.tcRefs τ sig :=
  StableHlo.ternary_bufs_sub ..
/-- The buffers `post9` writes. -/
abbrev post9_W : List (Ref sig .tc) := [main_v30]
/-- `post9` writes no buffer but those listed. -/
theorem post9_writes : (post9 : List (HloOp τ sig (Elt F))).Forall fun op => op.writes ⊆ (post9_W.map (Proc.devRef (τ := τ) .tc)).toFinset :=
  StableHlo.forall_writes_sub_of_map rfl
/-- `post9` allocates nothing. -/
theorem post9_fresh : (post9 : List (HloOp τ sig (Elt F))).Forall fun op => op.fresh = ∅ :=
  StableHlo.forall_fresh_of_map rfl
/-- The indices, once per coordinate. -/
abbrev post10 : List (HloOp τ sig (Elt F)) :=
  [ StableHlo.reshape main_v30 main_v31 (rfl : (.i32 : EltTy) = .i32) shapeCasts_S8x512x32_S8x16384,
    StableHlo.unary main_v31 main_v32 (broadcastInDim S8x16384x1 ![0, 1] bcast_S8x16384_S8x16384x1_0_1 : (⟨S8x16384, .i32⟩ : BufTy).Contents (Elt F) → (⟨S8x16384x1, .i32⟩ : BufTy).Contents (Elt F)),
    StableHlo.unary main_v32 main_v33 (broadcastInDim S8x16384x3 ![0, 1, 2] bcast_S8x16384x1_S8x16384x3_0_1_2 : (⟨S8x16384x1, .i32⟩ : BufTy).Contents (Elt F) → (⟨S8x16384x3, .i32⟩ : BufTy).Contents (Elt F)) ]
/-- Every operation of `post10` works on buffers of the TensorCore. -/
theorem post10_sub : (post10 : List (HloOp τ sig (Elt F))).Forall fun op => op.bufs ⊆ StableHlo.tcRefs τ sig :=
  ⟨StableHlo.reshape_bufs_sub .., StableHlo.unary_bufs_sub .., StableHlo.unary_bufs_sub ..⟩
/-- The buffers `post10` writes. -/
abbrev post10_W : List (Ref sig .tc) := [main_v31, main_v32, main_v33]
/-- `post10` writes no buffer but those listed. -/
theorem post10_writes : (post10 : List (HloOp τ sig (Elt F))).Forall fun op => op.writes ⊆ (post10_W.map (Proc.devRef (τ := τ) .tc)).toFinset :=
  StableHlo.forall_writes_sub_of_map rfl
/-- `post10` allocates nothing. -/
theorem post10_fresh : (post10 : List (HloOp τ sig (Elt F))).Forall fun op => op.fresh = ∅ :=
  StableHlo.forall_fresh_of_map rfl
/-- The neighbours, read out of the points. -/
abbrev post11 : List (HloOp τ sig (Elt F)) :=
  [ StableHlo.TRef.nullary (.of main_call7_c : StableHlo.TRef sig ⟨S_, .i32⟩) (constantI S_ 32 0#32),
    StableHlo.TRef.unary (.of main_call7_c : StableHlo.TRef sig ⟨S_, .i32⟩) (.of main_call7_v0 : StableHlo.TRef sig ⟨S8x16384x3, .i32⟩) (broadcastInDim S8x16384x3 ![] bcast_S_S8x16384x3),
    StableHlo.TRef.binary (.of main_v33 : StableHlo.TRef sig ⟨S8x16384x3, .i32⟩) (.of main_call7_v0 : StableHlo.TRef sig ⟨S8x16384x3, .i32⟩) (.of main_call7_v1 : StableHlo.TRef sig ⟨S8x16384x3, .i1⟩) (cmpi .slt),
    StableHlo.TRef.nullary (.of main_call7_c_0 : StableHlo.TRef sig ⟨S_, .i32⟩) (constantI S_ 32 8192#32),
    StableHlo.TRef.unary (.of main_call7_c_0 : StableHlo.TRef sig ⟨S_, .i32⟩) (.of main_call7_v2 : StableHlo.TRef sig ⟨S8x16384x3, .i32⟩) (broadcastInDim S8x16384x3 ![] bcast_S_S8x16384x3),
    StableHlo.TRef.binary (.of main_v33 : StableHlo.TRef sig ⟨S8x16384x3, .i32⟩) (.of main_call7_v2 : StableHlo.TRef sig ⟨S8x16384x3, .i32⟩) (.of main_call7_v3 : StableHlo.TRef sig ⟨S8x16384x3, .i32⟩) addi,
    StableHlo.TRef.ternary (.of main_call7_v1 : StableHlo.TRef sig ⟨S8x16384x3, .i1⟩) (.of main_call7_v3 : StableHlo.TRef sig ⟨S8x16384x3, .i32⟩) (.of main_v33 : StableHlo.TRef sig ⟨S8x16384x3, .i32⟩) (.of main_call7_v4 : StableHlo.TRef sig ⟨S8x16384x3, .i32⟩) select,
    StableHlo.TRef.reshape (.of main_call7_v4 : StableHlo.TRef sig ⟨S8x16384x3, .i32⟩) (.of main_call7_v5 : StableHlo.TRef sig ⟨S8x16384x3x1, .i32⟩) (rfl : (.i32 : EltTy) = .i32) shapeCasts_S8x16384x3_S8x16384x3x1,
    StableHlo.TRef.nullary (.of main_call7_c_1 : StableHlo.TRef sig ⟨S1, .i32⟩) (constantI S1 32 8191#32),
    StableHlo.TRef.nullary (.of main_call7_c_2 : StableHlo.TRef sig ⟨S_, .i32⟩) (constantI S_ 32 0#32),
    StableHlo.TRef.unary (.of main_call7_c_2 : StableHlo.TRef sig ⟨S_, .i32⟩) (.of main_call7_v6 : StableHlo.TRef sig ⟨S8x16384x3x1, .i32⟩) (broadcastInDim S8x16384x3x1 ![] bcast_S_S8x16384x3x1),
    StableHlo.TRef.binary (.of main_call7_v5 : StableHlo.TRef sig ⟨S8x16384x3x1, .i32⟩) (.of main_call7_v6 : StableHlo.TRef sig ⟨S8x16384x3x1, .i32⟩) (.of main_call7_v7 : StableHlo.TRef sig ⟨S8x16384x3x1, .i1⟩) (cmpi .sge),
    StableHlo.TRef.unary (.of main_call7_c_1 : StableHlo.TRef sig ⟨S1, .i32⟩) (.of main_call7_v8 : StableHlo.TRef sig ⟨S1x1x1x1, .i32⟩) (broadcastInDim S1x1x1x1 ![3] bcast_S1_S1x1x1x1_3),
    StableHlo.TRef.unary (.of main_call7_v8 : StableHlo.TRef sig ⟨S1x1x1x1, .i32⟩) (.of main_call7_v9 : StableHlo.TRef sig ⟨S8x16384x3x1, .i32⟩) (broadcastInDim S8x16384x3x1 ![0, 1, 2, 3] bcast_S1x1x1x1_S8x16384x3x1_0_1_2_3),
    StableHlo.TRef.binary (.of main_call7_v5 : StableHlo.TRef sig ⟨S8x16384x3x1, .i32⟩) (.of main_call7_v9 : StableHlo.TRef sig ⟨S8x16384x3x1, .i32⟩) (.of main_call7_v10 : StableHlo.TRef sig ⟨S8x16384x3x1, .i1⟩) (cmpi .sle),
    StableHlo.TRef.binary (.of main_call7_v7 : StableHlo.TRef sig ⟨S8x16384x3x1, .i1⟩) (.of main_call7_v10 : StableHlo.TRef sig ⟨S8x16384x3x1, .i1⟩) (.of main_call7_v11 : StableHlo.TRef sig ⟨S8x16384x3x1, .i1⟩) andi,
    StableHlo.TRef.nullary (.of main_call7_c_3 : StableHlo.TRef sig ⟨S_, .i1⟩) (constantI S_ 1 1#1),
    StableHlo.TRef.binary (.of main_call7_v11 : StableHlo.TRef sig ⟨S8x16384x3x1, .i1⟩) (.of main_call7_c_3 : StableHlo.TRef sig ⟨S_, .i1⟩) (.of main_call7_v12 : StableHlo.TRef sig ⟨S8x16384x3, .i1⟩) (fun x v => Host.reduce IntOp.andi x v reducesTo_S8x16384x3x1_S8x16384x3_d3 h_S_),
    StableHlo.TRef.binary (.of main_arg0 : StableHlo.TRef sig ⟨S8x8192x3, .f32⟩) (.of main_call7_v5 : StableHlo.TRef sig ⟨S8x16384x3x1, .i32⟩) (.of main_call7_v13 : StableHlo.TRef sig ⟨S8x16384x3, .f32⟩) (fun x i => Host.gather gather_S8x8192x3_S8x16384x3x1_S8x16384x3_n_1_02_02_1_3_111 x i),
    StableHlo.TRef.nullary (.of main_call7_cst : StableHlo.TRef sig ⟨S_, .f32⟩) (constant S_ .f32 0x7FC00000#32),
    StableHlo.TRef.unary (.of main_call7_cst : StableHlo.TRef sig ⟨S_, .f32⟩) (.of main_call7_v14 : StableHlo.TRef sig ⟨S8x16384x3, .f32⟩) (broadcastInDim S8x16384x3 ![] bcast_S_S8x16384x3),
    StableHlo.TRef.ternary (.of main_call7_v12 : StableHlo.TRef sig ⟨S8x16384x3, .i1⟩) (.of main_call7_v13 : StableHlo.TRef sig ⟨S8x16384x3, .f32⟩) (.of main_call7_v14 : StableHlo.TRef sig ⟨S8x16384x3, .f32⟩) (.of main_v34 : StableHlo.TRef sig ⟨S8x16384x3, .f32⟩) select ]
/-- Every operation of `post11` works on buffers of the TensorCore. -/
theorem post11_sub : (post11 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
/-- The buffers `post11` writes. -/
abbrev post11_W : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_cst, main_call7_v14, main_v34]
/-- `post11` writes no buffer but those listed. -/
theorem post11_writes : (post11 : List (HloOp τ sig (Elt F))).Forall fun op => op.writes ⊆ (post11_W.map (Proc.devRef (τ := τ) .tc)).toFinset :=
  StableHlo.forall_writes_sub_of_map rfl
/-- `post11` allocates nothing. -/
theorem post11_fresh : (post11 : List (HloOp τ sig (Elt F))).Forall fun op => op.fresh = ∅ :=
  StableHlo.forall_fresh_of_map rfl
/-- Neighbours relative to their centre; the indices, once per channel. -/
abbrev post12 : List (HloOp τ sig (Elt F)) :=
  [ StableHlo.reshape main_v34 main_v35 (rfl : (.f32 : EltTy) = .f32) shapeCasts_S8x16384x3_S8x512x32x3,
    StableHlo.unary main_v6 main_v36 (broadcastInDim S8x512x1x3 ![0, 1, 3] bcast_S8x512x3_S8x512x1x3_0_1_3 : (⟨S8x512x3, .f32⟩ : BufTy).Contents (Elt F) → (⟨S8x512x1x3, .f32⟩ : BufTy).Contents (Elt F)),
    StableHlo.unary main_v36 main_v37 (broadcastInDim S8x512x32x3 ![0, 1, 2, 3] bcast_S8x512x1x3_S8x512x32x3_0_1_2_3 : (⟨S8x512x1x3, .f32⟩ : BufTy).Contents (Elt F) → (⟨S8x512x32x3, .f32⟩ : BufTy).Contents (Elt F)),
    StableHlo.binary main_v35 main_v37 main_v38 (subf : (⟨S8x512x32x3, .f32⟩ : BufTy).Contents (Elt F) → (⟨S8x512x32x3, .f32⟩ : BufTy).Contents (Elt F) → (⟨S8x512x32x3, .f32⟩ : BufTy).Contents (Elt F)),
    StableHlo.unary main_v31 main_v39 (broadcastInDim S8x16384x1 ![0, 1] bcast_S8x16384_S8x16384x1_0_1 : (⟨S8x16384, .i32⟩ : BufTy).Contents (Elt F) → (⟨S8x16384x1, .i32⟩ : BufTy).Contents (Elt F)),
    StableHlo.unary main_v39 main_v40 (broadcastInDim S8x16384x128 ![0, 1, 2] bcast_S8x16384x1_S8x16384x128_0_1_2 : (⟨S8x16384x1, .i32⟩ : BufTy).Contents (Elt F) → (⟨S8x16384x128, .i32⟩ : BufTy).Contents (Elt F)) ]
/-- Every operation of `post12` works on buffers of the TensorCore. -/
theorem post12_sub : (post12 : List (HloOp τ sig (Elt F))).Forall fun op => op.bufs ⊆ StableHlo.tcRefs τ sig :=
  ⟨StableHlo.reshape_bufs_sub .., StableHlo.unary_bufs_sub .., StableHlo.unary_bufs_sub .., StableHlo.binary_bufs_sub .., StableHlo.unary_bufs_sub .., StableHlo.unary_bufs_sub ..⟩
/-- The buffers `post12` writes. -/
abbrev post12_W : List (Ref sig .tc) := [main_v35, main_v36, main_v37, main_v38, main_v39, main_v40]
/-- `post12` writes no buffer but those listed. -/
theorem post12_writes : (post12 : List (HloOp τ sig (Elt F))).Forall fun op => op.writes ⊆ (post12_W.map (Proc.devRef (τ := τ) .tc)).toFinset :=
  StableHlo.forall_writes_sub_of_map rfl
/-- `post12` allocates nothing. -/
theorem post12_fresh : (post12 : List (HloOp τ sig (Elt F))).Forall fun op => op.fresh = ∅ :=
  StableHlo.forall_fresh_of_map rfl
/-- The neighbours, read out of the features. -/
abbrev post13 : List (HloOp τ sig (Elt F)) :=
  [ StableHlo.TRef.nullary (.of main_call8_c : StableHlo.TRef sig ⟨S_, .i32⟩) (constantI S_ 32 0#32),
    StableHlo.TRef.unary (.of main_call8_c : StableHlo.TRef sig ⟨S_, .i32⟩) (.of main_call8_v0 : StableHlo.TRef sig ⟨S8x16384x128, .i32⟩) (broadcastInDim S8x16384x128 ![] bcast_S_S8x16384x128),
    StableHlo.TRef.binary (.of main_v40 : StableHlo.TRef sig ⟨S8x16384x128, .i32⟩) (.of main_call8_v0 : StableHlo.TRef sig ⟨S8x16384x128, .i32⟩) (.of main_call8_v1 : StableHlo.TRef sig ⟨S8x16384x128, .i1⟩) (cmpi .slt),
    StableHlo.TRef.nullary (.of main_call8_c_0 : StableHlo.TRef sig ⟨S_, .i32⟩) (constantI S_ 32 8192#32),
    StableHlo.TRef.unary (.of main_call8_c_0 : StableHlo.TRef sig ⟨S_, .i32⟩) (.of main_call8_v2 : StableHlo.TRef sig ⟨S8x16384x128, .i32⟩) (broadcastInDim S8x16384x128 ![] bcast_S_S8x16384x128),
    StableHlo.TRef.binary (.of main_v40 : StableHlo.TRef sig ⟨S8x16384x128, .i32⟩) (.of main_call8_v2 : StableHlo.TRef sig ⟨S8x16384x128, .i32⟩) (.of main_call8_v3 : StableHlo.TRef sig ⟨S8x16384x128, .i32⟩) addi,
    StableHlo.TRef.ternary (.of main_call8_v1 : StableHlo.TRef sig ⟨S8x16384x128, .i1⟩) (.of main_call8_v3 : StableHlo.TRef sig ⟨S8x16384x128, .i32⟩) (.of main_v40 : StableHlo.TRef sig ⟨S8x16384x128, .i32⟩) (.of main_call8_v4 : StableHlo.TRef sig ⟨S8x16384x128, .i32⟩) select,
    StableHlo.TRef.reshape (.of main_call8_v4 : StableHlo.TRef sig ⟨S8x16384x128, .i32⟩) (.of main_call8_v5 : StableHlo.TRef sig ⟨S8x16384x128x1, .i32⟩) (rfl : (.i32 : EltTy) = .i32) shapeCasts_S8x16384x128_S8x16384x128x1,
    StableHlo.TRef.nullary (.of main_call8_c_1 : StableHlo.TRef sig ⟨S1, .i32⟩) (constantI S1 32 8191#32),
    StableHlo.TRef.nullary (.of main_call8_c_2 : StableHlo.TRef sig ⟨S_, .i32⟩) (constantI S_ 32 0#32),
    StableHlo.TRef.unary (.of main_call8_c_2 : StableHlo.TRef sig ⟨S_, .i32⟩) (.of main_call8_v6 : StableHlo.TRef sig ⟨S8x16384x128x1, .i32⟩) (broadcastInDim S8x16384x128x1 ![] bcast_S_S8x16384x128x1),
    StableHlo.TRef.binary (.of main_call8_v5 : StableHlo.TRef sig ⟨S8x16384x128x1, .i32⟩) (.of main_call8_v6 : StableHlo.TRef sig ⟨S8x16384x128x1, .i32⟩) (.of main_call8_v7 : StableHlo.TRef sig ⟨S8x16384x128x1, .i1⟩) (cmpi .sge),
    StableHlo.TRef.unary (.of main_call8_c_1 : StableHlo.TRef sig ⟨S1, .i32⟩) (.of main_call8_v8 : StableHlo.TRef sig ⟨S1x1x1x1, .i32⟩) (broadcastInDim S1x1x1x1 ![3] bcast_S1_S1x1x1x1_3),
    StableHlo.TRef.unary (.of main_call8_v8 : StableHlo.TRef sig ⟨S1x1x1x1, .i32⟩) (.of main_call8_v9 : StableHlo.TRef sig ⟨S8x16384x128x1, .i32⟩) (broadcastInDim S8x16384x128x1 ![0, 1, 2, 3] bcast_S1x1x1x1_S8x16384x128x1_0_1_2_3),
    StableHlo.TRef.binary (.of main_call8_v5 : StableHlo.TRef sig ⟨S8x16384x128x1, .i32⟩) (.of main_call8_v9 : StableHlo.TRef sig ⟨S8x16384x128x1, .i32⟩) (.of main_call8_v10 : StableHlo.TRef sig ⟨S8x16384x128x1, .i1⟩) (cmpi .sle),
    StableHlo.TRef.binary (.of main_call8_v7 : StableHlo.TRef sig ⟨S8x16384x128x1, .i1⟩) (.of main_call8_v10 : StableHlo.TRef sig ⟨S8x16384x128x1, .i1⟩) (.of main_call8_v11 : StableHlo.TRef sig ⟨S8x16384x128x1, .i1⟩) andi,
    StableHlo.TRef.nullary (.of main_call8_c_3 : StableHlo.TRef sig ⟨S_, .i1⟩) (constantI S_ 1 1#1),
    StableHlo.TRef.binary (.of main_call8_v11 : StableHlo.TRef sig ⟨S8x16384x128x1, .i1⟩) (.of main_call8_c_3 : StableHlo.TRef sig ⟨S_, .i1⟩) (.of main_call8_v12 : StableHlo.TRef sig ⟨S8x16384x128, .i1⟩) (fun x v => Host.reduce IntOp.andi x v reducesTo_S8x16384x128x1_S8x16384x128_d3 h_S_),
    StableHlo.TRef.binary (.of main_arg1 : StableHlo.TRef sig ⟨S8x8192x128, .f32⟩) (.of main_call8_v5 : StableHlo.TRef sig ⟨S8x16384x128x1, .i32⟩) (.of main_call8_v13 : StableHlo.TRef sig ⟨S8x16384x128, .f32⟩) (fun x i => Host.gather gather_S8x8192x128_S8x16384x128x1_S8x16384x128_n_1_02_02_1_3_111 x i),
    StableHlo.TRef.nullary (.of main_call8_cst : StableHlo.TRef sig ⟨S_, .f32⟩) (constant S_ .f32 0x7FC00000#32),
    StableHlo.TRef.unary (.of main_call8_cst : StableHlo.TRef sig ⟨S_, .f32⟩) (.of main_call8_v14 : StableHlo.TRef sig ⟨S8x16384x128, .f32⟩) (broadcastInDim S8x16384x128 ![] bcast_S_S8x16384x128),
    StableHlo.TRef.ternary (.of main_call8_v12 : StableHlo.TRef sig ⟨S8x16384x128, .i1⟩) (.of main_call8_v13 : StableHlo.TRef sig ⟨S8x16384x128, .f32⟩) (.of main_call8_v14 : StableHlo.TRef sig ⟨S8x16384x128, .f32⟩) (.of main_v41 : StableHlo.TRef sig ⟨S8x16384x128, .f32⟩) select ]
/-- Every operation of `post13` works on buffers of the TensorCore. -/
theorem post13_sub : (post13 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
/-- The buffers `post13` writes. -/
abbrev post13_W : List (Ref sig .tc) := [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_cst, main_call8_v14, main_v41]
/-- `post13` writes no buffer but those listed. -/
theorem post13_writes : (post13 : List (HloOp τ sig (Elt F))).Forall fun op => op.writes ⊆ (post13_W.map (Proc.devRef (τ := τ) .tc)).toFinset :=
  StableHlo.forall_writes_sub_of_map rfl
/-- `post13` allocates nothing. -/
theorem post13_fresh : (post13 : List (HloOp τ sig (Elt F))).Forall fun op => op.fresh = ∅ :=
  StableHlo.forall_fresh_of_map rfl
/-- First layer product, bias and mean. -/
abbrev post14 : List (HloOp τ sig (Elt F)) :=
  [ StableHlo.reshape main_v41 main_v42 (rfl : (.f32 : EltTy) = .f32) shapeCasts_S8x16384x128_S8x512x32x128,
    StableHlo.binary main_v38 main_v42 main_v43 ((fun a b => concatenate S8x512x32x131 3 [⟨S8x512x32x3, a⟩, ⟨S8x512x32x128, b⟩] concatenates_S8x512x32x3_S8x512x32x128_S8x512x32x131_d3) : (⟨S8x512x32x3, .f32⟩ : BufTy).Contents (Elt F) → (⟨S8x512x32x128, .f32⟩ : BufTy).Contents (Elt F) → (⟨S8x512x32x131, .f32⟩ : BufTy).Contents (Elt F)),
    StableHlo.reshape main_v43 main_v44 (rfl : (.f32 : EltTy) = .f32) shapeCasts_S8x512x32x131_S4096x32x131,
    StableHlo.unary main_arg2 main_v45 ((transpose S131x128 [1, 0] · transposes_S128x131_S131x128_1_0) : (⟨S128x131, .f32⟩ : BufTy).Contents (Elt F) → (⟨S131x128, .f32⟩ : BufTy).Contents (Elt F)),
    StableHlo.binary main_v44 main_v45 main_v46 ((fun l r => Host.dotGeneral dot_S4096x32x131_S131x128_S4096x32x128_2_0_01_1_n_n none l r) : (⟨S4096x32x131, .f32⟩ : BufTy).Contents (Elt F) → (⟨S131x128, .f32⟩ : BufTy).Contents (Elt F) → (⟨S4096x32x128, .f32⟩ : BufTy).Contents (Elt F)),
    StableHlo.unary main_arg3 main_v47 (broadcastInDim S1x1x128 ![2] bcast_S128_S1x1x128_2 : (⟨S128, .f32⟩ : BufTy).Contents (Elt F) → (⟨S1x1x128, .f32⟩ : BufTy).Contents (Elt F)),
    StableHlo.unary main_v47 main_v48 (broadcastInDim S4096x32x128 ![0, 1, 2] bcast_S1x1x128_S4096x32x128_0_1_2 : (⟨S1x1x128, .f32⟩ : BufTy).Contents (Elt F) → (⟨S4096x32x128, .f32⟩ : BufTy).Contents (Elt F)),
    StableHlo.binary main_v46 main_v48 main_v49 (addf : (⟨S4096x32x128, .f32⟩ : BufTy).Contents (Elt F) → (⟨S4096x32x128, .f32⟩ : BufTy).Contents (Elt F) → (⟨S4096x32x128, .f32⟩ : BufTy).Contents (Elt F)),
    StableHlo.nullary main_cst_9 (constant S_ .f32 0x00000000#32),
    StableHlo.binary main_v49 main_cst_9 main_v50 ((fun x v => Host.reduceAdd x v reducesTo_S4096x32x128_S128_d0_1 h_S_) : (⟨S4096x32x128, .f32⟩ : BufTy).Contents (Elt F) → (⟨S_, .f32⟩ : BufTy).Contents (Elt F) → (⟨S128, .f32⟩ : BufTy).Contents (Elt F)),
    StableHlo.nullary main_cst_10 (constant S_ .f32 0x48000000#32),
    StableHlo.unary main_cst_10 main_v51 (broadcastInDim S128 ![] bcast_S_S128 : (⟨S_, .f32⟩ : BufTy).Contents (Elt F) → (⟨S128, .f32⟩ : BufTy).Contents (Elt F)),
    StableHlo.binary main_v50 main_v51 main_v52 (Host.divf : (⟨S128, .f32⟩ : BufTy).Contents (Elt F) → (⟨S128, .f32⟩ : BufTy).Contents (Elt F) → (⟨S128, .f32⟩ : BufTy).Contents (Elt F)),
    StableHlo.nullary main_c_11 (constantI S_ 32 0#32) ]
/-- Every operation of `post14` works on buffers of the TensorCore. -/
theorem post14_sub : (post14 : List (HloOp τ sig (Elt F))).Forall fun op => op.bufs ⊆ StableHlo.tcRefs τ sig :=
  ⟨StableHlo.reshape_bufs_sub .., StableHlo.binary_bufs_sub .., StableHlo.reshape_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub ..⟩
/-- The buffers `post14` writes. -/
abbrev post14_W : List (Ref sig .tc) := [main_v42, main_v43, main_v44, main_v45, main_v46, main_v47, main_v48, main_v49, main_cst_9, main_v50, main_cst_10, main_v51, main_v52, main_c_11]
/-- `post14` writes no buffer but those listed. -/
theorem post14_writes : (post14 : List (HloOp τ sig (Elt F))).Forall fun op => op.writes ⊆ (post14_W.map (Proc.devRef (τ := τ) .tc)).toFinset :=
  StableHlo.forall_writes_sub_of_map rfl
/-- `post14` allocates nothing. -/
theorem post14_fresh : (post14 : List (HloOp τ sig (Elt F))).Forall fun op => op.fresh = ∅ :=
  StableHlo.forall_fresh_of_map rfl
/-- First layer variance. -/
abbrev post15 : List (HloOp τ sig (Elt F)) :=
  [ StableHlo.TRef.nullary (.of main_call9_cst : StableHlo.TRef sig ⟨S_, .f32⟩) (constant S_ .f32 0x00000000#32),
    StableHlo.TRef.binary (.of main_v49 : StableHlo.TRef sig ⟨S4096x32x128, .f32⟩) (.of main_call9_cst : StableHlo.TRef sig ⟨S_, .f32⟩) (.of main_call9_v0 : StableHlo.TRef sig ⟨S128, .f32⟩) (fun x v => Host.reduceAdd x v reducesTo_S4096x32x128_S128_d0_1 h_S_),
    StableHlo.TRef.unary (.of main_call9_v0 : StableHlo.TRef sig ⟨S128, .f32⟩) (.of main_call9_v1 : StableHlo.TRef sig ⟨S1x1x128, .f32⟩) (broadcastInDim S1x1x128 ![2] bcast_S128_S1x1x128_2),
    StableHlo.TRef.nullary (.of main_call9_cst_0 : StableHlo.TRef sig ⟨S_, .f32⟩) (constant S_ .f32 0x48000000#32),
    StableHlo.TRef.unary (.of main_call9_cst_0 : StableHlo.TRef sig ⟨S_, .f32⟩) (.of main_call9_v2 : StableHlo.TRef sig ⟨S1x1x128, .f32⟩) (broadcastInDim S1x1x128 ![] bcast_S_S1x1x128),
    StableHlo.TRef.binary (.of main_call9_v1 : StableHlo.TRef sig ⟨S1x1x128, .f32⟩) (.of main_call9_v2 : StableHlo.TRef sig ⟨S1x1x128, .f32⟩) (.of main_call9_v3 : StableHlo.TRef sig ⟨S1x1x128, .f32⟩) Host.divf,
    StableHlo.TRef.unary (.of main_call9_v3 : StableHlo.TRef sig ⟨S1x1x128, .f32⟩) (.of main_call9_v4 : StableHlo.TRef sig ⟨S4096x32x128, .f32⟩) (broadcastInDim S4096x32x128 ![0, 1, 2] bcast_S1x1x128_S4096x32x128_0_1_2),
    StableHlo.TRef.binary (.of main_v49 : StableHlo.TRef sig ⟨S4096x32x128, .f32⟩) (.of main_call9_v4 : StableHlo.TRef sig ⟨S4096x32x128, .f32⟩) (.of main_call9_v5 : StableHlo.TRef sig ⟨S4096x32x128, .f32⟩) subf,
    StableHlo.TRef.binary (.of main_call9_v5 : StableHlo.TRef sig ⟨S4096x32x128, .f32⟩) (.of main_call9_v5 : StableHlo.TRef sig ⟨S4096x32x128, .f32⟩) (.of main_call9_v6 : StableHlo.TRef sig ⟨S4096x32x128, .f32⟩) mulf,
    StableHlo.TRef.unary (.of main_c_11 : StableHlo.TRef sig ⟨S_, .i32⟩) (.of main_call9_v7 : StableHlo.TRef sig ⟨S_, .f32⟩) (sitofp .f32),
    StableHlo.TRef.nullary (.of main_call9_cst_1 : StableHlo.TRef sig ⟨S_, .f32⟩) (constant S_ .f32 0x48000000#32),
    StableHlo.TRef.binary (.of main_call9_cst_1 : StableHlo.TRef sig ⟨S_, .f32⟩) (.of main_call9_v7 : StableHlo.TRef sig ⟨S_, .f32⟩) (.of main_call9_v8 : StableHlo.TRef sig ⟨S_, .f32⟩) subf,
    StableHlo.TRef.nullary (.of main_call9_cst_2 : StableHlo.TRef sig ⟨S_, .f32⟩) (constant S_ .f32 0x00000000#32),
    StableHlo.TRef.binary (.of main_call9_v6 : StableHlo.TRef sig ⟨S4096x32x128, .f32⟩) (.of main_call9_cst_2 : StableHlo.TRef sig ⟨S_, .f32⟩) (.of main_call9_v9 : StableHlo.TRef sig ⟨S128, .f32⟩) (fun x v => Host.reduceAdd x v reducesTo_S4096x32x128_S128_d0_1 h_S_),
    StableHlo.TRef.unary (.of main_call9_v8 : StableHlo.TRef sig ⟨S_, .f32⟩) (.of main_call9_v10 : StableHlo.TRef sig ⟨S128, .f32⟩) (broadcastInDim S128 ![] bcast_S_S128),
    StableHlo.TRef.binary (.of main_call9_v9 : StableHlo.TRef sig ⟨S128, .f32⟩) (.of main_call9_v10 : StableHlo.TRef sig ⟨S128, .f32⟩) (.of main_call9_v11 : StableHlo.TRef sig ⟨S128, .f32⟩) Host.divf,
    StableHlo.TRef.nullary (.of main_call9_cst_3 : StableHlo.TRef sig ⟨S_, .f32⟩) (constant S_ .f32 0x00000000#32),
    StableHlo.TRef.binary (.of main_call9_v8 : StableHlo.TRef sig ⟨S_, .f32⟩) (.of main_call9_cst_3 : StableHlo.TRef sig ⟨S_, .f32⟩) (.of main_call9_v12 : StableHlo.TRef sig ⟨S_, .i1⟩) (cmpf .ogt),
    StableHlo.TRef.nullary (.of main_call9_cst_4 : StableHlo.TRef sig ⟨S_, .f32⟩) (constant S_ .f32 0x7FC00000#32),
    StableHlo.TRef.unary (.of main_call9_cst_4 : StableHlo.TRef sig ⟨S_, .f32⟩) (.of main_call9_call0_v0 : StableHlo.TRef sig ⟨S_, .f32⟩) id,
    StableHlo.TRef.unary (.of main_call9_call0_v0 : StableHlo.TRef sig ⟨S_, .f32⟩) (.of main_call9_call0_v1 : StableHlo.TRef sig ⟨S128, .f32⟩) (broadcastInDim S128 ![] bcast_S_S128),
    StableHlo.TRef.ternary (.of main_call9_v12 : StableHlo.TRef sig ⟨S_, .i1⟩) (.of main_call9_v11 : StableHlo.TRef sig ⟨S128, .f32⟩) (.of main_call9_call0_v1 : StableHlo.TRef sig ⟨S128, .f32⟩) (.of main_v53 : StableHlo.TRef sig ⟨S128, .f32⟩) (fun p a b => select (broadcastInDim S128 ![] bcast_S_S128 p) a b) ]
/-- Every operation of `post15` works on buffers of the TensorCore. -/
theorem post15_sub : (post15 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- The buffers `post15` writes. -/
abbrev post15_W : List (Ref sig .tc) := [main_call9_cst, main_call9_v0, main_call9_v1, main_call9_cst_0, main_call9_v2, main_call9_v3, main_call9_v4, main_call9_v5, main_call9_v6, main_call9_v7, main_call9_cst_1, main_call9_v8, main_call9_cst_2, main_call9_v9, main_call9_v10, main_call9_v11, main_call9_cst_3, main_call9_v12, main_call9_cst_4, main_call9_call0_v0, main_call9_call0_v1, main_v53]
/-- `post15` writes no buffer but those listed. -/
theorem post15_writes : (post15 : List (HloOp τ sig (Elt F))).Forall fun op => op.writes ⊆ (post15_W.map (Proc.devRef (τ := τ) .tc)).toFinset :=
  StableHlo.forall_writes_sub_of_map rfl
/-- `post15` allocates nothing. -/
theorem post15_fresh : (post15 : List (HloOp τ sig (Elt F))).Forall fun op => op.fresh = ∅ :=
  StableHlo.forall_fresh_of_map rfl
/-- First normalisation and activation; second layer product, bias and mean. -/
abbrev post16 : List (HloOp τ sig (Elt F)) :=
  ( StableHlo.unary main_v52 main_v54 (broadcastInDim S1x1x128 ![2] bcast_S128_S1x1x128_2 : (⟨S128, .f32⟩ : BufTy).Contents (Elt F) → (⟨S1x1x128, .f32⟩ : BufTy).Contents (Elt F))
  :: StableHlo.unary main_v54 main_v55 (broadcastInDim S4096x32x128 ![0, 1, 2] bcast_S1x1x128_S4096x32x128_0_1_2 : (⟨S1x1x128, .f32⟩ : BufTy).Contents (Elt F) → (⟨S4096x32x128, .f32⟩ : BufTy).Contents (Elt F))
  :: StableHlo.binary main_v49 main_v55 main_v56 (subf : (⟨S4096x32x128, .f32⟩ : BufTy).Contents (Elt F) → (⟨S4096x32x128, .f32⟩ : BufTy).Contents (Elt F) → (⟨S4096x32x128, .f32⟩ : BufTy).Contents (Elt F))
  :: StableHlo.nullary main_cst_12 (constant S_ .f32 0x3727C5AC#32)
  :: StableHlo.unary main_cst_12 main_v57 (broadcastInDim S128 ![] bcast_S_S128 : (⟨S_, .f32⟩ : BufTy).Contents (Elt F) → (⟨S128, .f32⟩ : BufTy).Contents (Elt F))
  :: StableHlo.binary main_v53 main_v57 main_v58 (addf : (⟨S128, .f32⟩ : BufTy).Contents (Elt F) → (⟨S128, .f32⟩ : BufTy).Contents (Elt F) → (⟨S128, .f32⟩ : BufTy).Contents (Elt F))
  :: StableHlo.unary main_v58 main_v59 (Host.sqrt : (⟨S128, .f32⟩ : BufTy).Contents (Elt F) → (⟨S128, .f32⟩ : BufTy).Contents (Elt F))
  :: StableHlo.unary main_v59 main_v60 (broadcastInDim S1x1x128 ![2] bcast_S128_S1x1x128_2 : (⟨S128, .f32⟩ : BufTy).Contents (Elt F) → (⟨S1x1x128, .f32⟩ : BufTy).Contents (Elt F))
  :: StableHlo.unary main_v60 main_v61 (broadcastInDim S4096x32x128 ![0, 1, 2] bcast_S1x1x128_S4096x32x128_0_1_2 : (⟨S1x1x128, .f32⟩ : BufTy).Contents (Elt F) → (⟨S4096x32x128, .f32⟩ : BufTy).Contents (Elt F))
  :: StableHlo.binary main_v56 main_v61 main_v62 (Host.divf : (⟨S4096x32x128, .f32⟩ : BufTy).Contents (Elt F) → (⟨S4096x32x128, .f32⟩ : BufTy).Contents (Elt F) → (⟨S4096x32x128, .f32⟩ : BufTy).Contents (Elt F))
  :: StableHlo.unary main_arg4 main_v63 (broadcastInDim S1x1x128 ![2] bcast_S128_S1x1x128_2 : (⟨S128, .f32⟩ : BufTy).Contents (Elt F) → (⟨S1x1x128, .f32⟩ : BufTy).Contents (Elt F))
  :: StableHlo.unary main_v63 main_v64 (broadcastInDim S4096x32x128 ![0, 1, 2] bcast_S1x1x128_S4096x32x128_0_1_2 : (⟨S1x1x128, .f32⟩ : BufTy).Contents (Elt F) → (⟨S4096x32x128, .f32⟩ : BufTy).Contents (Elt F))
  :: StableHlo.binary main_v62 main_v64 main_v65 (mulf : (⟨S4096x32x128, .f32⟩ : BufTy).Contents (Elt F) → (⟨S4096x32x128, .f32⟩ : BufTy).Contents (Elt F) → (⟨S4096x32x128, .f32⟩ : BufTy).Contents (Elt F))
  :: StableHlo.unary main_arg5 main_v66 (broadcastInDim S1x1x128 ![2] bcast_S128_S1x1x128_2 : (⟨S128, .f32⟩ : BufTy).Contents (Elt F) → (⟨S1x1x128, .f32⟩ : BufTy).Contents (Elt F))
  :: StableHlo.unary main_v66 main_v67 (broadcastInDim S4096x32x128 ![0, 1, 2] bcast_S1x1x128_S4096x32x128_0_1_2 : (⟨S1x1x128, .f32⟩ : BufTy).Contents (Elt F) → (⟨S4096x32x128, .f32⟩ : BufTy).Contents (Elt F))
  :: StableHlo.binary main_v65 main_v67 main_v68 (addf : (⟨S4096x32x128, .f32⟩ : BufTy).Contents (Elt F) → (⟨S4096x32x128, .f32⟩ : BufTy).Contents (Elt F) → (⟨S4096x32x128, .f32⟩ : BufTy).Contents (Elt F))
  :: StableHlo.nullary main_cst_13 (constant S_ .f32 0x3F000000#32)
  :: StableHlo.unary main_cst_13 main_v69 (broadcastInDim S4096x32x128 ![] bcast_S_S4096x32x128 : (⟨S_, .f32⟩ : BufTy).Contents (Elt F) → (⟨S4096x32x128, .f32⟩ : BufTy).Contents (Elt F))
  :: StableHlo.binary main_v69 main_v68 main_v70 (mulf : (⟨S4096x32x128, .f32⟩ : BufTy).Contents (Elt F) → (⟨S4096x32x128, .f32⟩ : BufTy).Contents (Elt F) → (⟨S4096x32x128, .f32⟩ : BufTy).Contents (Elt F))
  :: StableHlo.unary main_v68 main_v71 (Host.negf : (⟨S4096x32x128, .f32⟩ : BufTy).Contents (Elt F) → (⟨S4096x32x128, .f32⟩ : BufTy).Contents (Elt F))
  :: StableHlo.nullary main_cst_14 (constant S_ .f32 0x3F3504F3#32)
  :: StableHlo.unary main_cst_14 main_v72 (broadcastInDim S4096x32x128 ![] bcast_S_S4096x32x128 : (⟨S_, .f32⟩ : BufTy).Contents (Elt F) → (⟨S4096x32x128, .f32⟩ : BufTy).Contents (Elt F))
  :: StableHlo.binary main_v71 main_v72 main_v73 (mulf : (⟨S4096x32x128, .f32⟩ : BufTy).Contents (Elt F) → (⟨S4096x32x128, .f32⟩ : BufTy).Contents (Elt F) → (⟨S4096x32x128, .f32⟩ : BufTy).Contents (Elt F))
  :: StableHlo.unary main_v73 main_v74 (Host.erfc : (⟨S4096x32x128, .f32⟩ : BufTy).Contents (Elt F) → (⟨S4096x32x128, .f32⟩ : BufTy).Contents (Elt F))
  :: StableHlo.binary main_v70 main_v74 main_v75 (mulf : (⟨S4096x32x128, .f32⟩ : BufTy).Contents (Elt F) → (⟨S4096x32x128, .f32⟩ : BufTy).Contents (Elt F) → (⟨S4096x32x128, .f32⟩ : BufTy).Contents (Elt F))
  :: StableHlo.unary main_arg6 main_v76 ((transpose S128x128 [1, 0] · transposes_S128x128_S128x128_1_0) : (⟨S128x128, .f32⟩ : BufTy).Contents (Elt F) → (⟨S128x128, .f32⟩ : BufTy).Contents (Elt F))
  :: StableHlo.binary main_v75 main_v76 main_v77 ((fun l r => Host.dotGeneral dot_S4096x32x128_S128x128_S4096x32x128_2_0_01_1_n_n none l r) : (⟨S4096x32x128, .f32⟩ : BufTy).Contents (Elt F) → (⟨S128x128, .f32⟩ : BufTy).Contents (Elt F) → (⟨S4096x32x128, .f32⟩ : BufTy).Contents (Elt F))
  :: StableHlo.unary main_arg7 main_v78 (broadcastInDim S1x1x128 ![2] bcast_S128_S1x1x128_2 : (⟨S128, .f32⟩ : BufTy).Contents (Elt F) → (⟨S1x1x128, .f32⟩ : BufTy).Contents (Elt F))
  :: StableHlo.unary main_v78 main_v79 (broadcastInDim S4096x32x128 ![0, 1, 2] bcast_S1x1x128_S4096x32x128_0_1_2 : (⟨S1x1x128, .f32⟩ : BufTy).Contents (Elt F) → (⟨S4096x32x128, .f32⟩ : BufTy).Contents (Elt F))
  :: StableHlo.binary main_v77 main_v79 main_v80 (addf : (⟨S4096x32x128, .f32⟩ : BufTy).Contents (Elt F) → (⟨S4096x32x128, .f32⟩ : BufTy).Contents (Elt F) → (⟨S4096x32x128, .f32⟩ : BufTy).Contents (Elt F))
  :: StableHlo.nullary main_cst_15 (constant S_ .f32 0x00000000#32)
  :: StableHlo.binary main_v80 main_cst_15 main_v81 ((fun x v => Host.reduceAdd x v reducesTo_S4096x32x128_S128_d0_1 h_S_) : (⟨S4096x32x128, .f32⟩ : BufTy).Contents (Elt F) → (⟨S_, .f32⟩ : BufTy).Contents (Elt F) → (⟨S128, .f32⟩ : BufTy).Contents (Elt F))
  :: StableHlo.nullary main_cst_16 (constant S_ .f32 0x48000000#32)
  :: StableHlo.unary main_cst_16 main_v82 (broadcastInDim S128 ![] bcast_S_S128 : (⟨S_, .f32⟩ : BufTy).Contents (Elt F) → (⟨S128, .f32⟩ : BufTy).Contents (Elt F))
  :: StableHlo.binary main_v81 main_v82 main_v83 (Host.divf : (⟨S128, .f32⟩ : BufTy).Contents (Elt F) → (⟨S128, .f32⟩ : BufTy).Contents (Elt F) → (⟨S128, .f32⟩ : BufTy).Contents (Elt F))
  :: StableHlo.nullary main_c_17 (constantI S_ 32 0#32)
  :: [] )
/-- Every operation of `post16` works on buffers of the TensorCore. -/
theorem post16_sub : (post16 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub ..⟩
/-- The buffers `post16` writes. -/
abbrev post16_W : List (Ref sig .tc) := [main_v54, main_v55, main_v56, main_cst_12, main_v57, main_v58, main_v59, main_v60, main_v61, main_v62, main_v63, main_v64, main_v65, main_v66, main_v67, main_v68, main_cst_13, main_v69, main_v70, main_v71, main_cst_14, main_v72, main_v73, main_v74, main_v75, main_v76, main_v77, main_v78, main_v79, main_v80, main_cst_15, main_v81, main_cst_16, main_v82, main_v83, main_c_17]
/-- `post16` writes no buffer but those listed. -/
theorem post16_writes : (post16 : List (HloOp τ sig (Elt F))).Forall fun op => op.writes ⊆ (post16_W.map (Proc.devRef (τ := τ) .tc)).toFinset :=
  StableHlo.forall_writes_sub_of_map rfl
/-- `post16` allocates nothing. -/
theorem post16_fresh : (post16 : List (HloOp τ sig (Elt F))).Forall fun op => op.fresh = ∅ :=
  StableHlo.forall_fresh_of_map rfl
/-- Second layer variance. -/
abbrev post17 : List (HloOp τ sig (Elt F)) :=
  [ StableHlo.TRef.nullary (.of main_call10_cst : StableHlo.TRef sig ⟨S_, .f32⟩) (constant S_ .f32 0x00000000#32),
    StableHlo.TRef.binary (.of main_v80 : StableHlo.TRef sig ⟨S4096x32x128, .f32⟩) (.of main_call10_cst : StableHlo.TRef sig ⟨S_, .f32⟩) (.of main_call10_v0 : StableHlo.TRef sig ⟨S128, .f32⟩) (fun x v => Host.reduceAdd x v reducesTo_S4096x32x128_S128_d0_1 h_S_),
    StableHlo.TRef.unary (.of main_call10_v0 : StableHlo.TRef sig ⟨S128, .f32⟩) (.of main_call10_v1 : StableHlo.TRef sig ⟨S1x1x128, .f32⟩) (broadcastInDim S1x1x128 ![2] bcast_S128_S1x1x128_2),
    StableHlo.TRef.nullary (.of main_call10_cst_0 : StableHlo.TRef sig ⟨S_, .f32⟩) (constant S_ .f32 0x48000000#32),
    StableHlo.TRef.unary (.of main_call10_cst_0 : StableHlo.TRef sig ⟨S_, .f32⟩) (.of main_call10_v2 : StableHlo.TRef sig ⟨S1x1x128, .f32⟩) (broadcastInDim S1x1x128 ![] bcast_S_S1x1x128),
    StableHlo.TRef.binary (.of main_call10_v1 : StableHlo.TRef sig ⟨S1x1x128, .f32⟩) (.of main_call10_v2 : StableHlo.TRef sig ⟨S1x1x128, .f32⟩) (.of main_call10_v3 : StableHlo.TRef sig ⟨S1x1x128, .f32⟩) Host.divf,
    StableHlo.TRef.unary (.of main_call10_v3 : StableHlo.TRef sig ⟨S1x1x128, .f32⟩) (.of main_call10_v4 : StableHlo.TRef sig ⟨S4096x32x128, .f32⟩) (broadcastInDim S4096x32x128 ![0, 1, 2] bcast_S1x1x128_S4096x32x128_0_1_2),
    StableHlo.TRef.binary (.of main_v80 : StableHlo.TRef sig ⟨S4096x32x128, .f32⟩) (.of main_call10_v4 : StableHlo.TRef sig ⟨S4096x32x128, .f32⟩) (.of main_call10_v5 : StableHlo.TRef sig ⟨S4096x32x128, .f32⟩) subf,
    StableHlo.TRef.binary (.of main_call10_v5 : StableHlo.TRef sig ⟨S4096x32x128, .f32⟩) (.of main_call10_v5 : StableHlo.TRef sig ⟨S4096x32x128, .f32⟩) (.of main_call10_v6 : StableHlo.TRef sig ⟨S4096x32x128, .f32⟩) mulf,
    StableHlo.TRef.unary (.of main_c_17 : StableHlo.TRef sig ⟨S_, .i32⟩) (.of main_call10_v7 : StableHlo.TRef sig ⟨S_, .f32⟩) (sitofp .f32),
    StableHlo.TRef.nullary (.of main_call10_cst_1 : StableHlo.TRef sig ⟨S_, .f32⟩) (constant S_ .f32 0x48000000#32),
    StableHlo.TRef.binary (.of main_call10_cst_1 : StableHlo.TRef sig ⟨S_, .f32⟩) (.of main_call10_v7 : StableHlo.TRef sig ⟨S_, .f32⟩) (.of main_call10_v8 : StableHlo.TRef sig ⟨S_, .f32⟩) subf,
    StableHlo.TRef.nullary (.of main_call10_cst_2 : StableHlo.TRef sig ⟨S_, .f32⟩) (constant S_ .f32 0x00000000#32),
    StableHlo.TRef.binary (.of main_call10_v6 : StableHlo.TRef sig ⟨S4096x32x128, .f32⟩) (.of main_call10_cst_2 : StableHlo.TRef sig ⟨S_, .f32⟩) (.of main_call10_v9 : StableHlo.TRef sig ⟨S128, .f32⟩) (fun x v => Host.reduceAdd x v reducesTo_S4096x32x128_S128_d0_1 h_S_),
    StableHlo.TRef.unary (.of main_call10_v8 : StableHlo.TRef sig ⟨S_, .f32⟩) (.of main_call10_v10 : StableHlo.TRef sig ⟨S128, .f32⟩) (broadcastInDim S128 ![] bcast_S_S128),
    StableHlo.TRef.binary (.of main_call10_v9 : StableHlo.TRef sig ⟨S128, .f32⟩) (.of main_call10_v10 : StableHlo.TRef sig ⟨S128, .f32⟩) (.of main_call10_v11 : StableHlo.TRef sig ⟨S128, .f32⟩) Host.divf,
    StableHlo.TRef.nullary (.of main_call10_cst_3 : StableHlo.TRef sig ⟨S_, .f32⟩) (constant S_ .f32 0x00000000#32),
    StableHlo.TRef.binary (.of main_call10_v8 : StableHlo.TRef sig ⟨S_, .f32⟩) (.of main_call10_cst_3 : StableHlo.TRef sig ⟨S_, .f32⟩) (.of main_call10_v12 : StableHlo.TRef sig ⟨S_, .i1⟩) (cmpf .ogt),
    StableHlo.TRef.nullary (.of main_call10_cst_4 : StableHlo.TRef sig ⟨S_, .f32⟩) (constant S_ .f32 0x7FC00000#32),
    StableHlo.TRef.unary (.of main_call10_cst_4 : StableHlo.TRef sig ⟨S_, .f32⟩) (.of main_call10_call0_v0 : StableHlo.TRef sig ⟨S_, .f32⟩) id,
    StableHlo.TRef.unary (.of main_call10_call0_v0 : StableHlo.TRef sig ⟨S_, .f32⟩) (.of main_call10_call0_v1 : StableHlo.TRef sig ⟨S128, .f32⟩) (broadcastInDim S128 ![] bcast_S_S128),
    StableHlo.TRef.ternary (.of main_call10_v12 : StableHlo.TRef sig ⟨S_, .i1⟩) (.of main_call10_v11 : StableHlo.TRef sig ⟨S128, .f32⟩) (.of main_call10_call0_v1 : StableHlo.TRef sig ⟨S128, .f32⟩) (.of main_v84 : StableHlo.TRef sig ⟨S128, .f32⟩) (fun p a b => select (broadcastInDim S128 ![] bcast_S_S128 p) a b) ]
/-- Every operation of `post17` works on buffers of the TensorCore. -/
theorem post17_sub : (post17 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- The buffers `post17` writes. -/
abbrev post17_W : List (Ref sig .tc) := [main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v84]
/-- `post17` writes no buffer but those listed. -/
theorem post17_writes : (post17 : List (HloOp τ sig (Elt F))).Forall fun op => op.writes ⊆ (post17_W.map (Proc.devRef (τ := τ) .tc)).toFinset :=
  StableHlo.forall_writes_sub_of_map rfl
/-- `post17` allocates nothing. -/
theorem post17_fresh : (post17 : List (HloOp τ sig (Elt F))).Forall fun op => op.fresh = ∅ :=
  StableHlo.forall_fresh_of_map rfl
/-- Second normalisation, first half. -/
abbrev post18a : List (HloOp τ sig (Elt F)) :=
  [ StableHlo.unary main_v83 main_v85 (broadcastInDim S1x1x128 ![2] bcast_S128_S1x1x128_2 : (⟨S128, .f32⟩ : BufTy).Contents (Elt F) → (⟨S1x1x128, .f32⟩ : BufTy).Contents (Elt F)),
    StableHlo.unary main_v85 main_v86 (broadcastInDim S4096x32x128 ![0, 1, 2] bcast_S1x1x128_S4096x32x128_0_1_2 : (⟨S1x1x128, .f32⟩ : BufTy).Contents (Elt F) → (⟨S4096x32x128, .f32⟩ : BufTy).Contents (Elt F)),
    StableHlo.binary main_v80 main_v86 main_v87 (subf : (⟨S4096x32x128, .f32⟩ : BufTy).Contents (Elt F) → (⟨S4096x32x128, .f32⟩ : BufTy).Contents (Elt F) → (⟨S4096x32x128, .f32⟩ : BufTy).Contents (Elt F)),
    StableHlo.nullary main_cst_18 (constant S_ .f32 0x3727C5AC#32),
    StableHlo.unary main_cst_18 main_v88 (broadcastInDim S128 ![] bcast_S_S128 : (⟨S_, .f32⟩ : BufTy).Contents (Elt F) → (⟨S128, .f32⟩ : BufTy).Contents (Elt F)),
    StableHlo.binary main_v84 main_v88 main_v89 (addf : (⟨S128, .f32⟩ : BufTy).Contents (Elt F) → (⟨S128, .f32⟩ : BufTy).Contents (Elt F) → (⟨S128, .f32⟩ : BufTy).Contents (Elt F)),
    StableHlo.unary main_v89 main_v90 (Host.sqrt : (⟨S128, .f32⟩ : BufTy).Contents (Elt F) → (⟨S128, .f32⟩ : BufTy).Contents (Elt F)) ]
/-- Every operation of `post18a` works on buffers of the TensorCore. -/
theorem post18a_sub : (post18a : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub ..⟩
/-- The buffers `post18a` writes. -/
abbrev post18a_W : List (Ref sig .tc) := [main_v85, main_v86, main_v87, main_cst_18, main_v88, main_v89, main_v90]
/-- `post18a` writes no buffer but those listed. -/
theorem post18a_writes : (post18a : List (HloOp τ sig (Elt F))).Forall fun op => op.writes ⊆ (post18a_W.map (Proc.devRef (τ := τ) .tc)).toFinset :=
  StableHlo.forall_writes_sub_of_map rfl
/-- `post18a` allocates nothing. -/
theorem post18a_fresh : (post18a : List (HloOp τ sig (Elt F))).Forall fun op => op.fresh = ∅ :=
  StableHlo.forall_fresh_of_map rfl
/-- Second normalisation, second half, activation; third layer product, bias and mean. -/
abbrev post18b : List (HloOp τ sig (Elt F)) :=
  [ StableHlo.unary main_v90 main_v91 (broadcastInDim S1x1x128 ![2] bcast_S128_S1x1x128_2 : (⟨S128, .f32⟩ : BufTy).Contents (Elt F) → (⟨S1x1x128, .f32⟩ : BufTy).Contents (Elt F)),
    StableHlo.unary main_v91 main_v92 (broadcastInDim S4096x32x128 ![0, 1, 2] bcast_S1x1x128_S4096x32x128_0_1_2 : (⟨S1x1x128, .f32⟩ : BufTy).Contents (Elt F) → (⟨S4096x32x128, .f32⟩ : BufTy).Contents (Elt F)),
    StableHlo.binary main_v87 main_v92 main_v93 (Host.divf : (⟨S4096x32x128, .f32⟩ : BufTy).Contents (Elt F) → (⟨S4096x32x128, .f32⟩ : BufTy).Contents (Elt F) → (⟨S4096x32x128, .f32⟩ : BufTy).Contents (Elt F)),
    StableHlo.unary main_arg8 main_v94 (broadcastInDim S1x1x128 ![2] bcast_S128_S1x1x128_2 : (⟨S128, .f32⟩ : BufTy).Contents (Elt F) → (⟨S1x1x128, .f32⟩ : BufTy).Contents (Elt F)),
    StableHlo.unary main_v94 main_v95 (broadcastInDim S4096x32x128 ![0, 1, 2] bcast_S1x1x128_S4096x32x128_0_1_2 : (⟨S1x1x128, .f32⟩ : BufTy).Contents (Elt F) → (⟨S4096x32x128, .f32⟩ : BufTy).Contents (Elt F)),
    StableHlo.binary main_v93 main_v95 main_v96 (mulf : (⟨S4096x32x128, .f32⟩ : BufTy).Contents (Elt F) → (⟨S4096x32x128, .f32⟩ : BufTy).Contents (Elt F) → (⟨S4096x32x128, .f32⟩ : BufTy).Contents (Elt F)),
    StableHlo.unary main_arg9 main_v97 (broadcastInDim S1x1x128 ![2] bcast_S128_S1x1x128_2 : (⟨S128, .f32⟩ : BufTy).Contents (Elt F) → (⟨S1x1x128, .f32⟩ : BufTy).Contents (Elt F)),
    StableHlo.unary main_v97 main_v98 (broadcastInDim S4096x32x128 ![0, 1, 2] bcast_S1x1x128_S4096x32x128_0_1_2 : (⟨S1x1x128, .f32⟩ : BufTy).Contents (Elt F) → (⟨S4096x32x128, .f32⟩ : BufTy).Contents (Elt F)),
    StableHlo.binary main_v96 main_v98 main_v99 (addf : (⟨S4096x32x128, .f32⟩ : BufTy).Contents (Elt F) → (⟨S4096x32x128, .f32⟩ : BufTy).Contents (Elt F) → (⟨S4096x32x128, .f32⟩ : BufTy).Contents (Elt F)),
    StableHlo.nullary main_cst_19 (constant S_ .f32 0x3F000000#32),
    StableHlo.unary main_cst_19 main_v100 (broadcastInDim S4096x32x128 ![] bcast_S_S4096x32x128 : (⟨S_, .f32⟩ : BufTy).Contents (Elt F) → (⟨S4096x32x128, .f32⟩ : BufTy).Contents (Elt F)),
    StableHlo.binary main_v100 main_v99 main_v101 (mulf : (⟨S4096x32x128, .f32⟩ : BufTy).Contents (Elt F) → (⟨S4096x32x128, .f32⟩ : BufTy).Contents (Elt F) → (⟨S4096x32x128, .f32⟩ : BufTy).Contents (Elt F)),
    StableHlo.unary main_v99 main_v102 (Host.negf : (⟨S4096x32x128, .f32⟩ : BufTy).Contents (Elt F) → (⟨S4096x32x128, .f32⟩ : BufTy).Contents (Elt F)),
    StableHlo.nullary main_cst_20 (constant S_ .f32 0x3F3504F3#32),
    StableHlo.unary main_cst_20 main_v103 (broadcastInDim S4096x32x128 ![] bcast_S_S4096x32x128 : (⟨S_, .f32⟩ : BufTy).Contents (Elt F) → (⟨S4096x32x128, .f32⟩ : BufTy).Contents (Elt F)),
    StableHlo.binary main_v102 main_v103 main_v104 (mulf : (⟨S4096x32x128, .f32⟩ : BufTy).Contents (Elt F) → (⟨S4096x32x128, .f32⟩ : BufTy).Contents (Elt F) → (⟨S4096x32x128, .f32⟩ : BufTy).Contents (Elt F)),
    StableHlo.unary main_v104 main_v105 (Host.erfc : (⟨S4096x32x128, .f32⟩ : BufTy).Contents (Elt F) → (⟨S4096x32x128, .f32⟩ : BufTy).Contents (Elt F)),
    StableHlo.binary main_v101 main_v105 main_v106 (mulf : (⟨S4096x32x128, .f32⟩ : BufTy).Contents (Elt F) → (⟨S4096x32x128, .f32⟩ : BufTy).Contents (Elt F) → (⟨S4096x32x128, .f32⟩ : BufTy).Contents (Elt F)),
    StableHlo.unary main_arg10 main_v107 ((transpose S128x256 [1, 0] · transposes_S256x128_S128x256_1_0) : (⟨S256x128, .f32⟩ : BufTy).Contents (Elt F) → (⟨S128x256, .f32⟩ : BufTy).Contents (Elt F)),
    StableHlo.binary main_v106 main_v107 main_v108 ((fun l r => Host.dotGeneral dot_S4096x32x128_S128x256_S4096x32x256_2_0_01_1_n_n none l r) : (⟨S4096x32x128, .f32⟩ : BufTy).Contents (Elt F) → (⟨S128x256, .f32⟩ : BufTy).Contents (Elt F) → (⟨S4096x32x256, .f32⟩ : BufTy).Contents (Elt F)),
    StableHlo.unary main_arg11 main_v109 (broadcastInDim S1x1x256 ![2] bcast_S256_S1x1x256_2 : (⟨S256, .f32⟩ : BufTy).Contents (Elt F) → (⟨S1x1x256, .f32⟩ : BufTy).Contents (Elt F)),
    StableHlo.unary main_v109 main_v110 (broadcastInDim S4096x32x256 ![0, 1, 2] bcast_S1x1x256_S4096x32x256_0_1_2 : (⟨S1x1x256, .f32⟩ : BufTy).Contents (Elt F) → (⟨S4096x32x256, .f32⟩ : BufTy).Contents (Elt F)),
    StableHlo.binary main_v108 main_v110 main_v111 (addf : (⟨S4096x32x256, .f32⟩ : BufTy).Contents (Elt F) → (⟨S4096x32x256, .f32⟩ : BufTy).Contents (Elt F) → (⟨S4096x32x256, .f32⟩ : BufTy).Contents (Elt F)),
    StableHlo.nullary main_cst_21 (constant S_ .f32 0x00000000#32),
    StableHlo.binary main_v111 main_cst_21 main_v112 ((fun x v => Host.reduceAdd x v reducesTo_S4096x32x256_S256_d0_1 h_S_) : (⟨S4096x32x256, .f32⟩ : BufTy).Contents (Elt F) → (⟨S_, .f32⟩ : BufTy).Contents (Elt F) → (⟨S256, .f32⟩ : BufTy).Contents (Elt F)),
    StableHlo.nullary main_cst_22 (constant S_ .f32 0x48000000#32),
    StableHlo.unary main_cst_22 main_v113 (broadcastInDim S256 ![] bcast_S_S256 : (⟨S_, .f32⟩ : BufTy).Contents (Elt F) → (⟨S256, .f32⟩ : BufTy).Contents (Elt F)),
    StableHlo.binary main_v112 main_v113 main_v114 (Host.divf : (⟨S256, .f32⟩ : BufTy).Contents (Elt F) → (⟨S256, .f32⟩ : BufTy).Contents (Elt F) → (⟨S256, .f32⟩ : BufTy).Contents (Elt F)),
    StableHlo.nullary main_c_23 (constantI S_ 32 0#32) ]
/-- Every operation of `post18b` works on buffers of the TensorCore. -/
theorem post18b_sub : (post18b : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub ..⟩
/-- The buffers `post18b` writes. -/
abbrev post18b_W : List (Ref sig .tc) := [main_v91, main_v92, main_v93, main_v94, main_v95, main_v96, main_v97, main_v98, main_v99, main_cst_19, main_v100, main_v101, main_v102, main_cst_20, main_v103, main_v104, main_v105, main_v106, main_v107, main_v108, main_v109, main_v110, main_v111, main_cst_21, main_v112, main_cst_22, main_v113, main_v114, main_c_23]
/-- `post18b` writes no buffer but those listed. -/
theorem post18b_writes : (post18b : List (HloOp τ sig (Elt F))).Forall fun op => op.writes ⊆ (post18b_W.map (Proc.devRef (τ := τ) .tc)).toFinset :=
  StableHlo.forall_writes_sub_of_map rfl
/-- `post18b` allocates nothing. -/
theorem post18b_fresh : (post18b : List (HloOp τ sig (Elt F))).Forall fun op => op.fresh = ∅ :=
  StableHlo.forall_fresh_of_map rfl
/-- Third layer variance. -/
abbrev post19 : List (HloOp τ sig (Elt F)) :=
  [ StableHlo.TRef.nullary (.of main_call11_cst : StableHlo.TRef sig ⟨S_, .f32⟩) (constant S_ .f32 0x00000000#32),
    StableHlo.TRef.binary (.of main_v111 : StableHlo.TRef sig ⟨S4096x32x256, .f32⟩) (.of main_call11_cst : StableHlo.TRef sig ⟨S_, .f32⟩) (.of main_call11_v0 : StableHlo.TRef sig ⟨S256, .f32⟩) (fun x v => Host.reduceAdd x v reducesTo_S4096x32x256_S256_d0_1 h_S_),
    StableHlo.TRef.unary (.of main_call11_v0 : StableHlo.TRef sig ⟨S256, .f32⟩) (.of main_call11_v1 : StableHlo.TRef sig ⟨S1x1x256, .f32⟩) (broadcastInDim S1x1x256 ![2] bcast_S256_S1x1x256_2),
    StableHlo.TRef.nullary (.of main_call11_cst_0 : StableHlo.TRef sig ⟨S_, .f32⟩) (constant S_ .f32 0x48000000#32),
    StableHlo.TRef.unary (.of main_call11_cst_0 : StableHlo.TRef sig ⟨S_, .f32⟩) (.of main_call11_v2 : StableHlo.TRef sig ⟨S1x1x256, .f32⟩) (broadcastInDim S1x1x256 ![] bcast_S_S1x1x256),
    StableHlo.TRef.binary (.of main_call11_v1 : StableHlo.TRef sig ⟨S1x1x256, .f32⟩) (.of main_call11_v2 : StableHlo.TRef sig ⟨S1x1x256, .f32⟩) (.of main_call11_v3 : StableHlo.TRef sig ⟨S1x1x256, .f32⟩) Host.divf,
    StableHlo.TRef.unary (.of main_call11_v3 : StableHlo.TRef sig ⟨S1x1x256, .f32⟩) (.of main_call11_v4 : StableHlo.TRef sig ⟨S4096x32x256, .f32⟩) (broadcastInDim S4096x32x256 ![0, 1, 2] bcast_S1x1x256_S4096x32x256_0_1_2),
    StableHlo.TRef.binary (.of main_v111 : StableHlo.TRef sig ⟨S4096x32x256, .f32⟩) (.of main_call11_v4 : StableHlo.TRef sig ⟨S4096x32x256, .f32⟩) (.of main_call11_v5 : StableHlo.TRef sig ⟨S4096x32x256, .f32⟩) subf,
    StableHlo.TRef.binary (.of main_call11_v5 : StableHlo.TRef sig ⟨S4096x32x256, .f32⟩) (.of main_call11_v5 : StableHlo.TRef sig ⟨S4096x32x256, .f32⟩) (.of main_call11_v6 : StableHlo.TRef sig ⟨S4096x32x256, .f32⟩) mulf,
    StableHlo.TRef.unary (.of main_c_23 : StableHlo.TRef sig ⟨S_, .i32⟩) (.of main_call11_v7 : StableHlo.TRef sig ⟨S_, .f32⟩) (sitofp .f32),
    StableHlo.TRef.nullary (.of main_call11_cst_1 : StableHlo.TRef sig ⟨S_, .f32⟩) (constant S_ .f32 0x48000000#32),
    StableHlo.TRef.binary (.of main_call11_cst_1 : StableHlo.TRef sig ⟨S_, .f32⟩) (.of main_call11_v7 : StableHlo.TRef sig ⟨S_, .f32⟩) (.of main_call11_v8 : StableHlo.TRef sig ⟨S_, .f32⟩) subf,
    StableHlo.TRef.nullary (.of main_call11_cst_2 : StableHlo.TRef sig ⟨S_, .f32⟩) (constant S_ .f32 0x00000000#32),
    StableHlo.TRef.binary (.of main_call11_v6 : StableHlo.TRef sig ⟨S4096x32x256, .f32⟩) (.of main_call11_cst_2 : StableHlo.TRef sig ⟨S_, .f32⟩) (.of main_call11_v9 : StableHlo.TRef sig ⟨S256, .f32⟩) (fun x v => Host.reduceAdd x v reducesTo_S4096x32x256_S256_d0_1 h_S_),
    StableHlo.TRef.unary (.of main_call11_v8 : StableHlo.TRef sig ⟨S_, .f32⟩) (.of main_call11_v10 : StableHlo.TRef sig ⟨S256, .f32⟩) (broadcastInDim S256 ![] bcast_S_S256),
    StableHlo.TRef.binary (.of main_call11_v9 : StableHlo.TRef sig ⟨S256, .f32⟩) (.of main_call11_v10 : StableHlo.TRef sig ⟨S256, .f32⟩) (.of main_call11_v11 : StableHlo.TRef sig ⟨S256, .f32⟩) Host.divf,
    StableHlo.TRef.nullary (.of main_call11_cst_3 : StableHlo.TRef sig ⟨S_, .f32⟩) (constant S_ .f32 0x00000000#32),
    StableHlo.TRef.binary (.of main_call11_v8 : StableHlo.TRef sig ⟨S_, .f32⟩) (.of main_call11_cst_3 : StableHlo.TRef sig ⟨S_, .f32⟩) (.of main_call11_v12 : StableHlo.TRef sig ⟨S_, .i1⟩) (cmpf .ogt),
    StableHlo.TRef.nullary (.of main_call11_cst_4 : StableHlo.TRef sig ⟨S_, .f32⟩) (constant S_ .f32 0x7FC00000#32),
    StableHlo.TRef.unary (.of main_call11_cst_4 : StableHlo.TRef sig ⟨S_, .f32⟩) (.of main_call11_call0_v0 : StableHlo.TRef sig ⟨S_, .f32⟩) id,
    StableHlo.TRef.unary (.of main_call11_call0_v0 : StableHlo.TRef sig ⟨S_, .f32⟩) (.of main_call11_call0_v1 : StableHlo.TRef sig ⟨S256, .f32⟩) (broadcastInDim S256 ![] bcast_S_S256),
    StableHlo.TRef.ternary (.of main_call11_v12 : StableHlo.TRef sig ⟨S_, .i1⟩) (.of main_call11_v11 : StableHlo.TRef sig ⟨S256, .f32⟩) (.of main_call11_call0_v1 : StableHlo.TRef sig ⟨S256, .f32⟩) (.of main_v115 : StableHlo.TRef sig ⟨S256, .f32⟩) (fun p a b => select (broadcastInDim S256 ![] bcast_S_S256 p) a b) ]
/-- Every operation of `post19` works on buffers of the TensorCore. -/
theorem post19_sub : (post19 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- The buffers `post19` writes. -/
abbrev post19_W : List (Ref sig .tc) := [main_call11_cst, main_call11_v0, main_call11_v1, main_call11_cst_0, main_call11_v2, main_call11_v3, main_call11_v4, main_call11_v5, main_call11_v6, main_call11_v7, main_call11_cst_1, main_call11_v8, main_call11_cst_2, main_call11_v9, main_call11_v10, main_call11_v11, main_call11_cst_3, main_call11_v12, main_call11_cst_4, main_call11_call0_v0, main_call11_call0_v1, main_v115]
/-- `post19` writes no buffer but those listed. -/
theorem post19_writes : (post19 : List (HloOp τ sig (Elt F))).Forall fun op => op.writes ⊆ (post19_W.map (Proc.devRef (τ := τ) .tc)).toFinset :=
  StableHlo.forall_writes_sub_of_map rfl
/-- `post19` allocates nothing. -/
theorem post19_fresh : (post19 : List (HloOp τ sig (Elt F))).Forall fun op => op.fresh = ∅ :=
  StableHlo.forall_fresh_of_map rfl
/-- Third normalisation, activation, the maximum over neighbours, the final shape. -/
abbrev post20 : List (HloOp τ sig (Elt F)) :=
  [ StableHlo.unary main_v114 main_v116 (broadcastInDim S1x1x256 ![2] bcast_S256_S1x1x256_2 : (⟨S256, .f32⟩ : BufTy).Contents (Elt F) → (⟨S1x1x256, .f32⟩ : BufTy).Contents (Elt F)),
    StableHlo.unary main_v116 main_v117 (broadcastInDim S4096x32x256 ![0, 1, 2] bcast_S1x1x256_S4096x32x256_0_1_2 : (⟨S1x1x256, .f32⟩ : BufTy).Contents (Elt F) → (⟨S4096x32x256, .f32⟩ : BufTy).Contents (Elt F)),
    StableHlo.binary main_v111 main_v117 main_v118 (subf : (⟨S4096x32x256, .f32⟩ : BufTy).Contents (Elt F) → (⟨S4096x32x256, .f32⟩ : BufTy).Contents (Elt F) → (⟨S4096x32x256, .f32⟩ : BufTy).Contents (Elt F)),
    StableHlo.nullary main_cst_24 (constant S_ .f32 0x3727C5AC#32),
    StableHlo.unary main_cst_24 main_v119 (broadcastInDim S256 ![] bcast_S_S256 : (⟨S_, .f32⟩ : BufTy).Contents (Elt F) → (⟨S256, .f32⟩ : BufTy).Contents (Elt F)),
    StableHlo.binary main_v115 main_v119 main_v120 (addf : (⟨S256, .f32⟩ : BufTy).Contents (Elt F) → (⟨S256, .f32⟩ : BufTy).Contents (Elt F) → (⟨S256, .f32⟩ : BufTy).Contents (Elt F)),
    StableHlo.unary main_v120 main_v121 (Host.sqrt : (⟨S256, .f32⟩ : BufTy).Contents (Elt F) → (⟨S256, .f32⟩ : BufTy).Contents (Elt F)),
    StableHlo.unary main_v121 main_v122 (broadcastInDim S1x1x256 ![2] bcast_S256_S1x1x256_2 : (⟨S256, .f32⟩ : BufTy).Contents (Elt F) → (⟨S1x1x256, .f32⟩ : BufTy).Contents (Elt F)),
    StableHlo.unary main_v122 main_v123 (broadcastInDim S4096x32x256 ![0, 1, 2] bcast_S1x1x256_S4096x32x256_0_1_2 : (⟨S1x1x256, .f32⟩ : BufTy).Contents (Elt F) → (⟨S4096x32x256, .f32⟩ : BufTy).Contents (Elt F)),
    StableHlo.binary main_v118 main_v123 main_v124 (Host.divf : (⟨S4096x32x256, .f32⟩ : BufTy).Contents (Elt F) → (⟨S4096x32x256, .f32⟩ : BufTy).Contents (Elt F) → (⟨S4096x32x256, .f32⟩ : BufTy).Contents (Elt F)),
    StableHlo.unary main_arg12 main_v125 (broadcastInDim S1x1x256 ![2] bcast_S256_S1x1x256_2 : (⟨S256, .f32⟩ : BufTy).Contents (Elt F) → (⟨S1x1x256, .f32⟩ : BufTy).Contents (Elt F)),
    StableHlo.unary main_v125 main_v126 (broadcastInDim S4096x32x256 ![0, 1, 2] bcast_S1x1x256_S4096x32x256_0_1_2 : (⟨S1x1x256, .f32⟩ : BufTy).Contents (Elt F) → (⟨S4096x32x256, .f32⟩ : BufTy).Contents (Elt F)),
    StableHlo.binary main_v124 main_v126 main_v127 (mulf : (⟨S4096x32x256, .f32⟩ : BufTy).Contents (Elt F) → (⟨S4096x32x256, .f32⟩ : BufTy).Contents (Elt F) → (⟨S4096x32x256, .f32⟩ : BufTy).Contents (Elt F)),
    StableHlo.unary main_arg13 main_v128 (broadcastInDim S1x1x256 ![2] bcast_S256_S1x1x256_2 : (⟨S256, .f32⟩ : BufTy).Contents (Elt F) → (⟨S1x1x256, .f32⟩ : BufTy).Contents (Elt F)),
    StableHlo.unary main_v128 main_v129 (broadcastInDim S4096x32x256 ![0, 1, 2] bcast_S1x1x256_S4096x32x256_0_1_2 : (⟨S1x1x256, .f32⟩ : BufTy).Contents (Elt F) → (⟨S4096x32x256, .f32⟩ : BufTy).Contents (Elt F)),
    StableHlo.binary main_v127 main_v129 main_v130 (addf : (⟨S4096x32x256, .f32⟩ : BufTy).Contents (Elt F) → (⟨S4096x32x256, .f32⟩ : BufTy).Contents (Elt F) → (⟨S4096x32x256, .f32⟩ : BufTy).Contents (Elt F)),
    StableHlo.nullary main_cst_25 (constant S_ .f32 0x3F000000#32),
    StableHlo.unary main_cst_25 main_v131 (broadcastInDim S4096x32x256 ![] bcast_S_S4096x32x256 : (⟨S_, .f32⟩ : BufTy).Contents (Elt F) → (⟨S4096x32x256, .f32⟩ : BufTy).Contents (Elt F)),
    StableHlo.binary main_v131 main_v130 main_v132 (mulf : (⟨S4096x32x256, .f32⟩ : BufTy).Contents (Elt F) → (⟨S4096x32x256, .f32⟩ : BufTy).Contents (Elt F) → (⟨S4096x32x256, .f32⟩ : BufTy).Contents (Elt F)),
    StableHlo.unary main_v130 main_v133 (Host.negf : (⟨S4096x32x256, .f32⟩ : BufTy).Contents (Elt F) → (⟨S4096x32x256, .f32⟩ : BufTy).Contents (Elt F)),
    StableHlo.nullary main_cst_26 (constant S_ .f32 0x3F3504F3#32),
    StableHlo.unary main_cst_26 main_v134 (broadcastInDim S4096x32x256 ![] bcast_S_S4096x32x256 : (⟨S_, .f32⟩ : BufTy).Contents (Elt F) → (⟨S4096x32x256, .f32⟩ : BufTy).Contents (Elt F)),
    StableHlo.binary main_v133 main_v134 main_v135 (mulf : (⟨S4096x32x256, .f32⟩ : BufTy).Contents (Elt F) → (⟨S4096x32x256, .f32⟩ : BufTy).Contents (Elt F) → (⟨S4096x32x256, .f32⟩ : BufTy).Contents (Elt F)),
    StableHlo.unary main_v135 main_v136 (Host.erfc : (⟨S4096x32x256, .f32⟩ : BufTy).Contents (Elt F) → (⟨S4096x32x256, .f32⟩ : BufTy).Contents (Elt F)),
    StableHlo.binary main_v132 main_v136 main_v137 (mulf : (⟨S4096x32x256, .f32⟩ : BufTy).Contents (Elt F) → (⟨S4096x32x256, .f32⟩ : BufTy).Contents (Elt F) → (⟨S4096x32x256, .f32⟩ : BufTy).Contents (Elt F)),
    StableHlo.nullary main_cst_27 (constant S_ .f32 0xFF800000#32),
    StableHlo.binary main_v137 main_cst_27 main_v138 ((fun x v => Host.reduce FloatOps.maximumf x v reducesTo_S4096x32x256_S4096x256_d1 h_S_) : (⟨S4096x32x256, .f32⟩ : BufTy).Contents (Elt F) → (⟨S_, .f32⟩ : BufTy).Contents (Elt F) → (⟨S4096x256, .f32⟩ : BufTy).Contents (Elt F)),
    StableHlo.reshape main_v138 main_v139 (rfl : (.f32 : EltTy) = .f32) shapeCasts_S4096x256_S8x512x256 ]
/-- Every operation of `post20` works on buffers of the TensorCore. -/
theorem post20_sub : (post20 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.binary_bufs_sub .., StableHlo.reshape_bufs_sub ..⟩
/-- The buffers `post20` writes. -/
abbrev post20_W : List (Ref sig .tc) := [main_v116, main_v117, main_v118, main_cst_24, main_v119, main_v120, main_v121, main_v122, main_v123, main_v124, main_v125, main_v126, main_v127, main_v128, main_v129, main_v130, main_cst_25, main_v131, main_v132, main_v133, main_cst_26, main_v134, main_v135, main_v136, main_v137, main_cst_27, main_v138, main_v139]
/-- `post20` writes no buffer but those listed. -/
theorem post20_writes : (post20 : List (HloOp τ sig (Elt F))).Forall fun op => op.writes ⊆ (post20_W.map (Proc.devRef (τ := τ) .tc)).toFinset :=
  StableHlo.forall_writes_sub_of_map rfl
/-- `post20` allocates nothing. -/
theorem post20_fresh : (post20 : List (HloOp τ sig (Elt F))).Forall fun op => op.fresh = ∅ :=
  StableHlo.forall_fresh_of_map rfl
/-- One trip: the chosen point is written down; its index, once per coordinate. -/
abbrev body0 : List (HloOp τ sig (Elt F)) :=
  [ StableHlo.nullary main_while0b_c_33 (constantI S_ 32 1#32),
    StableHlo.binary main_v3_2 main_while0b_c_33 main_while0b_v140 (addi : (⟨S_, .i32⟩ : BufTy).Contents (Elt F) → (⟨S_, .i32⟩ : BufTy).Contents (Elt F) → (⟨S_, .i32⟩ : BufTy).Contents (Elt F)),
    StableHlo.nullary main_while0b_c_34 (constantI S_ 32 0#32),
    StableHlo.binary main_v3_2 main_while0b_c_34 main_while0b_v141 (cmpi .slt : (⟨S_, .i32⟩ : BufTy).Contents (Elt F) → (⟨S_, .i32⟩ : BufTy).Contents (Elt F) → (⟨S_, .i1⟩ : BufTy).Contents (Elt F)),
    StableHlo.nullary main_while0b_c_35 (constantI S_ 32 512#32),
    StableHlo.binary main_v3_2 main_while0b_c_35 main_while0b_v142 (addi : (⟨S_, .i32⟩ : BufTy).Contents (Elt F) → (⟨S_, .i32⟩ : BufTy).Contents (Elt F) → (⟨S_, .i32⟩ : BufTy).Contents (Elt F)),
    StableHlo.ternary main_while0b_v141 main_while0b_v142 main_v3_2 main_while0b_v143 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v143 main_while0b_v144 (id : (⟨S_, .i32⟩ : BufTy).Contents (Elt F) → (⟨S_, .i32⟩ : BufTy).Contents (Elt F)),
    StableHlo.unary main_while0b_v144 main_while0b_v145 (broadcastInDim S1 ![] bcast_S_S1 : (⟨S_, .i32⟩ : BufTy).Contents (Elt F) → (⟨S1, .i32⟩ : BufTy).Contents (Elt F)),
    StableHlo.ternary main_v3_3 main_while0b_v145 main_v3_5 main_while0b_v146 ((fun x i u => Host.scatter scatter_S8x512_S1_S8_0_1_1_0 (fun _ b => b) x i u) : (⟨S8x512, .i32⟩ : BufTy).Contents (Elt F) → (⟨S1, .i32⟩ : BufTy).Contents (Elt F) → (⟨S8, .i32⟩ : BufTy).Contents (Elt F) → (⟨S8x512, .i32⟩ : BufTy).Contents (Elt F)),
    StableHlo.unary main_v3_5 main_while0b_v147 (broadcastInDim S8x1x1 ![0] bcast_S8_S8x1x1_0 : (⟨S8, .i32⟩ : BufTy).Contents (Elt F) → (⟨S8x1x1, .i32⟩ : BufTy).Contents (Elt F)),
    StableHlo.unary main_while0b_v147 main_while0b_v148 (broadcastInDim S8x1x3 ![0, 1, 2] bcast_S8x1x1_S8x1x3_0_1_2 : (⟨S8x1x1, .i32⟩ : BufTy).Contents (Elt F) → (⟨S8x1x3, .i32⟩ : BufTy).Contents (Elt F)) ]
/-- Every operation of `body0` works on buffers of the TensorCore. -/
theorem body0_sub : (body0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.nullary_bufs_sub .., StableHlo.binary_bufs_sub .., StableHlo.ternary_bufs_sub .., StableHlo.unary_bufs_sub .., StableHlo.unary_bufs_sub .., StableHlo.ternary_bufs_sub .., StableHlo.unary_bufs_sub .., StableHlo.unary_bufs_sub ..⟩
/-- The buffers `body0` writes. -/
abbrev body0_W : List (Ref sig .tc) := [main_while0b_c_33, main_while0b_v140, main_while0b_c_34, main_while0b_v141, main_while0b_c_35, main_while0b_v142, main_while0b_v143, main_while0b_v144, main_while0b_v145, main_while0b_v146, main_while0b_v147, main_while0b_v148]
/-- `body0` writes no buffer but those listed. -/
theorem body0_writes : (body0 : List (HloOp τ sig (Elt F))).Forall fun op => op.writes ⊆ (body0_W.map (Proc.devRef (τ := τ) .tc)).toFinset :=
  StableHlo.forall_writes_sub_of_map rfl
/-- `body0` allocates nothing. -/
theorem body0_fresh : (body0 : List (HloOp τ sig (Elt F))).Forall fun op => op.fresh = ∅ :=
  StableHlo.forall_fresh_of_map rfl
/-- The chosen point, read out of the points. -/
abbrev body1 : List (HloOp τ sig (Elt F)) :=
  [ StableHlo.TRef.nullary (.of main_while0b_call0_c : StableHlo.TRef sig ⟨S_, .i32⟩) (constantI S_ 32 0#32),
    StableHlo.TRef.unary (.of main_while0b_call0_c : StableHlo.TRef sig ⟨S_, .i32⟩) (.of main_while0b_call0_v0 : StableHlo.TRef sig ⟨S8x1x3, .i32⟩) (broadcastInDim S8x1x3 ![] bcast_S_S8x1x3),
    StableHlo.TRef.binary (.of main_while0b_v148 : StableHlo.TRef sig ⟨S8x1x3, .i32⟩) (.of main_while0b_call0_v0 : StableHlo.TRef sig ⟨S8x1x3, .i32⟩) (.of main_while0b_call0_v1 : StableHlo.TRef sig ⟨S8x1x3, .i1⟩) (cmpi .slt),
    StableHlo.TRef.nullary (.of main_while0b_call0_c_0 : StableHlo.TRef sig ⟨S_, .i32⟩) (constantI S_ 32 8192#32),
    StableHlo.TRef.unary (.of main_while0b_call0_c_0 : StableHlo.TRef sig ⟨S_, .i32⟩) (.of main_while0b_call0_v2 : StableHlo.TRef sig ⟨S8x1x3, .i32⟩) (broadcastInDim S8x1x3 ![] bcast_S_S8x1x3),
    StableHlo.TRef.binary (.of main_while0b_v148 : StableHlo.TRef sig ⟨S8x1x3, .i32⟩) (.of main_while0b_call0_v2 : StableHlo.TRef sig ⟨S8x1x3, .i32⟩) (.of main_while0b_call0_v3 : StableHlo.TRef sig ⟨S8x1x3, .i32⟩) addi,
    StableHlo.TRef.ternary (.of main_while0b_call0_v1 : StableHlo.TRef sig ⟨S8x1x3, .i1⟩) (.of main_while0b_call0_v3 : StableHlo.TRef sig ⟨S8x1x3, .i32⟩) (.of main_while0b_v148 : StableHlo.TRef sig ⟨S8x1x3, .i32⟩) (.of main_while0b_call0_v4 : StableHlo.TRef sig ⟨S8x1x3, .i32⟩) select,
    StableHlo.TRef.reshape (.of main_while0b_call0_v4 : StableHlo.TRef sig ⟨S8x1x3, .i32⟩) (.of main_while0b_call0_v5 : StableHlo.TRef sig ⟨S8x1x3x1, .i32⟩) (rfl : (.i32 : EltTy) = .i32) shapeCasts_S8x1x3_S8x1x3x1,
    StableHlo.TRef.nullary (.of main_while0b_call0_c_1 : StableHlo.TRef sig ⟨S1, .i32⟩) (constantI S1 32 8191#32),
    StableHlo.TRef.nullary (.of main_while0b_call0_c_2 : StableHlo.TRef sig ⟨S_, .i32⟩) (constantI S_ 32 0#32),
    StableHlo.TRef.unary (.of main_while0b_call0_c_2 : StableHlo.TRef sig ⟨S_, .i32⟩) (.of main_while0b_call0_v6 : StableHlo.TRef sig ⟨S8x1x3x1, .i32⟩) (broadcastInDim S8x1x3x1 ![] bcast_S_S8x1x3x1),
    StableHlo.TRef.binary (.of main_while0b_call0_v5 : StableHlo.TRef sig ⟨S8x1x3x1, .i32⟩) (.of main_while0b_call0_v6 : StableHlo.TRef sig ⟨S8x1x3x1, .i32⟩) (.of main_while0b_call0_v7 : StableHlo.TRef sig ⟨S8x1x3x1, .i1⟩) (cmpi .sge),
    StableHlo.TRef.unary (.of main_while0b_call0_c_1 : StableHlo.TRef sig ⟨S1, .i32⟩) (.of main_while0b_call0_v8 : StableHlo.TRef sig ⟨S1x1x1x1, .i32⟩) (broadcastInDim S1x1x1x1 ![3] bcast_S1_S1x1x1x1_3),
    StableHlo.TRef.unary (.of main_while0b_call0_v8 : StableHlo.TRef sig ⟨S1x1x1x1, .i32⟩) (.of main_while0b_call0_v9 : StableHlo.TRef sig ⟨S8x1x3x1, .i32⟩) (broadcastInDim S8x1x3x1 ![0, 1, 2, 3] bcast_S1x1x1x1_S8x1x3x1_0_1_2_3),
    StableHlo.TRef.binary (.of main_while0b_call0_v5 : StableHlo.TRef sig ⟨S8x1x3x1, .i32⟩) (.of main_while0b_call0_v9 : StableHlo.TRef sig ⟨S8x1x3x1, .i32⟩) (.of main_while0b_call0_v10 : StableHlo.TRef sig ⟨S8x1x3x1, .i1⟩) (cmpi .sle),
    StableHlo.TRef.binary (.of main_while0b_call0_v7 : StableHlo.TRef sig ⟨S8x1x3x1, .i1⟩) (.of main_while0b_call0_v10 : StableHlo.TRef sig ⟨S8x1x3x1, .i1⟩) (.of main_while0b_call0_v11 : StableHlo.TRef sig ⟨S8x1x3x1, .i1⟩) andi,
    StableHlo.TRef.nullary (.of main_while0b_call0_c_3 : StableHlo.TRef sig ⟨S_, .i1⟩) (constantI S_ 1 1#1),
    StableHlo.TRef.binary (.of main_while0b_call0_v11 : StableHlo.TRef sig ⟨S8x1x3x1, .i1⟩) (.of main_while0b_call0_c_3 : StableHlo.TRef sig ⟨S_, .i1⟩) (.of main_while0b_call0_v12 : StableHlo.TRef sig ⟨S8x1x3, .i1⟩) (fun x v => Host.reduce IntOp.andi x v reducesTo_S8x1x3x1_S8x1x3_d3 h_S_),
    StableHlo.TRef.binary (.of main_v3_0 : StableHlo.TRef sig ⟨S8x8192x3, .f32⟩) (.of main_while0b_call0_v5 : StableHlo.TRef sig ⟨S8x1x3x1, .i32⟩) (.of main_while0b_call0_v13 : StableHlo.TRef sig ⟨S8x1x3, .f32⟩) (fun x i => Host.gather gather_S8x8192x3_S8x1x3x1_S8x1x3_n_1_02_02_1_3_111 x i),
    StableHlo.TRef.nullary (.of main_while0b_call0_cst : StableHlo.TRef sig ⟨S_, .f32⟩) (constant S_ .f32 0x7FC00000#32),
    StableHlo.TRef.unary (.of main_while0b_call0_cst : StableHlo.TRef sig ⟨S_, .f32⟩) (.of main_while0b_call0_v14 : StableHlo.TRef sig ⟨S8x1x3, .f32⟩) (broadcastInDim S8x1x3 ![] bcast_S_S8x1x3),
    StableHlo.TRef.ternary (.of main_while0b_call0_v12 : StableHlo.TRef sig ⟨S8x1x3, .i1⟩) (.of main_while0b_call0_v13 : StableHlo.TRef sig ⟨S8x1x3, .f32⟩) (.of main_while0b_call0_v14 : StableHlo.TRef sig ⟨S8x1x3, .f32⟩) (.of main_while0b_v149 : StableHlo.TRef sig ⟨S8x1x3, .f32⟩) select ]
/-- Every operation of `body1` works on buffers of the TensorCore. -/
theorem body1_sub : (body1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
/-- The buffers `body1` writes. -/
abbrev body1_W : List (Ref sig .tc) := [main_while0b_call0_c, main_while0b_call0_v0, main_while0b_call0_v1, main_while0b_call0_c_0, main_while0b_call0_v2, main_while0b_call0_v3, main_while0b_call0_v4, main_while0b_call0_v5, main_while0b_call0_c_1, main_while0b_call0_c_2, main_while0b_call0_v6, main_while0b_call0_v7, main_while0b_call0_v8, main_while0b_call0_v9, main_while0b_call0_v10, main_while0b_call0_v11, main_while0b_call0_c_3, main_while0b_call0_v12, main_while0b_call0_v13, main_while0b_call0_cst, main_while0b_call0_v14, main_while0b_v149]
/-- `body1` writes no buffer but those listed. -/
theorem body1_writes : (body1 : List (HloOp τ sig (Elt F))).Forall fun op => op.writes ⊆ (body1_W.map (Proc.devRef (τ := τ) .tc)).toFinset :=
  StableHlo.forall_writes_sub_of_map rfl
/-- `body1` allocates nothing. -/
theorem body1_fresh : (body1 : List (HloOp τ sig (Elt F))).Forall fun op => op.fresh = ∅ :=
  StableHlo.forall_fresh_of_map rfl
/-- Distances to the chosen set. -/
abbrev body2 : List (HloOp τ sig (Elt F)) :=
  [ StableHlo.unary main_while0b_v149 main_while0b_v150 (broadcastInDim S8x8192x3 ![0, 1, 2] bcast_S8x1x3_S8x8192x3_0_1_2 : (⟨S8x1x3, .f32⟩ : BufTy).Contents (Elt F) → (⟨S8x8192x3, .f32⟩ : BufTy).Contents (Elt F)),
    StableHlo.binary main_v3_0 main_while0b_v150 main_while0b_v151 (subf : (⟨S8x8192x3, .f32⟩ : BufTy).Contents (Elt F) → (⟨S8x8192x3, .f32⟩ : BufTy).Contents (Elt F) → (⟨S8x8192x3, .f32⟩ : BufTy).Contents (Elt F)),
    StableHlo.binary main_while0b_v151 main_while0b_v151 main_while0b_v152 (mulf : (⟨S8x8192x3, .f32⟩ : BufTy).Contents (Elt F) → (⟨S8x8192x3, .f32⟩ : BufTy).Contents (Elt F) → (⟨S8x8192x3, .f32⟩ : BufTy).Contents (Elt F)),
    StableHlo.nullary main_while0b_cst_36 (constant S_ .f32 0x00000000#32),
    StableHlo.binary main_while0b_v152 main_while0b_cst_36 main_while0b_v153 ((fun x v => Host.reduceAdd x v reducesTo_S8x8192x3_S8x8192_d2 h_S_) : (⟨S8x8192x3, .f32⟩ : BufTy).Contents (Elt F) → (⟨S_, .f32⟩ : BufTy).Contents (Elt F) → (⟨S8x8192, .f32⟩ : BufTy).Contents (Elt F)),
    StableHlo.binary main_v3_4 main_while0b_v153 main_while0b_v154 (minimumf : (⟨S8x8192, .f32⟩ : BufTy).Contents (Elt F) → (⟨S8x8192, .f32⟩ : BufTy).Contents (Elt F) → (⟨S8x8192, .f32⟩ : BufTy).Contents (Elt F)) ]
/-- Every operation of `body2` works on buffers of the TensorCore. -/
theorem body2_sub : (body2 : List (HloOp τ sig (Elt F))).Forall fun op => op.bufs ⊆ StableHlo.tcRefs τ sig :=
  ⟨StableHlo.unary_bufs_sub .., StableHlo.binary_bufs_sub .., StableHlo.binary_bufs_sub .., StableHlo.nullary_bufs_sub .., StableHlo.binary_bufs_sub .., StableHlo.binary_bufs_sub ..⟩
/-- The buffers `body2` writes. -/
abbrev body2_W : List (Ref sig .tc) := [main_while0b_v150, main_while0b_v151, main_while0b_v152, main_while0b_cst_36, main_while0b_v153, main_while0b_v154]
/-- `body2` writes no buffer but those listed. -/
theorem body2_writes : (body2 : List (HloOp τ sig (Elt F))).Forall fun op => op.writes ⊆ (body2_W.map (Proc.devRef (τ := τ) .tc)).toFinset :=
  StableHlo.forall_writes_sub_of_map rfl
/-- `body2` allocates nothing. -/
theorem body2_fresh : (body2 : List (HloOp τ sig (Elt F))).Forall fun op => op.fresh = ∅ :=
  StableHlo.forall_fresh_of_map rfl
/-- The farthest point. -/
abbrev body3 : List (HloOp τ sig (Elt F)) :=
  [ StableHlo.TRef.nullary (.of main_while0b_call1_v0 : StableHlo.TRef sig ⟨S8x8192, .i32⟩) (iotaInDim S8x8192 32 1),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_while0b_v154 : StableHlo.TRef sig ⟨S8x8192, .f32⟩) (.of main_while0b_call1_v0 : StableHlo.TRef sig ⟨S8x8192, .i32⟩) (.of main_while0b_call1_cst : StableHlo.TRef sig ⟨S_, .f32⟩) (.of main_while0b_call1_c : StableHlo.TRef sig ⟨S_, .i32⟩) (.of main_while0b_call1_v1_0 : StableHlo.TRef sig ⟨S8, .f32⟩) (fun x y u v j => (Host.argReduce reducer_argmax_f32_i32 x y u v reducesTo_S8x8192_S8_d1 h_S_ j).1),
    StableHlo.TRef.quaternary (.of main_while0b_v154 : StableHlo.TRef sig ⟨S8x8192, .f32⟩) (.of main_while0b_call1_v0 : StableHlo.TRef sig ⟨S8x8192, .i32⟩) (.of main_while0b_call1_cst : StableHlo.TRef sig ⟨S_, .f32⟩) (.of main_while0b_call1_c : StableHlo.TRef sig ⟨S_, .i32⟩) (.of main_while0b_v155 : StableHlo.TRef sig ⟨S8, .i32⟩) (fun x y u v j => (Host.argReduce reducer_argmax_f32_i32 x y u v reducesTo_S8x8192_S8_d1 h_S_ j).2) ]
/-- Every operation of `body3` works on buffers of the TensorCore. -/
theorem body3_sub : (body3 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- The buffers `body3` writes. -/
abbrev body3_W : List (Ref sig .tc) := [main_while0b_call1_v0, main_while0b_call1_cst, main_while0b_call1_c, main_while0b_call1_v1_0, main_while0b_v155]
/-- `body3` writes no buffer but those listed. -/
theorem body3_writes : (body3 : List (HloOp τ sig (Elt F))).Forall fun op => op.writes ⊆ (body3_W.map (Proc.devRef (τ := τ) .tc)).toFinset :=
  StableHlo.forall_writes_sub_of_map rfl
/-- `body3` allocates nothing. -/
theorem body3_fresh : (body3 : List (HloOp τ sig (Elt F))).Forall fun op => op.fresh = ∅ :=
  StableHlo.forall_fresh_of_map rfl
/-- The carried values. -/
abbrev body4 : List (HloOp τ sig (Elt F)) :=
  [ StableHlo.nullary main_while0b_c_37 (constantI S_ 32 1#32),
    StableHlo.binary main_v3_1 main_while0b_c_37 main_while0b_v156 (addi : (⟨S_, .i32⟩ : BufTy).Contents (Elt F) → (⟨S_, .i32⟩ : BufTy).Contents (Elt F) → (⟨S_, .i32⟩ : BufTy).Contents (Elt F)),
    StableHlo.unary main_while0b_v156 main_v3_1 id,
    StableHlo.unary main_while0b_v140 main_v3_2 id,
    StableHlo.unary main_while0b_v146 main_v3_3 id,
    StableHlo.unary main_while0b_v154 main_v3_4 id,
    StableHlo.unary main_while0b_v155 main_v3_5 id ]
/-- Every operation of `body4` works on buffers of the TensorCore. -/
theorem body4_sub : (body4 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub ..⟩
/-- The buffers `body4` writes. -/
abbrev body4_W : List (Ref sig .tc) := [main_while0b_c_37, main_while0b_v156, main_v3_1, main_v3_2, main_v3_3, main_v3_4, main_v3_5]
/-- `body4` writes no buffer but those listed. -/
theorem body4_writes : (body4 : List (HloOp τ sig (Elt F))).Forall fun op => op.writes ⊆ (body4_W.map (Proc.devRef (τ := τ) .tc)).toFinset :=
  StableHlo.forall_writes_sub_of_map rfl
/-- `body4` allocates nothing. -/
theorem body4_fresh : (body4 : List (HloOp τ sig (Elt F))).Forall fun op => op.fresh = ∅ :=
  StableHlo.forall_fresh_of_map rfl

end Cert.RefRun

end
-- ==== Proof.RefRun.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter
public import proofs.«01_k».proof.Proof.RefOps

@[expose] public section

/-! The run of the reference: its loop counted, its contents after every stretch, its arguments unchanged. -/

set_option maxRecDepth 4000

noncomputable section

namespace Cert.RefRun

open Cert.ReferenceIdeal Cert.ReferenceIdeal.Gen
open Idealize.ShloMosaic Idealize.ShloMosaic.TcCoe Idealize.ShloMosaic.StableHlo
open Idealize.SL Idealize.SL.RA Idealize.SL.BI
open scoped Idealize.SL.BI
open Idealize.SL.BI.BIBase Idealize.SL.Sem

variable {F : FTy → Type} [FloatOps F]

/-- The first part of the reference is its stretches in order. -/
theorem main_part0_chain (c : Dev nD) : main_part0 (F := F) c = (Pipeline.chainK
  [ StableHlo.seq pre0,
    HostLoop.enter 0,
    StableHlo.seq post1,
    StableHlo.seq post2,
    StableHlo.seq post3,
    StableHlo.seq post4,
    StableHlo.seq post5,
    StableHlo.seq post6,
    StableHlo.seq post7,
    StableHlo.seq post8,
    StableHlo.seq post9,
    StableHlo.seq post10,
    StableHlo.seq post11 ]
  (StableHlo.seq post12) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, StableHlo.chainK_seq_cons, Pipeline.chainK_cons, StableHlo.chainK_seq_cons, Pipeline.chainK_cons, StableHlo.chainK_seq_cons, Pipeline.chainK_cons, StableHlo.chainK_seq_cons, Pipeline.chainK_cons, Pipeline.chainK_cons, StableHlo.chainK_seq_cons, Pipeline.chainK_cons]
  chain_rfl
/-- So is the second part. -/
theorem main_part1_chain (c : Dev nD) : main_part1 (F := F) c = (Pipeline.chainK
  [ StableHlo.seq post13,
    StableHlo.seq post14,
    StableHlo.seq post15,
    StableHlo.seq post16,
    StableHlo.seq post17 ]
  (StableHlo.seq post18a) : Prog (TpuEff nD τ sig (Elt F) (HostLoop.Sig (Pipeline.Sig Λ₀ (Fin 0) fun p => (pcfgs (F := F) p).Adm) 1) .tc) PUnit) := by
  rewrite [Pipeline.chainK_cons, StableHlo.chainK_seq_cons, Pipeline.chainK_cons, StableHlo.chainK_seq_cons, Pipeline.chainK_cons]
  chain_rfl
/-- And the third. -/
theorem main_part2_chain (c : Dev nD) : main_part2 (F := F) c = (Pipeline.chain
  [ StableHlo.seq post18b,
    StableHlo.seq post19,
    StableHlo.seq post20 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons]
  chain_rfl
/-- The whole reference: a stretch, the loop, and the stretches after it. -/
theorem main_chain_windows (c : Dev nD) : main (F := F) c = (Pipeline.chain
  [ StableHlo.seq pre0,
    HostLoop.enter 0,
    StableHlo.seq post1,
    StableHlo.seq post2,
    StableHlo.seq post3,
    StableHlo.seq post4,
    StableHlo.seq post5,
    StableHlo.seq post6,
    StableHlo.seq post7,
    StableHlo.seq post8,
    StableHlo.seq post9,
    StableHlo.seq post10,
    StableHlo.seq post11,
    StableHlo.seq post12,
    StableHlo.seq post13,
    StableHlo.seq post14,
    StableHlo.seq post15,
    StableHlo.seq post16,
    StableHlo.seq post17,
    StableHlo.seq post18a,
    StableHlo.seq post18b,
    StableHlo.seq post19,
    StableHlo.seq post20 ] : Prog (TpuEff nD τ sig (Elt F) (HostLoop.Sig (Pipeline.Sig Λ₀ (Fin 0) fun p => (pcfgs (F := F) p).Adm) 1) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl
/-- The body of the loop is its five stretches in order. -/
theorem while0_body_chain : main_while0_body (F := F) = (Pipeline.chain
  [ StableHlo.seq body0,
    StableHlo.seq body1,
    StableHlo.seq body2,
    StableHlo.seq body3,
    StableHlo.seq body4 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons]
  chain_rfl

/-- What runs before the loop, in one trip, and after it. -/
abbrev preI : List (List (HloOp τ sig (Elt F))) := [pre0]
/-- A round's stretches. -/
abbrev bodyI : List (List (HloOp τ sig (Elt F))) := [body0, body1, body2, body3, body4]
/-- The stretches after the loop. -/
abbrev postI : List (List (HloOp τ sig (Elt F))) := [post1, post2, post3, post4, post5, post6, post7, post8, post9, post10, post11, post12, post13, post14, post15, post16, post17, post18a, post18b, post19, post20]
/-- What the loop's test computes. -/
abbrev condOps : List (HloOp τ sig (Elt F)) :=
  [ StableHlo.nullary main_while0c_c_33 (constantI S_ 32 512#32),
    StableHlo.binary main_v3_1 main_while0c_c_33 main_while0c_v140 (cmpi .slt) ]
/-- The buffers the loop's test writes. -/
abbrev condOps_W : List (Ref sig .tc) := [main_while0c_c_33, main_while0c_v140]
/-- The loop's test writes no buffer but those listed. -/
theorem condOps_writes : (condOps : List (HloOp τ sig (Elt F))).Forall fun op => op.writes ⊆ (condOps_W.map (Proc.devRef (τ := τ) .tc)).toFinset :=
  StableHlo.forall_writes_sub_of_map rfl

/-- The stretches before the loop are plain. -/
theorem preI_plain : Plain (preI (F := F)) := .cons pre0_sub (hf := List.forall_iff_forall_mem.mp pre0_fresh) (.nil)
/-- A round's stretches are plain. -/
theorem bodyI_plain : Plain (bodyI (F := F)) := .cons body0_sub (hf := List.forall_iff_forall_mem.mp body0_fresh) (.cons body1_sub (hf := List.forall_iff_forall_mem.mp body1_fresh) (.cons body2_sub (hf := List.forall_iff_forall_mem.mp body2_fresh) (.cons body3_sub (hf := List.forall_iff_forall_mem.mp body3_fresh) (.cons body4_sub (hf := List.forall_iff_forall_mem.mp body4_fresh) (.nil)))))
/-- The stretches after the loop are plain. -/
theorem postI_plain : Plain (postI (F := F)) := .cons post1_sub (hf := List.forall_iff_forall_mem.mp post1_fresh) (.cons post2_sub (hf := List.forall_iff_forall_mem.mp post2_fresh) (.cons post3_sub (hf := List.forall_iff_forall_mem.mp post3_fresh) (.cons post4_sub (hf := List.forall_iff_forall_mem.mp post4_fresh) (.cons post5_sub (hf := List.forall_iff_forall_mem.mp post5_fresh) (.cons post6_sub (hf := List.forall_iff_forall_mem.mp post6_fresh) (.cons post7_sub (hf := List.forall_iff_forall_mem.mp post7_fresh) (.cons post8_sub (hf := List.forall_iff_forall_mem.mp post8_fresh) (.cons post9_sub (hf := List.forall_iff_forall_mem.mp post9_fresh) (.cons post10_sub (hf := List.forall_iff_forall_mem.mp post10_fresh) (.cons post11_sub (hf := List.forall_iff_forall_mem.mp post11_fresh) (.cons post12_sub (hf := List.forall_iff_forall_mem.mp post12_fresh) (.cons post13_sub (hf := List.forall_iff_forall_mem.mp post13_fresh) (.cons post14_sub (hf := List.forall_iff_forall_mem.mp post14_fresh) (.cons post15_sub (hf := List.forall_iff_forall_mem.mp post15_fresh) (.cons post16_sub (hf := List.forall_iff_forall_mem.mp post16_fresh) (.cons post17_sub (hf := List.forall_iff_forall_mem.mp post17_fresh) (.cons post18a_sub (hf := List.forall_iff_forall_mem.mp post18a_fresh) (.cons post18b_sub (hf := List.forall_iff_forall_mem.mp post18b_fresh) (.cons post19_sub (hf := List.forall_iff_forall_mem.mp post19_fresh) (.cons post20_sub (hf := List.forall_iff_forall_mem.mp post20_fresh) (.nil)))))))))))))))))))))

/-- `W` lists, stretch by stretch, every buffer the stretches of `l` write. -/
abbrev Writes (l : List (List (HloOp τ sig (Elt F)))) (W : List (List (Ref sig .tc))) : Prop :=
  List.Forall₂ (fun ops w => ops.Forall fun op => op.writes ⊆ (w.map (Proc.devRef (τ := τ) .tc)).toFinset) l W

/-- The buffers a round's stretches write. -/
abbrev bodyW : List (List (Ref sig .tc)) := [body0_W, body1_W, body2_W, body3_W, body4_W]
/-- The buffers the stretches after the loop write. -/
abbrev postW : List (List (Ref sig .tc)) := [post1_W, post2_W, post3_W, post4_W, post5_W, post6_W, post7_W, post8_W, post9_W, post10_W, post11_W, post12_W, post13_W, post14_W, post15_W, post16_W, post17_W, post18a_W, post18b_W, post19_W, post20_W]
/-- A round writes no buffer but those listed. -/
theorem bodyI_writes : Writes (F := F) bodyI bodyW := .cons body0_writes (.cons body1_writes (.cons body2_writes (.cons body3_writes (.cons body4_writes (.nil)))))
/-- The stretches after the loop write no buffer but those listed. -/
theorem postI_writes : Writes (F := F) postI postW := .cons post1_writes (.cons post2_writes (.cons post3_writes (.cons post4_writes (.cons post5_writes (.cons post6_writes (.cons post7_writes (.cons post8_writes (.cons post9_writes (.cons post10_writes (.cons post11_writes (.cons post12_writes (.cons post13_writes (.cons post14_writes (.cons post15_writes (.cons post16_writes (.cons post17_writes (.cons post18a_writes (.cons post18b_writes (.cons post19_writes (.cons post20_writes (.nil)))))))))))))))))))))

/-- A buffer in none of the lists keeps its contents. -/
theorem afterL_keep {l : List (List (HloOp τ sig (Elt F)))} {W : List (List (Ref sig .tc))} (h : Writes l W) (r : Ref sig .tc)
    (hr : ∀ w ∈ W, r ∉ w) (V : Valuation τ sig (Elt F)) : afterL l V (Proc.devRef .tc r) = V (Proc.devRef .tc r) := by
  induction h generalizing V with
  | nil => rfl
  | cons h₁ _ ih =>
    rw [afterL_cons, ih (fun w hw => hr w (List.mem_cons_of_mem _ hw))]
    exact after_of_writes_sub _ V h₁ (hr _ List.mem_cons_self)

/-- Two lists of stretches, one after the other. -/
theorem afterL_append (l₁ l₂ : List (List (HloOp τ sig (Elt F)))) (V : Valuation τ sig (Elt F)) :
    afterL (l₁ ++ l₂) V = afterL l₂ (afterL l₁ V) := by
  induction l₁ generalizing V with
  | nil => rfl
  | cons a l ih => rw [List.cons_append, afterL_cons, afterL_cons, ih]

/-- Contents after the first `k` stretches behind the loop, from contents `X`. -/
def postAt (X : Valuation τ sig (Elt F)) (k : ℕ) : Valuation τ sig (Elt F) := afterL (postI.take k) X

/-- A buffer that stretches `j+1 … j+n` leave alone. -/
theorem postAt_keep (X : Valuation τ sig (Elt F)) (j n : ℕ) (r : Ref sig .tc) (hr : ∀ w ∈ (postW.drop j).take n, r ∉ w) :
    postAt X (j + n) (Proc.devRef .tc r) = postAt X j (Proc.devRef .tc r) := by
  unfold postAt
  rw [List.take_add, afterL_append]
  exact afterL_keep (List.forall₂_take n (List.forall₂_drop j postI_writes)) r hr _

variable (m : (ℓ : Loc nD τ sig) → Buf (Elt F) ℓ) (ρ : Dev nD → PrngReg)

/-- Contents at the start of trip `k`. -/
abbrev atK (k : ℕ) (c : Dev nD) : Valuation τ sig (Elt F) := atTrip condOps bodyI (entryContents preI m) k c

/-- The trip counter at the loop's entry is zero. -/
theorem counter_entry (c : Dev nD) : entryContents preI m c (Proc.devRef .tc main_v3_1) = fun _ => (0#32 : BitVec 32) := by
  simp only [entryContents, afterL_cons, afterL_nil]
  after_reads_simp
  rfl

/-- A trip raises the counter by one. -/
theorem counter_step (V : Valuation τ sig (Elt F)) :
    afterL bodyI (after condOps V) (Proc.devRef .tc main_v3_1) = addi (V (Proc.devRef .tc main_v3_1)) (constantI S_ 32 1#32) := by
  have h4 : ∀ X : Valuation τ sig (Elt F), after body4 X (Proc.devRef .tc main_v3_1) = addi (X (Proc.devRef .tc main_v3_1)) (constantI S_ 32 1#32) := by
    intro X
    after_results
    rfl
  rw [show bodyI (F := F) = [body0, body1, body2, body3] ++ [body4] from rfl, afterL_append]
  simp only [afterL_cons, afterL_nil]
  rw [h4, after_of_writes_sub body3 _ body3_writes (by decide +kernel), after_of_writes_sub body2 _ body2_writes (by decide +kernel),
    after_of_writes_sub body1 _ body1_writes (by decide +kernel), after_of_writes_sub body0 _ body0_writes (by decide +kernel),
    after_of_writes_sub condOps _ condOps_writes (by decide +kernel)]

/-- Before trip `k` the counter is `k`. -/
theorem counter_at (c : Dev nD) : ∀ k, atK m k c (Proc.devRef .tc main_v3_1) = fun _ => Scf.iv 0#32 1#32 k
  | 0 => by rw [show atK m 0 c = entryContents preI m c from rfl, counter_entry, Scf.iv_zero]
  | k + 1 => by
    rw [show atK m (k + 1) c = afterL bodyI (after condOps (atK m k c)) from rfl, counter_step, counter_at c k, Scf.iv_succ]
    rfl

set_option backward.isDefEq.respectTransparency.types false in
/-- The loop's test holds exactly at the trips below 512. -/
theorem test_spec : CondSpec (pcfgs (F := F)) defs₀ loops (main_while0_cond (F := F)) condOps bodyI (entryContents preI m) 512 := by
  intro k hk c bd
  have hctr := counter_at m c k
  unfold main_while0_cond
  rw [wp_bind]
  iintro ⟨Hb, Hh⟩
  iapply (wp_hlo_within (Variants.lift Variants.none) (c : Thread nD τ) bd Set.univ (Pipeline.sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (Pipeline.sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v3_1 HostLoop.idx0)
        (HloOp.result _ (atK m k c) main_while0c_c_33 HostLoop.idx0) = 1#1) (k < 512)
    rw [nullary_result_ne _ _ _ _ (by decide), nullary_result, hctr]
    exact Scf.cmpi_slt_iv_ub_iff (lb := 0#32) (ub := 512#32) (st := 1#32) (by decide) (show k ≤ Scf.trips 0#32 512#32 1#32 from hk)
  isplitl [Hb]; · iexact Hb
  rw [after_cons, after_cons, after_nil]; iexact Hh

/-- Contents when the loop has ended. -/
def looped (c : Dev nD) : Valuation τ sig (Elt F) := after condOps (atK m 512 c)

set_option maxRecDepth 100000 in
/-- The reference runs, and every buffer ends at its contents after the last stretch. -/
theorem run_post : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = postAt (looped m c) 21 (Proc.devRef .tc b)) :=
  run_loop (pcfgs (F := F)) defs₀ loops main 0 main_while0_cond main_while0_body rfl preI bodyI postI condOps preI_plain bodyI_plain postI_plain
    (fun c => by rw [main_chain_windows]; rfl) (by rw [while0_body_chain]; rfl) 512 m ρ (test_spec m)

/-- A buffer nothing in the reference writes ends as it was launched. -/
theorem looped_keep (c : Dev nD) (r : Ref sig .tc) (h₀ : r ∉ pre0_W) (h₁ : r ∉ condOps_W) (h₂ : ∀ w ∈ bodyW, r ∉ w) :
    looped m c (Proc.devRef .tc r) = m ((c : Thread nD τ).loc r) := by
  have hk : ∀ k, atK m k c (Proc.devRef .tc r) = m ((c : Thread nD τ).loc r) := by
    intro k
    induction k with
    | zero => exact after_of_writes_sub pre0 _ pre0_writes h₀
    | succ k ih =>
      rw [show atK m (k + 1) c = afterL bodyI (after condOps (atK m k c)) from rfl, afterL_keep bodyI_writes r h₂,
        after_of_writes_sub condOps _ condOps_writes h₁, ih]
  unfold looped
  rw [after_of_writes_sub condOps _ condOps_writes h₁, hk]

/-- The references the arguments live in. -/
abbrev args : List (Ref sig .tc) := [main_arg0, main_arg1, main_arg2, main_arg3, main_arg4, main_arg5, main_arg6, main_arg7, main_arg8, main_arg9, main_arg10, main_arg11, main_arg12, main_arg13]

/-- The loop leaves the arguments as launched. -/
theorem args_looped (c : Dev nD) : ∀ r ∈ args, looped m c (Proc.devRef .tc r) = m ((c : Thread nD τ).loc r) := by
  intro r hr
  have h : ∀ r ∈ args, r ∉ pre0_W ∧ r ∉ condOps_W ∧ ∀ w ∈ bodyW, r ∉ w := by decide +kernel
  exact looped_keep m c r (h r hr).1 (h r hr).2.1 (h r hr).2.2

/-- No stretch writes an argument. -/
theorem args_postAt (c : Dev nD) (k : ℕ) : ∀ r ∈ args, postAt (looped m c) k (Proc.devRef .tc r) = m ((c : Thread nD τ).loc r) := by
  intro r hr
  have h : ∀ r ∈ args, ∀ w ∈ postW, r ∉ w := by decide +kernel
  rw [← args_looped m c r hr]
  exact afterL_keep (List.forall₂_take k postI_writes) r (fun w hw => h r hr w (List.mem_of_mem_take hw)) _

/-- The arguments outlive every scope. -/
theorem args_unscoped : ∀ r ∈ args, (Proc.devRef .tc r : DevRef τ sig).isScoped = false := by decide +kernel

end Cert.RefRun

end
-- ==== Proof.FpsRef.lean ====
/-
  The reference's loop (farthest-point sampling) at the extended reals: one trip of it at an index.
-/
module

public import proofs.«01_k».proof.Proof.RefRun
public import proofs.«01_k».proof.Proof.Lemmas
public import Idealize.ShloMosaic.Lib.StableHlo.ReadAt

@[expose] public section

set_option maxRecDepth 16384

noncomputable section

namespace Cert.FpsRef

open Cert.ReferenceIdeal Cert.ReferenceIdeal.Gen Cert.RefRun Cert.Lem Idealize.ShloMosaic Idealize.ShloMosaic.StableHlo Idealize.ShloMosaic.TcCoe

variable (X : Valuation τ sig (Elt Ideal))

/-- The counter goes up by one. -/
theorem body0_counter (k : ℕ) (h : X (Proc.devRef .tc main_v3_2) = fun _ => BitVec.ofNat 32 k) :
    after body0 X (Proc.devRef .tc main_while0b_v140) = fun _ => BitVec.ofNat 32 (k + 1) := by
  after_reads_simp
  rw [h]
  funext i
  show BitVec.ofNat 32 k + BitVec.ofNat 32 1 = _
  rw [← BitVec.ofNat_add]

/-- The next index repeated along the coordinates. -/
theorem body0_far (b : Fin 8) (e : Fin 3) : after body0 X (Proc.devRef .tc main_while0b_v148) (ix3 b 0 e) = X (Proc.devRef .tc main_v3_5) (ix1 b) := by
  after_reads_at

/-- A small number read back from a signed word. -/
theorem toInt_word (a : ℕ) (ha : a < 2 ^ 31) : (BitVec.ofNat 32 a).toInt = a := by
  rw [BitVec.toInt_eq_toNat_of_lt (by rw [BitVec.toNat_ofNat]; omega), BitVec.toNat_ofNat, Nat.mod_eq_of_lt (by omega)]

/-- The scatter that sets one column, at an index. -/
theorem scatter_col (x0 : IVec S8x512 32) (I : IVec S1 32) (u : IVec S8 32) (k : ℕ) (hk : k < 512) (hI : ∀ q, I q = BitVec.ofNat 32 k) (b : Fin 8) (j : Fin 512) :
    Host.scatter scatter_S8x512_S1_S8_0_1_1_0 (fun _ b => b) x0 I u (ix2 b j) = if j.val = k then u (ix1 b) else x0 (ix2 b j) := by
  have key : ∀ q : S8.Idx, scatter_S8x512_S1_S8_0_1_1_0.resultIdx? q I = some (ix2 b j) ↔ (q 0).val = b.val ∧ k = j.val := fun q => by
    rw [Routing.resultIdx?_eq_some]
    have s0 : scatter_S8x512_S1_S8_0_1_1_0.start q I 0 = 0 := rfl
    have s1 : scatter_S8x512_S1_S8_0_1_1_0.start q I 1 = (k : ℤ) := by
      show (I _).toInt = _
      rw [hI, toInt_word k (by omega)]
    have w0 : scatter_S8x512_S1_S8_0_1_1_0.window q 0 = (q 0).val := rfl
    have w1 : scatter_S8x512_S1_S8_0_1_1_0.window q 1 = 0 := rfl
    constructor
    · intro h
      have h0 := h 0
      have h1 := h 1
      rw [s0, w0] at h0
      rw [s1, w1] at h1
      have e0 : ((ix2 b j : S8x512.Idx) 0).val = b.val := rfl
      have e1 : ((ix2 b j : S8x512.Idx) 1).val = j.val := rfl
      rw [e0] at h0; rw [e1] at h1
      omega
    · rintro ⟨h0, h1⟩ a
      match a with
      | ⟨0, _⟩ => show scatter_S8x512_S1_S8_0_1_1_0.start q I 0 + (scatter_S8x512_S1_S8_0_1_1_0.window q 0 : ℤ) = (b.val : ℤ); rw [s0, w0]; omega
      | ⟨1, _⟩ => show scatter_S8x512_S1_S8_0_1_1_0.start q I 1 + (scatter_S8x512_S1_S8_0_1_1_0.window q 1 : ℤ) = (j.val : ℤ); rw [s1, w1]; omega
  by_cases e : j.val = k
  · rw [if_pos e]
    refine scatter_hit _ _ _ _ _ _ (ix1 b) ((key _).mpr ⟨rfl, e.symm⟩) fun q hq => congrArg u (funext fun a => ?_)
    match a with
    | ⟨0, _⟩ => exact Fin.ext ((key q).mp hq).1
  · rw [if_neg e]
    exact scatter_miss _ _ _ _ _ fun q hq => e ((key q).mp hq).2.symm

/-- The sample indices with this round's set. -/
theorem body0_idx (k : ℕ) (hk : k < 512) (h : X (Proc.devRef .tc main_v3_2) = fun _ => BitVec.ofNat 32 k) (b : Fin 8) (j : Fin 512) :
    after body0 X (Proc.devRef .tc main_while0b_v146) (ix2 b j) = if j.val = k then X (Proc.devRef .tc main_v3_5) (ix1 b) else X (Proc.devRef .tc main_v3_3) (ix2 b j) := by
  after_reads_simp
  rw [h]
  exact scatter_col _ _ _ k hk (fun q => wrap_word k (by omega) 512#32) b j

/-- The gather reads the point at the next index. -/
theorem body1_cent (f : Fin 8 → Fin 8192) (h : ∀ b e, X (Proc.devRef .tc main_while0b_v148) (ix3 b 0 e) = BitVec.ofNat 32 (f b)) (b : Fin 8) (e : Fin 3) :
    after body1 X (Proc.devRef .tc main_while0b_v149) (ix3 b 0 e) = X (Proc.devRef .tc main_v3_0) (ix3 b (f b) e) := by
  after_reads_at
  rw [h, wrap_word _ (by omega), in_range _ (f b).isLt]
  exact take_apply _ _ rfl _ _ b 0 e (f b) (by omega) (by
    show Scalar.select (IntOp.cmpi .slt (X (Proc.devRef .tc main_while0b_v148) (ix3 b 0 e)) 0#32) (IntOp.addi (X (Proc.devRef .tc main_while0b_v148) (ix3 b 0 e)) 8192#32)
      (X (Proc.devRef .tc main_while0b_v148) (ix3 b 0 e)) = _
    rw [h, wrap_word _ (by omega)])

/-- The distances after a round. -/
theorem body2_dist (x : Vec Ideal S8x8192x3 .f32) (d : Vec Ideal S8x8192 .f32) (y : Vec Ideal S8x1x3 .f32) (hx : X (Proc.devRef .tc main_v3_0) = x)
    (hd : X (Proc.devRef .tc main_v3_4) = d) (hy : X (Proc.devRef .tc main_while0b_v149) = y) (b : Fin 8) (n : Fin 8192) :
    after body2 X (Proc.devRef .tc main_while0b_v154) (ix2 b n)
      = min (d (ix2 b n)) (∑ e : Fin 3, (x (ix3 b n e) - y (ix3 b 0 e)) * (x (ix3 b n e) - y (ix3 b 0 e))) := by
  subst hx hd hy
  after_reads_at

/-- One value and its position is at least as good as another: greater, or as great and not later. -/
def Le (p q : EReal × BitVec 32) : Prop := p.1 < q.1 ∨ (p.1 = q.1 ∧ q.2.toInt ≤ p.2.toInt)

/-- The paired reduction's step: the greater value, and the lesser index among equals. -/
theorem reducer_eq (a b : Ideal .f32 × BitVec 32) : reducer_argmax_f32_i32 (F := Ideal) a b
    = if (b.1 : EReal) < a.1 ∨ ((a.1 : EReal) = b.1 ∧ a.2.toInt < b.2.toInt) then a else b := by
  obtain ⟨a1, a2⟩ := a
  obtain ⟨b1, b2⟩ := b
  simp only [reducer_argmax_f32_i32]
  have h1 : FloatOps.cmpf (F := Ideal) .ogt a1 b1 = BitVec.ofBool (decide ((b1 : EReal) < a1)) := rfl
  have h2 : FloatOps.cmpf (F := Ideal) .une a1 a1 = 0#1 := by
    show BitVec.ofBool (decide ((a1 : EReal) ≠ a1)) = 0#1
    simp
  have h3 : FloatOps.cmpf (F := Ideal) .oeq a1 b1 = BitVec.ofBool (decide ((a1 : EReal) = b1)) := rfl
  have h4 : IntOp.cmpi .slt a2 b2 = BitVec.ofBool (decide (a2.toInt < b2.toInt)) := rfl
  rw [h1, h2, h3, h4]
  rcases lt_trichotomy (a1 : EReal) b1 with h | h | h
  · have : ¬ (b1 : EReal) < a1 := not_lt.mpr h.le
    have h' : ¬ (a1 : EReal) = b1 := h.ne
    simp [this, h', Scalar.select, IntOp.ori, IntOp.andi]
  · subst h
    by_cases e : a2.toInt < b2.toInt <;> simp [e, Scalar.select, IntOp.ori, IntOp.andi]
  · have h' : ¬ (a1 : EReal) = b1 := h.ne'
    simp [h, h', Scalar.select, IntOp.ori, IntOp.andi]

/-- The paired reduction over a list ends at the first greatest. -/
theorem best (l : List (EReal × BitVec 32)) (a : EReal × BitVec 32) :
    (l.foldl (reducer_argmax_f32_i32 (F := Ideal)) a = a ∨ l.foldl (reducer_argmax_f32_i32 (F := Ideal)) a ∈ l)
      ∧ Le a (l.foldl (reducer_argmax_f32_i32 (F := Ideal)) a) ∧ ∀ b ∈ l, Le b (l.foldl (reducer_argmax_f32_i32 (F := Ideal)) a) := by
  refine foldl_best Le (fun a => .inr ⟨rfl, le_rfl⟩) (fun a b c h g => ?_) (reducer_argmax_f32_i32 (F := Ideal)) (fun a b => ?_) l a
  · rcases h with h | ⟨h, h'⟩ <;> rcases g with g | ⟨g, g'⟩
    · exact .inl (h.trans g)
    · exact .inl (g ▸ h)
    · exact .inl (h ▸ g)
    · exact .inr ⟨h.trans g, g'.trans h'⟩
  · have e := reducer_eq a b
    split at e
    · next h =>
      refine ⟨.inl e, e.symm ▸ .inr ⟨rfl, le_rfl⟩, ?_⟩
      rw [e]
      rcases h with h | ⟨h, h'⟩
      · exact .inl h
      · exact .inr ⟨h.symm, h'.le⟩
    · next h =>
      refine ⟨.inr e, ?_, e.symm ▸ .inr ⟨rfl, le_rfl⟩⟩
      rw [e]
      rw [not_or] at h
      rcases lt_or_eq_of_le (not_lt.mp h.1) with g | g
      · exact .inl g
      · exact .inr ⟨g, by by_contra hh; exact h.2 ⟨g, not_le.mp hh⟩⟩

/-- The pairs that the arg-max at row `b` folds over. -/
theorem mem_fiber (x : FVec Ideal S8x8192 .f32) (b : Fin 8) (p : EReal × BitVec 32) :
    p ∈ Host.argReduceFiber x (iotaInDim S8x8192 32 1) reducesTo_S8x8192_S8_d1 (ix1 b) ↔ ∃ n : Fin 8192, p = (x (ix2 b n), BitVec.ofNat 32 n) := by
  have hd : ∀ i : S8x8192.Idx, reducesTo_S8x8192_S8_d1.drop i = ix1 b ↔ (i 0).val = b.val := fun i => by
    constructor
    · intro h
      rw [← Shape.ReducesTo.drop_apply_val_of_eq reducesTo_S8x8192_S8_d1 i 0 0, h]; rfl
    · intro h
      funext a
      match a with
      | ⟨0, _⟩ => exact Fin.ext ((Shape.ReducesTo.drop_apply_val_of_eq reducesTo_S8x8192_S8_d1 i 0 0).trans h)
  unfold Host.argReduceFiber
  rw [List.mem_map]
  constructor
  · rintro ⟨n, hn, rfl⟩
    have h := (hd _).mp (of_decide_eq_true (List.mem_filter.mp hn).2)
    generalize S8x8192.rowMajor.symm n = i at h
    refine ⟨i 1, ?_⟩
    have hi : i = ix2 b (i 1) := funext fun a => by
      match a with
      | ⟨0, _⟩ => exact Fin.ext h
      | ⟨1, _⟩ => rfl
    exact Prod.ext (congrArg x hi) rfl
  · rintro ⟨n, rfl⟩
    refine ⟨S8x8192.rowMajor (ix2 b n), List.mem_filter.mpr ⟨List.mem_finRange _, ?_⟩, ?_⟩
    · rw [Equiv.symm_apply_apply]; exact decide_eq_true ((hd _).mpr rfl)
    · rw [Equiv.symm_apply_apply]; rfl

/-- The paired reduction gives the first farthest index. -/
theorem body3_far (b : Fin 8) (g : Fin 8192) (d : FVec Ideal S8x8192 .f32) (hd : X (Proc.devRef .tc main_while0b_v154) = d) (hg : IsArg (fun n => d (ix2 b n)) g) :
    after body3 X (Proc.devRef .tc main_while0b_v155) (ix1 b) = BitVec.ofNat 32 g := by
  subst hd
  after_reads_at
  rw [Ideal.argReduce_eq_reduce2, Host.reduce2_eq_foldl_fiber]
  have e0 : ((constant S_ FTy.f32 4286578688#32 : FVec Ideal S_ .f32) (Shape.Idx.first h_S_), (constantI S_ 32 0#32 : IVec S_ 32) (Shape.Idx.first h_S_))
    = ((⊥ : EReal), 0#32) := rfl
  rw [e0]
  generalize X (Proc.devRef .tc main_while0b_v154) = d at hg
  obtain ⟨h1, h2, h3⟩ := best (Host.argReduceFiber d (iotaInDim S8x8192 32 1) reducesTo_S8x8192_S8_d1 (ix1 b)) ((⊥ : EReal), 0#32)
  change ((Host.argReduceFiber d (iotaInDim S8x8192 32 1) reducesTo_S8x8192_S8_d1 (ix1 b)).foldl (reducer_argmax_f32_i32 (F := Ideal)) ((⊥ : EReal), 0#32)).2 = _
  generalize (Host.argReduceFiber d (iotaInDim S8x8192 32 1) reducesTo_S8x8192_S8_d1 (ix1 b)).foldl (reducer_argmax_f32_i32 (F := Ideal)) ((⊥ : EReal), 0#32) = p at h1 h2 h3
  have hn : ∃ n : Fin 8192, p = (d (ix2 b n), BitVec.ofNat 32 n) := by
    rcases h1 with h1 | h1
    · refine ⟨0, ?_⟩
      have := h3 _ ((mem_fiber d b _).mpr ⟨0, rfl⟩)
      rw [h1] at this ⊢
      rcases this with h | ⟨h, -⟩
      · exact absurd h not_lt_bot
      · exact Prod.ext h.symm rfl
    · exact (mem_fiber d b p).mp h1
  obtain ⟨n, rfl⟩ := hn
  have ha : IsArg (fun n => (d (ix2 b n) : EReal)) n := by
    refine ⟨fun k => ?_, fun k hk => ?_⟩
    · rcases h3 _ ((mem_fiber d b _).mpr ⟨k, rfl⟩) with h | ⟨h, -⟩
      · exact h.le
      · exact h.le
    · rcases h3 _ ((mem_fiber d b _).mpr ⟨k, rfl⟩) with h | ⟨h, h'⟩
      · exact h
      · exfalso
        change (BitVec.ofNat 32 n.val).toInt ≤ (BitVec.ofNat 32 k.val).toInt at h'
        rw [toInt_word _ (by omega), toInt_word _ (by omega)] at h'
        rw [Fin.lt_def] at hk; omega
  rw [hg.unique ha]

/-- A stretch keeps what it does not write. -/
theorem keep (X : Valuation τ sig (Elt Ideal)) {ops : List (HloOp τ sig (Elt Ideal))} {W : List (Ref sig .tc)}
    (h : ops.Forall fun op => op.writes ⊆ (W.map (Proc.devRef (τ := τ) .tc)).toFinset) (r : Ref sig .tc) (hr : r ∉ W) :
    after ops X (Proc.devRef .tc r) = X (Proc.devRef .tc r) := after_of_writes_sub ops X h hr

/-- The carried buffers take their next values. -/
theorem body4_reads : after body4 X (Proc.devRef .tc main_v3_2) = X (Proc.devRef .tc main_while0b_v140)
    ∧ after body4 X (Proc.devRef .tc main_v3_3) = X (Proc.devRef .tc main_while0b_v146)
    ∧ after body4 X (Proc.devRef .tc main_v3_4) = X (Proc.devRef .tc main_while0b_v154)
    ∧ after body4 X (Proc.devRef .tc main_v3_5) = X (Proc.devRef .tc main_while0b_v155) := by
  refine ⟨?_, ?_, ?_, ?_⟩ <;> (after_reads_simp; rfl)

/-- One trip of the reference's loop. -/
theorem body_step (k : ℕ) (hk : k < 512) (A : FVec Ideal S8x8192x3 .f32) (d : FVec Ideal S8x8192 .f32) (I : IVec S8x512 32) (f : Fin 8 → Fin 8192)
    (hA : X (Proc.devRef .tc main_v3_0) = A) (hc : X (Proc.devRef .tc main_v3_2) = fun _ => BitVec.ofNat 32 k)
    (hI : X (Proc.devRef .tc main_v3_3) = I) (hd : X (Proc.devRef .tc main_v3_4) = d) (hf : ∀ b, X (Proc.devRef .tc main_v3_5) (ix1 b) = BitVec.ofNat 32 (f b)) :
    ∃ d' : FVec Ideal S8x8192 .f32, afterL bodyI (after condOps X) (Proc.devRef .tc main_v3_4) = d'
      ∧ (∀ b n, d' (ix2 b n) = min (d (ix2 b n)) (∑ e : Fin 3, (A (ix3 b n e) - A (ix3 b (f b) e)) * (A (ix3 b n e) - A (ix3 b (f b) e))))
      ∧ afterL bodyI (after condOps X) (Proc.devRef .tc main_v3_0) = A
      ∧ (afterL bodyI (after condOps X) (Proc.devRef .tc main_v3_2) = fun _ => BitVec.ofNat 32 (k + 1))
      ∧ (∀ b g, IsArg (fun n => d' (ix2 b n)) g → afterL bodyI (after condOps X) (Proc.devRef .tc main_v3_5) (ix1 b) = BitVec.ofNat 32 g)
      ∧ ∀ b (j : Fin 512), afterL bodyI (after condOps X) (Proc.devRef .tc main_v3_3) (ix2 b j) = if j.val = k then BitVec.ofNat 32 (f b) else I (ix2 b j) := by
  have k0 : ∀ r, r ∉ condOps_W → after condOps X (Proc.devRef .tc r) = X (Proc.devRef .tc r) := keep X condOps_writes
  rw [← k0 _ (by decide +kernel)] at hA hc hI hd
  have hf' : ∀ b, after condOps X (Proc.devRef .tc main_v3_5) (ix1 b) = BitVec.ofNat 32 (f b) := fun b => by
    rw [k0 _ (by decide +kernel)]; exact hf b
  clear hf
  simp only [afterL_cons, afterL_nil]
  generalize after condOps X = X0 at hA hc hI hd hf'
  have a0 : after body0 X0 (Proc.devRef .tc main_v3_0) = A := by rw [keep _ body0_writes _ (by decide +kernel), hA]
  have d0 : after body0 X0 (Proc.devRef .tc main_v3_4) = d := by rw [keep _ body0_writes _ (by decide +kernel), hd]
  have c0 := body0_counter X0 k hc
  have f0 : ∀ b e, after body0 X0 (Proc.devRef .tc main_while0b_v148) (ix3 b 0 e) = BitVec.ofNat 32 (f b) := fun b e => by rw [body0_far, hf']
  have i0 : ∀ b j, after body0 X0 (Proc.devRef .tc main_while0b_v146) (ix2 b j) = if j.val = k then BitVec.ofNat 32 (f b) else I (ix2 b j) := fun b j => by
    rw [body0_idx X0 k hk hc, hf', hI]
  generalize after body0 X0 = X1 at a0 d0 c0 f0 i0
  have a1 : after body1 X1 (Proc.devRef .tc main_v3_0) = A := by rw [keep _ body1_writes _ (by decide +kernel), a0]
  have d1 : after body1 X1 (Proc.devRef .tc main_v3_4) = d := by rw [keep _ body1_writes _ (by decide +kernel), d0]
  have c1 : after body1 X1 (Proc.devRef .tc main_while0b_v140) = _ := (keep _ body1_writes _ (by decide +kernel)).trans c0
  have i1 : after body1 X1 (Proc.devRef .tc main_while0b_v146) = _ := keep _ body1_writes _ (by decide +kernel)
  have y1 := body1_cent X1 f f0
  rw [a0] at y1
  generalize after body1 X1 = X2 at a1 d1 c1 i1 y1
  have a2 : after body2 X2 (Proc.devRef .tc main_v3_0) = A := by rw [keep _ body2_writes _ (by decide +kernel), a1]
  have c2 : after body2 X2 (Proc.devRef .tc main_while0b_v140) = _ := (keep _ body2_writes _ (by decide +kernel)).trans c1
  have i2 : after body2 X2 (Proc.devRef .tc main_while0b_v146) = _ := (keep _ body2_writes _ (by decide +kernel)).trans i1
  have d2 : ∀ b n, after body2 X2 (Proc.devRef .tc main_while0b_v154) (ix2 b n) = min (d (ix2 b n)) (∑ e : Fin 3, (A (ix3 b n e) - A (ix3 b (f b) e)) * (A (ix3 b n e) - A (ix3 b (f b) e))) := fun b n => by
    rw [body2_dist X2 A d _ a1 d1 rfl]
    simp only [y1]
  generalize after body2 X2 = X3 at a2 c2 i2 d2
  have a3 : after body3 X3 (Proc.devRef .tc main_v3_0) = A := by rw [keep _ body3_writes _ (by decide +kernel), a2]
  have c3 : after body3 X3 (Proc.devRef .tc main_while0b_v140) = _ := (keep _ body3_writes _ (by decide +kernel)).trans c2
  have i3 : after body3 X3 (Proc.devRef .tc main_while0b_v146) = _ := (keep _ body3_writes _ (by decide +kernel)).trans i2
  have d3 : after body3 X3 (Proc.devRef .tc main_while0b_v154) = _ := keep _ body3_writes _ (by decide +kernel)
  have g3 := fun b g => body3_far X3 b g _ rfl
  generalize after body3 X3 = X4 at a3 c3 i3 d3 g3
  obtain ⟨r1, r2, r3, r4⟩ := body4_reads X4
  refine ⟨_, rfl, fun b n => ?_, ?_, ?_, fun b g hg => ?_, fun b j => ?_⟩
  · rw [r3, d3]; exact d2 b n
  · rw [keep _ body4_writes _ (by decide +kernel), a3]
  · exact r1.trans c3
  · rw [r3, d3] at hg
    rw [r4]; exact g3 b g hg
  · rw [r2, i3]; exact i0 b j

end Cert.FpsRef

end
-- ==== Proof.Fps.lean ====
/-
  Both programs sample the same points: the kernel's first call and the reference's loop, trip by trip, and the first
  result of both.
-/
module

public import proofs.«01_k».proof.Proof.FpsKernel
public import proofs.«01_k».proof.Proof.FpsRef

@[expose] public section

set_option maxRecDepth 16384

noncomputable section

namespace Cert.Fps

open Idealize.ShloMosaic Idealize.ShloMosaic.StableHlo Idealize.ShloMosaic.TcCoe Cert.Lem Cert.FpsKernel Cert.RefRun
section Relation
open Cert.ReferenceIdeal (S8x8192x3 S8x8192 S8x512 S8 τ sig main_v3_0 main_v3_2 main_v3_3 main_v3_4 main_v3_5)
open Cert.KernelIdeal (S3x8x8192)
open Cert.KernelIdeal (k0_t1_loop)

/-- Before trip `k`: equal distances, the same farthest points, and the same points gathered so far. -/
structure Rel (A : FVec Ideal S8x8192x3 .f32) (k : ℕ) (s : St) (X : Valuation τ sig (Elt Ideal)) : Prop where
  pts : X (Proc.devRef .tc main_v3_0) = A
  cnt : X (Proc.devRef .tc main_v3_2) = fun _ => BitVec.ofNat 32 k
  dist : X (Proc.devRef .tc main_v3_4) = s.1
  far : ∃ f : Fin 8 → Fin 8192, ∀ b, s.2.1 (ix2 b 0) = BitVec.ofNat 32 (f b) ∧ X (Proc.devRef .tc main_v3_5) (ix1 b) = BitVec.ofNat 32 (f b)
  old : ∀ (b : Fin 8) (j : Fin 512), j.val < k → ∃ g : Fin 8192, X (Proc.devRef .tc main_v3_3) (ix2 b j) = BitVec.ofNat 32 g
    ∧ s.2.2.1 (ix2 b j) = A (ix3 b g 0) ∧ s.2.2.2.1 (ix2 b j) = A (ix3 b g 1) ∧ s.2.2.2.2 (ix2 b j) = A (ix3 b g 2)

/-- Two matrices with equal elements are equal. -/
theorem vec2_ext {α : Type} {n m : ℕ} (x y : (⟨2, ![n, m]⟩ : Shape).Idx → α) (h : ∀ b j, x (ix2 b j) = y (ix2 b j)) : x = y :=
  funext fun i => by
    have e : i = ix2 (i 0) (i 1) := funext fun a => by
      match a with
      | ⟨0, _⟩ => rfl
      | ⟨1, _⟩ => rfl
    rw [e]; exact h _ _

/-- One trip keeps the relation. -/
theorem Rel.step (A : FVec Ideal S8x8192x3 .f32) (x : Vec Ideal Cert.KernelIdeal.S3x8x8192 .f32) (hx : ∀ e b n, x (ix3 e b n) = A (ix3 b n e))
    (k : Fin k0_t1_loop.trips) (s : St) (X : Valuation τ sig (Elt Ideal)) (h : Rel A k.val s X) :
    Rel A (k.val + 1) (trip x k s) (afterL bodyI (after condOps X)) := by
  have hk : k.val < 512 := trips_eq ▸ k.isLt
  obtain ⟨hA, hc, hd, ⟨f, hf⟩, ho⟩ := h
  obtain ⟨d', e4, e4', e0, e2, e5, e3⟩ := FpsRef.body_step X k.val hk A s.1 _ f hA hc rfl hd fun b => (hf b).2
  have hd' : d' = (trip x k s).1 := vec2_ext _ _ fun b n => by
    rw [e4', trip_dist x k s b n (f b) (hf b).1, Fin.sum_univ_three]
    simp only [hx]
  refine ⟨e0, e2, e4.trans hd', ?_, fun b j hj => ?_⟩
  · have hg : ∀ b, ∃ g, IsArg (fun n => d' (ix2 b n)) g := fun b => IsArg.exists _
    refine ⟨fun b => (hg b).choose, fun b => ⟨?_, e5 b _ (hg b).choose_spec⟩⟩
    refine trip_far x k s b _ ?_
    rw [← hd']; exact (hg b).choose_spec
  · rw [e3, trip_x x k s b (f b) (hf b).1, trip_y x k s b (f b) (hf b).1, trip_z x k s b (f b) (hf b).1]
    by_cases e : j.val = k.val
    · simp only [e, if_true]
      exact ⟨f b, rfl, hx _ _ _, hx _ _ _, hx _ _ _⟩
    · simp only [e, if_false]
      exact ho b j (by omega)

end Relation

section Reference
open Cert.ReferenceIdeal

/-- The two loops start alike. -/
theorem Rel.start (m' : (ℓ : Loc nD τ sig) → Buf (Elt Ideal) ℓ) (c : Dev nD) :
    Rel (m' ((c : Thread nD τ).loc main_arg0)) 0 FpsKernel.start (atK m' 0 c) := by
  have e : atK m' 0 c = after pre0 (fun b => m' ((c : Dev nD), b)) := rfl
  rw [e]
  refine ⟨?_, ?_, ?_, ⟨fun _ => 0, fun b => ⟨rfl, ?_⟩⟩, fun b j hj => absurd hj (Nat.not_lt_zero _)⟩
  · after_reads_simp; rfl
  · after_reads_simp; rfl
  · after_reads_simp; rfl
  · after_reads_at; rfl

/-- Gathering the sampled points. -/
theorem post2_take (X : Valuation τ sig (Elt Ideal)) (f : Fin 8 → Fin 512 → Fin 8192) (h : ∀ b j e, X (Proc.devRef .tc main_v5) (ix3 b j e) = BitVec.ofNat 32 (f b j))
    (b : Fin 8) (j : Fin 512) (e : Fin 3) : after post2 X (Proc.devRef .tc main_v6) (ix3 b j e) = X (Proc.devRef .tc main_arg0) (ix3 b (f b j) e) := by
  after_reads_at
  rw [h, wrap_word _ (by omega), in_range _ (f b j).isLt]
  exact take_apply _ _ rfl _ _ b j e (f b j) (by omega) (by
    show Scalar.select (IntOp.cmpi .slt (X (Proc.devRef .tc main_v5) (ix3 b j e)) 0#32) (IntOp.addi (X (Proc.devRef .tc main_v5) (ix3 b j e)) 8192#32)
      (X (Proc.devRef .tc main_v5) (ix3 b j e)) = _
    rw [h, wrap_word _ (by omega)])

/-- The reference's sample indices, repeated along the coordinates. -/
theorem post1_read (X : Valuation τ sig (Elt Ideal)) (b : Fin 8) (j : Fin 512) (e : Fin 3) :
    after post1 X (Proc.devRef .tc main_v5) (ix3 b j e) = X (Proc.devRef .tc main_v3_3) (ix2 b j) := by
  after_reads_at

/-- The first two stretches behind the loop. -/
theorem postAt_two (X : Valuation τ sig (Elt Ideal)) : postAt X 2 = after post2 (after post1 X) := rfl

/-- The relation after all the trips. -/
theorem rel_all (m' : (ℓ : Loc nD τ sig) → Buf (Elt Ideal) ℓ) (c : Dev nD) (x : Vec Ideal Cert.KernelIdeal.S3x8x8192 .f32)
    (hx : ∀ e b n, x (ix3 e b n) = m' ((c : Thread nD τ).loc main_arg0) (ix3 b n e)) :
    Rel (m' ((c : Thread nD τ).loc main_arg0)) 512 (final x) (atK m' 512 c) := by
  have h := fold_induct (fun k s => Rel (m' ((c : Thread nD τ).loc main_arg0)) k s (atK m' k c)) Cert.KernelIdeal.k0_t1_loop.trips (trip x) FpsKernel.start (Rel.start m' c)
    (fun k s h => Rel.step _ x hx k s _ h)
  unfold final
  rw [Scf.fold_eq]
  have e : ∀ n s, n = 512 → Rel (m' ((c : Thread nD τ).loc main_arg0)) n s (atK m' n c) → Rel (m' ((c : Thread nD τ).loc main_arg0)) 512 s (atK m' 512 c) :=
    fun n s e h => by subst e; exact h
  exact e _ _ trips_eq h

/-- The kernel's planes, gathered. -/
theorem points (m' : (ℓ : Loc nD τ sig) → Buf (Elt Ideal) ℓ) (c : Dev nD) (x : Vec Ideal Cert.KernelIdeal.S3x8x8192 .f32)
    (hx : ∀ e b n, x (ix3 e b n) = m' ((c : Thread nD τ).loc main_arg0) (ix3 b n e)) :
    ∃ g : Fin 8 → Fin 512 → Fin 8192, ∀ b j e, postAt (looped m' c) 2 (Proc.devRef .tc main_v6) (ix3 b j e)
        = m' ((c : Thread nD τ).loc main_arg0) (ix3 b (g b j) e)
      ∧ planes x (ix3 e b j) = m' ((c : Thread nD τ).loc main_arg0) (ix3 b (g b j) e) := by
  obtain ⟨-, -, -, -, ho⟩ := rel_all m' c x hx
  have hex : ∀ (b : Fin 8) (j : Fin 512), ∃ g : Fin 8192, _ := fun b j => ho b j j.isLt
  refine ⟨fun b j => (hex b j).choose, fun b j e => ⟨?_, ?_⟩⟩
  · rw [postAt_two, post2_take _ (fun b j => (hex b j).choose) fun b j e => ?_]
    · exact congrFun ((after_of_writes_sub post1 _ post1_writes (by decide +kernel)).trans (args_looped m' c main_arg0 (by decide +kernel))) _
    · rw [post1_read]
      refine Eq.trans ?_ (hex b j).choose_spec.1
      exact congrFun (after_of_writes_sub condOps _ condOps_writes (by decide +kernel)) _
  · obtain ⟨-, h0, h1, h2⟩ := (hex b j).choose_spec
    match e with
    | ⟨0, _⟩ => exact h0
    | ⟨1, _⟩ => exact h1
    | ⟨2, _⟩ => exact h2

end Reference

section Kernel
open Cert.KernelIdeal Cert.KernelIdeal.Gen

variable (m : (ℓ : Loc nD τ sig) → Buf (Elt Ideal) ℓ) (ρ : Dev nD → PrngReg)

/-- The transposed points hold the points. -/
theorem transposed (c : Dev nD) (e : Fin 3) (b : Fin 8) (n : Fin 8192) :
    V1 m ρ c main_v0 (ix3 e b n) = m ((c : Thread nD τ).loc main_arg0) (ix3 b n e) := by
  show after hostOps0 (W0 m ρ c) (Proc.devRef .tc main_v0) (ix3 e b n) = _
  after_reads_at

/-- The kernel's first result in terms of the planes. -/
theorem kernel_xyz (c : Dev nD) (b : Fin 8) (j : Fin 512) (e : Fin 3) :
    W3 m ρ c (Proc.devRef .tc main_v2) (ix3 b j e) = planes (V1 m ρ c main_v0) (ix3 e b j) := by
  have h : W2 m ρ c (Proc.devRef .tc main_v1) = planes (V1 m ρ c main_v0) := (W2_arr m ρ c 1).trans (arr_eq (V1 m ρ) c)
  rw [← h]
  show after hostOps1 (W2 m ρ c) (Proc.devRef .tc main_v2) (ix3 b j e) = _
  after_reads_at

end Kernel

end Cert.Fps

end
-- ==== Proof.Query.lean ====
/-
  The ball query: both programs compute the same table of neighbours from the same sampled points, every entry of it the
  word of a point.
-/
module

public import proofs.«01_k».proof.Proof.Fps

@[expose] public section

set_option maxRecDepth 16384

noncomputable section

namespace Cert.Query

open Idealize.ShloMosaic Idealize.ShloMosaic.StableHlo Idealize.ShloMosaic.TcCoe Cert.Lem

variable (V : Valuation Cert.KernelIdeal.τ Cert.KernelIdeal.sig (Elt Ideal)) (X : Valuation Cert.ReferenceIdeal.τ Cert.ReferenceIdeal.sig (Elt Ideal))

/-- What one stretch of the kernel's program and one of the reference's leave in two buffers, from equal contents of the buffers they read. -/
theorem q3 (h : after Cert.KernelIdeal.Gen.hostOps1 V (Proc.devRef .tc Cert.KernelIdeal.main_v2) = X (Proc.devRef .tc Cert.ReferenceIdeal.main_v6))
    (h0 : V (Proc.devRef .tc Cert.KernelIdeal.main_arg0) = X (Proc.devRef .tc Cert.ReferenceIdeal.main_arg0)) :
    after Cert.KernelIdeal.Gen.hostOps1 V (Proc.devRef .tc Cert.KernelIdeal.main_v15) = after Cert.RefRun.post3 X (Proc.devRef .tc Cert.ReferenceIdeal.main_v19)
      ∧ after Cert.KernelIdeal.Gen.hostOps1 V (Proc.devRef .tc Cert.KernelIdeal.main_cst_2) = after Cert.RefRun.post3 X (Proc.devRef .tc Cert.ReferenceIdeal.main_cst_6) := by
  have e : after Cert.KernelIdeal.Gen.hostOps1 V (Proc.devRef .tc Cert.KernelIdeal.main_v2)
      = transpose Cert.KernelIdeal.S8x512x3 [1, 2, 0] (V (Proc.devRef .tc Cert.KernelIdeal.main_v1)) Cert.KernelIdeal.Gen.transposes_S3x8x512_S8x512x3_1_2_0 := by
    after_reads_simp
  rw [e] at h
  refine ⟨?_, ?_⟩
  · after_reads_simp
    rw [h, h0]
    rfl
  · after_reads_simp

/-- The reference's stretch matched to the kernel's: the two end with equal buffers there. -/
theorem q4
    (h0 : V (Proc.devRef .tc Cert.KernelIdeal.main_cst_2) = X (Proc.devRef .tc Cert.ReferenceIdeal.main_cst_6))
    (h1 : V (Proc.devRef .tc Cert.KernelIdeal.main_v15) = X (Proc.devRef .tc Cert.ReferenceIdeal.main_v19)) :
    after Cert.KernelIdeal.Gen.hostOps1_1 V (Proc.devRef .tc Cert.KernelIdeal.main_v16) = after Cert.RefRun.post4 X (Proc.devRef .tc Cert.ReferenceIdeal.main_v20) := by
  after_reads_simp
  rw [h0, h1]

/-- The reference's stretch matched to the kernel's: the two end with equal buffers there. -/
theorem q5
    (h0 : V (Proc.devRef .tc Cert.KernelIdeal.main_v16) = X (Proc.devRef .tc Cert.ReferenceIdeal.main_v20)) :
    after Cert.KernelIdeal.Gen.hostOps1_2 V (Proc.devRef .tc Cert.KernelIdeal.main_v17) = after Cert.RefRun.post5 X (Proc.devRef .tc Cert.ReferenceIdeal.main_v21)
      ∧ after Cert.KernelIdeal.Gen.hostOps1_2 V (Proc.devRef .tc Cert.KernelIdeal.main_v19) = after Cert.RefRun.post5 X (Proc.devRef .tc Cert.ReferenceIdeal.main_v23)
      ∧ after Cert.KernelIdeal.Gen.hostOps1_2 V (Proc.devRef .tc Cert.KernelIdeal.main_cst_4) = after Cert.RefRun.post5 X (Proc.devRef .tc Cert.ReferenceIdeal.main_cst_8) := by
  refine ⟨?_, ?_, ?_⟩ <;> (after_reads_simp; try simp only [h0]) <;> rfl

/-- The reference's stretch matched to the kernel's: the two end with equal buffers there. -/
theorem q6
    (h0 : V (Proc.devRef .tc Cert.KernelIdeal.main_cst_4) = X (Proc.devRef .tc Cert.ReferenceIdeal.main_cst_8))
    (h1 : V (Proc.devRef .tc Cert.KernelIdeal.main_v19) = X (Proc.devRef .tc Cert.ReferenceIdeal.main_v23))
    (h2 : V (Proc.devRef .tc Cert.KernelIdeal.main_v17) = X (Proc.devRef .tc Cert.ReferenceIdeal.main_v21)) :
    after Cert.KernelIdeal.Gen.hostOps1_3 V (Proc.devRef .tc Cert.KernelIdeal.main_v20) = after Cert.RefRun.post6 X (Proc.devRef .tc Cert.ReferenceIdeal.main_v24) := by
  after_reads_simp
  rw [h0, h1, h2]

/-- The reference's stretch matched to the kernel's: the two end with equal buffers there. -/
theorem q7
    (h0 : V (Proc.devRef .tc Cert.KernelIdeal.main_v20) = X (Proc.devRef .tc Cert.ReferenceIdeal.main_v24)) :
    after Cert.KernelIdeal.Gen.hostOps1_4 V (Proc.devRef .tc Cert.KernelIdeal.main_v22) = after Cert.RefRun.post7 X (Proc.devRef .tc Cert.ReferenceIdeal.main_v26)
      ∧ after Cert.KernelIdeal.Gen.hostOps1_4 V (Proc.devRef .tc Cert.KernelIdeal.main_indices) = after Cert.RefRun.post7 X (Proc.devRef .tc Cert.ReferenceIdeal.main_indices)
      ∧ after Cert.KernelIdeal.Gen.hostOps1_4 V (Proc.devRef .tc Cert.KernelIdeal.main_v24) = after Cert.RefRun.post7 X (Proc.devRef .tc Cert.ReferenceIdeal.main_v28) := by
  refine ⟨?_, ?_, ?_⟩ <;> (after_reads_simp; try simp only [h0]) <;> rfl

/-- The reference's stretch matched to the kernel's: the two end with equal buffers there. -/
theorem q8
    (h0 : V (Proc.devRef .tc Cert.KernelIdeal.main_v22) = X (Proc.devRef .tc Cert.ReferenceIdeal.main_v26)) :
    after Cert.KernelIdeal.Gen.hostOps1_5 V (Proc.devRef .tc Cert.KernelIdeal.main_v25) = after Cert.RefRun.post8 X (Proc.devRef .tc Cert.ReferenceIdeal.main_v29) := by
  after_reads_simp
  rw [h0]

/-- The reference's stretch matched to the kernel's: the two end with equal buffers there. -/
theorem q9
    (h0 : V (Proc.devRef .tc Cert.KernelIdeal.main_v25) = X (Proc.devRef .tc Cert.ReferenceIdeal.main_v29))
    (h1 : V (Proc.devRef .tc Cert.KernelIdeal.main_v24) = X (Proc.devRef .tc Cert.ReferenceIdeal.main_v28))
    (h2 : V (Proc.devRef .tc Cert.KernelIdeal.main_indices) = X (Proc.devRef .tc Cert.ReferenceIdeal.main_indices)) :
    after Cert.KernelIdeal.Gen.hostOps1_6 V (Proc.devRef .tc Cert.KernelIdeal.main_v26) = after Cert.RefRun.post9 X (Proc.devRef .tc Cert.ReferenceIdeal.main_v30) := by
  after_reads_simp
  rw [h0, h1, h2]

/-- The reference's stretch matched to the kernel's: the two end with equal buffers there. -/
theorem q10
    (h0 : V (Proc.devRef .tc Cert.KernelIdeal.main_v26) = X (Proc.devRef .tc Cert.ReferenceIdeal.main_v30)) :
    after Cert.KernelIdeal.Gen.hostOps1_7 V (Proc.devRef .tc Cert.KernelIdeal.main_v27) = after Cert.RefRun.post10 X (Proc.devRef .tc Cert.ReferenceIdeal.main_v31) := by
  after_reads_simp
  rw [h0]
  rfl

/-- Every entry is the word of a point. -/
def Words {s : Shape} (y : IVec s 32) : Prop := ∀ i, ∃ n : Fin 8192, y i = BitVec.ofNat 32 n

section Range
open Cert.KernelIdeal Cert.KernelIdeal.Gen

/-- The neighbours' indices are indices of points. -/
theorem topK_words (x : FVec Ideal S8x512x8192 .f32) :
    Words (Host.topK S8x512x32 2 (FloatOps.cmpfTotal (F := Ideal) .gt) x sliceFits_S8x512x8192_S8x512x32).2 := fun i => by
  unfold Host.topK Host.sort2
  exact ⟨_, rfl⟩

/-- The sorted indices are indices of points. -/
theorem words_indices : Words (after hostOps1_4 V (Proc.devRef .tc main_indices)) := by
  after_reads_simp
  exact topK_words _

/-- The first neighbour's index, repeated, is an index of a point. -/
theorem words_first : Words (after hostOps1_4 V (Proc.devRef .tc main_v24)) := by
  after_reads_simp
  exact fun i => topK_words _ _

/-- The chosen index is an index of a point. -/
theorem words_select (h1 : Words (s := S8x512x32) (V (Proc.devRef .tc main_v24))) (h2 : Words (s := S8x512x32) (V (Proc.devRef .tc main_indices))) :
    Words (s := S8x512x32) (after hostOps1_6 V (Proc.devRef .tc main_v26)) := by
  after_reads_simp
  intro i
  show ∃ n : Fin 8192, Scalar.select _ _ _ = _
  unfold Scalar.select
  split
  · exact h1 i
  · exact h2 i

/-- The indices laid flat are indices of points. -/
theorem words_flat (h : Words (s := S8x512x32) (V (Proc.devRef .tc main_v26))) : Words (s := S8x16384) (after hostOps1_7 V (Proc.devRef .tc main_v27)) := by
  after_reads_simp
  exact fun i => h _

end Range

section Table

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD)

open Cert.KernelIdeal Cert.KernelIdeal.Gen in
/-- The kernel's table holds words of points. -/
theorem words_table : Words (s := S8x16384) (W10 m ρ c (Proc.devRef .tc main_v27)) := by
  refine words_flat (W9 m ρ c) (words_select (W8 m ρ c) ?_ ?_)
  · rw [W8_of m ρ c main_v24 (by decide +kernel)]
    exact words_first _
  · rw [W8_of m ρ c main_indices (by decide +kernel)]
    exact words_indices _

open Cert.KernelIdeal.Gen Cert.RefRun in
/-- Both tables are the same. -/
theorem same_table (h : W3 m ρ c (Proc.devRef .tc Cert.KernelIdeal.main_v2) = postAt X 2 (Proc.devRef .tc Cert.ReferenceIdeal.main_v6))
    (h0 : W2 m ρ c (Proc.devRef .tc Cert.KernelIdeal.main_arg0) = postAt X 2 (Proc.devRef .tc Cert.ReferenceIdeal.main_arg0)) :
    W10 m ρ c (Proc.devRef .tc Cert.KernelIdeal.main_v27) = postAt X 10 (Proc.devRef .tc Cert.ReferenceIdeal.main_v31) := by
  obtain ⟨a1, a2⟩ := q3 (W2 m ρ c) (postAt X 2) h h0
  have b1 := q4 (W3 m ρ c) (postAt X 3) a2 a1
  obtain ⟨c1, c2, c3⟩ := q5 (W4 m ρ c) (postAt X 4) b1
  have d1 := q6 (W5 m ρ c) (postAt X 5) c3 c2 c1
  obtain ⟨e1, e2, e3⟩ := q7 (W6 m ρ c) (postAt X 6) d1
  have f1 := q8 (W7 m ρ c) (postAt X 7) e1
  have f2 : W8 m ρ c (Proc.devRef .tc Cert.KernelIdeal.main_v24) = postAt X 8 (Proc.devRef .tc Cert.ReferenceIdeal.main_v28) :=
    (W8_of m ρ c _ (by decide +kernel)).trans (e3.trans (show _ = postAt X 7 _ from postAt_keep X 7 1 Cert.ReferenceIdeal.main_v28 (by decide +kernel)).symm)
  have f3 : W8 m ρ c (Proc.devRef .tc Cert.KernelIdeal.main_indices) = postAt X 8 (Proc.devRef .tc Cert.ReferenceIdeal.main_indices) :=
    (W8_of m ρ c _ (by decide +kernel)).trans (e2.trans (show _ = postAt X 7 _ from postAt_keep X 7 1 Cert.ReferenceIdeal.main_indices (by decide +kernel)).symm)
  have g1 := q9 (W8 m ρ c) (postAt X 8) f1 f2 f3
  exact q10 (W9 m ρ c) (postAt X 9) g1

end Table

end Cert.Query

end
-- ==== Proof.Rows.lean ====
/-
  The grouped rows: both programs gather, for every neighbour in the table, its coordinates less those of the sampled
  point, and its features.
-/
module

public import proofs.«01_k».proof.Proof.Query

@[expose] public section

set_option maxRecDepth 16384

noncomputable section

namespace Cert.Rows

open Idealize.ShloMosaic Idealize.ShloMosaic.StableHlo Idealize.ShloMosaic.TcCoe Cert.Lem

section Kernel
open Cert.KernelIdeal Cert.KernelIdeal.Gen

variable (V : Valuation τ sig (Elt Ideal))

/-- The index words under the coordinates' gather, in the kernel. -/
theorem k29 (b : Fin 8) (q : Fin 16384) (e : Fin 3) :
    after hostOps1_7 V (Proc.devRef .tc main_v29) (ix3 b q e) = after hostOps1_7 V (Proc.devRef .tc main_v27) (ix2 b q) := by
  have h1 : after hostOps1_7 V (Proc.devRef .tc main_v29) (ix3 b q e) = shapeCast S8x16384 (V (Proc.devRef .tc main_v26)) shapeCasts_S8x512x32_S8x16384 (ix2 b q) := by
    after_reads_simp; rfl
  rw [h1]
  after_reads_simp; rfl

/-- The gathered coordinates, in the kernel. -/
theorem k30 (b : Fin 8) (q : Fin 16384) (e : Fin 3) (n : Fin 8192) (h : V (Proc.devRef .tc main_v29) (ix3 b q e) = BitVec.ofNat 32 n) :
    after hostOps1_8 V (Proc.devRef .tc main_v30) (ix3 b q e) = V (Proc.devRef .tc main_arg0) (ix3 b n e) := by
  after_reads_at
  rw [h, wrap_word _ (by omega), in_range _ n.isLt]
  exact take_apply _ _ rfl _ _ b q e n (by omega) (by
    show Scalar.select (IntOp.cmpi .slt (V (Proc.devRef .tc main_v29) (ix3 b q e)) 0#32) (IntOp.addi (V (Proc.devRef .tc main_v29) (ix3 b q e)) 8192#32)
      (V (Proc.devRef .tc main_v29) (ix3 b q e)) = _
    rw [h, wrap_word _ (by omega)])

/-- The coordinates relative to the sample, in the kernel. -/
theorem k34 (x : FVec Ideal S8x16384x3 .f32) (y : FVec Ideal S8x512x3 .f32) (hx : V (Proc.devRef .tc main_v30) = x) (hy : V (Proc.devRef .tc main_v2) = y)
    (b : Fin 8) (s : Fin 512) (k : Fin 32) (e : Fin 3) :
    after hostOps1_9 V (Proc.devRef .tc main_v34) (ix4 b s k e) = x (ix3 b ⟨s * 32 + k, by omega⟩ e) - y (ix3 b s e) := by
  subst hx hy
  after_reads_at

/-- The index words under the features' gather, in the kernel. -/
theorem k36 (b : Fin 8) (q : Fin 16384) (e : Fin 128) :
    after hostOps1_9 V (Proc.devRef .tc main_v36) (ix3 b q e) = V (Proc.devRef .tc main_v27) (ix2 b q) := by
  after_reads_at

/-- The gathered features, in the kernel. -/
theorem k37 (b : Fin 8) (q : Fin 16384) (e : Fin 128) (n : Fin 8192) (h : V (Proc.devRef .tc main_v36) (ix3 b q e) = BitVec.ofNat 32 n) :
    after hostOps1_10 V (Proc.devRef .tc main_v37) (ix3 b q e) = V (Proc.devRef .tc main_arg1) (ix3 b n e) := by
  after_reads_at
  rw [h, wrap_word _ (by omega), in_range _ n.isLt]
  exact take_apply _ _ rfl _ _ b q e n (by omega) (by
    show Scalar.select (IntOp.cmpi .slt (V (Proc.devRef .tc main_v36) (ix3 b q e)) 0#32) (IntOp.addi (V (Proc.devRef .tc main_v36) (ix3 b q e)) 8192#32)
      (V (Proc.devRef .tc main_v36) (ix3 b q e)) = _
    rw [h, wrap_word _ (by omega)])

/-- The padded row at an index. -/
theorem k41 (x : FVec Ideal S8x512x32x3 .f32) (y : FVec Ideal S8x16384x128 .f32) (hx : V (Proc.devRef .tc main_v34) = x) (hy : V (Proc.devRef .tc main_v37) = y)
    (r : Fin 131072) (e : Fin 256) :
    after hostOps1_11 V (Proc.devRef .tc main_v41) (ix2 r e)
      = if h : e.val < 3 then x (ix4 ⟨r / 16384, by omega⟩ ⟨r / 32 % 512, by omega⟩ ⟨r % 32, by omega⟩ ⟨e, h⟩)
        else if h' : e.val - 3 < 128 then y (ix3 ⟨r / 16384, by omega⟩ ⟨r % 16384, by omega⟩ ⟨e - 3, h'⟩) else (0 : EReal) := by
  subst hx hy
  after_reads_at
  have e1 : upto hostOps1_11 V 3 (Proc.devRef .tc main_v34) = V (Proc.devRef .tc main_v34) := by
    show after (hostOps1_11.take 3) V _ = _
    exact after_unwritten [main_v38, main_cst_5, main_v39] rfl (by decide +kernel) V
  have e2 : upto hostOps1_11 V 3 (Proc.devRef .tc main_v38) = shapeCast S8x512x32x128 (V (Proc.devRef .tc main_v37)) shapeCasts_S8x16384x128_S8x512x32x128 := by
    show after (hostOps1_11.take 3) V _ = _
    simp only [hostOps1_11, List.take]
    after_reads_simp
    rfl
  have e3 : upto hostOps1_11 V 3 (Proc.devRef .tc main_v39) = broadcastInDim S8x512x32x125 ![] bcast_S_S8x512x32x125 (constant (F := Ideal) S_ .f32 0x00000000#32) := by
    show after (hostOps1_11.take 3) V _ = _
    simp only [hostOps1_11, List.take]
    after_reads_simp
  rw [e1, e2, e3]
  split
  · rfl
  · split
    · pointwise []
      congr 2
      exact Fin.ext (by show r.val / 32 % 512 * 32 + r.val % 32 = r.val % 16384; omega)
    · pointwise []

/-- The padded weights where they hold a weight. -/
theorem k45 (w : FVec Ideal S128x131 .f32) (hw : V (Proc.devRef .tc main_arg2) = w) (e : Fin 256) (he : e.val < 131) (o : Fin 128) :
    after hostOps1_11 V (Proc.devRef .tc main_v45) (ix2 e o) = w (ix2 o ⟨e, he⟩) := by
  subst hw
  after_reads_at
  refine (scatter_hit scatter_S256x128_S1_S131x128_01_n_0_0 _ _ _ (ix2 e o) (V (Proc.devRef .tc main_arg2) (ix2 o ⟨e, he⟩)) (ix2 ⟨e, he⟩ o) ?_ ?_)
  · rw [Routing.resultIdx?_eq_some]
    intro a
    match a with
    | ⟨0, _⟩ => show (0 : ℤ) + (e.val : ℤ) = (e.val : ℤ); omega
    | ⟨1, _⟩ => show (0 : ℤ) + (o.val : ℤ) = (o.val : ℤ); omega
  · intro k hk
    rw [Routing.resultIdx?_eq_some] at hk
    have h0 : (0 : ℤ) + ((k 0).val : ℤ) = (e.val : ℤ) := hk 0
    have h1 : (0 : ℤ) + ((k 1).val : ℤ) = (o.val : ℤ) := hk 1
    have ek : k = ix2 ⟨e, he⟩ o := funext fun a => by
      match a with
      | ⟨0, _⟩ => exact Fin.ext (by show (k 0).val = e.val; omega)
      | ⟨1, _⟩ => exact Fin.ext (by show (k 1).val = o.val; omega)
    rw [ek]; pointwise []

/-- The second weights transposed, in the kernel. -/
theorem k46 (o e : Fin 128) : after hostOps1_11 V (Proc.devRef .tc main_v46) (ix2 e o) = V (Proc.devRef .tc main_arg6) (ix2 o e) := by
  after_reads_at

/-- The third weights transposed, in the kernel. -/
theorem k47 (e : Fin 128) (o : Fin 256) : after hostOps1_11 V (Proc.devRef .tc main_v47) (ix2 e o) = V (Proc.devRef .tc main_arg10) (ix2 o e) := by
  after_reads_at

/-- The first layer's offsets as a row, in the kernel. -/
theorem k49 (o : Fin 128) : after hostOps1_11 V (Proc.devRef .tc main_v49) (ix2 0 o) = V (Proc.devRef .tc main_arg3) (ix1 o) := by
  after_reads_at

end Kernel

section Reference
open Cert.ReferenceIdeal Cert.RefRun

variable (X : Valuation τ sig (Elt Ideal))

/-- The index words under the coordinates' gather, in the reference. -/
theorem r33 (b : Fin 8) (q : Fin 16384) (e : Fin 3) :
    after post10 X (Proc.devRef .tc main_v33) (ix3 b q e) = after post10 X (Proc.devRef .tc main_v31) (ix2 b q) := by
  have h1 : after post10 X (Proc.devRef .tc main_v33) (ix3 b q e) = shapeCast S8x16384 (X (Proc.devRef .tc main_v30)) Gen.shapeCasts_S8x512x32_S8x16384 (ix2 b q) := by
    after_reads_simp; rfl
  rw [h1]
  after_reads_simp; rfl

/-- The gathered coordinates, in the reference. -/
theorem r34 (b : Fin 8) (q : Fin 16384) (e : Fin 3) (n : Fin 8192) (h : X (Proc.devRef .tc main_v33) (ix3 b q e) = BitVec.ofNat 32 n) :
    after post11 X (Proc.devRef .tc main_v34) (ix3 b q e) = X (Proc.devRef .tc main_arg0) (ix3 b n e) := by
  after_reads_at
  rw [h, wrap_word _ (by omega), in_range _ n.isLt]
  exact take_apply _ _ rfl _ _ b q e n (by omega) (by
    show Scalar.select (IntOp.cmpi .slt (X (Proc.devRef .tc main_v33) (ix3 b q e)) 0#32) (IntOp.addi (X (Proc.devRef .tc main_v33) (ix3 b q e)) 8192#32)
      (X (Proc.devRef .tc main_v33) (ix3 b q e)) = _
    rw [h, wrap_word _ (by omega)])

/-- The coordinates relative to the sample, in the reference. -/
theorem r38 (x : FVec Ideal S8x16384x3 .f32) (y : FVec Ideal S8x512x3 .f32) (hx : X (Proc.devRef .tc main_v34) = x) (hy : X (Proc.devRef .tc main_v6) = y)
    (b : Fin 8) (s : Fin 512) (k : Fin 32) (e : Fin 3) :
    after post12 X (Proc.devRef .tc main_v38) (ix4 b s k e) = x (ix3 b ⟨s * 32 + k, by omega⟩ e) - y (ix3 b s e) := by
  subst hx hy
  after_reads_at

/-- The index words under the features' gather, in the reference. -/
theorem r40 (b : Fin 8) (q : Fin 16384) (e : Fin 128) :
    after post12 X (Proc.devRef .tc main_v40) (ix3 b q e) = X (Proc.devRef .tc main_v31) (ix2 b q) := by
  after_reads_at

/-- The gathered features, in the reference. -/
theorem r41 (b : Fin 8) (q : Fin 16384) (e : Fin 128) (n : Fin 8192) (h : X (Proc.devRef .tc main_v40) (ix3 b q e) = BitVec.ofNat 32 n) :
    after post13 X (Proc.devRef .tc main_v41) (ix3 b q e) = X (Proc.devRef .tc main_arg1) (ix3 b n e) := by
  after_reads_at
  rw [h, wrap_word _ (by omega), in_range _ n.isLt]
  exact take_apply _ _ rfl _ _ b q e n (by omega) (by
    show Scalar.select (IntOp.cmpi .slt (X (Proc.devRef .tc main_v40) (ix3 b q e)) 0#32) (IntOp.addi (X (Proc.devRef .tc main_v40) (ix3 b q e)) 8192#32)
      (X (Proc.devRef .tc main_v40) (ix3 b q e)) = _
    rw [h, wrap_word _ (by omega)])

/-- The first layer's rows. -/
theorem r49 (x : FVec Ideal S8x512x32x3 .f32) (y : FVec Ideal S8x16384x128 .f32) (w : FVec Ideal S128x131 .f32) (bb : FVec Ideal S128 .f32) (hx : X (Proc.devRef .tc main_v38) = x)
    (hy : X (Proc.devRef .tc main_v41) = y) (hw : X (Proc.devRef .tc main_arg2) = w) (hb : X (Proc.devRef .tc main_arg3) = bb) (p : Fin 4096) (k : Fin 32) (o : Fin 128) :
    after post14 X (Proc.devRef .tc main_v49) (ix3 p k o)
      = (∑ e : Fin 3, x (ix4 ⟨p / 512, by omega⟩ ⟨p % 512, by omega⟩ k e) * w (ix2 o ⟨e, by omega⟩)
          + ∑ e : Fin 128, y (ix3 ⟨p / 512, by omega⟩ ⟨p % 512 * 32 + k, by omega⟩ e) * w (ix2 o ⟨3 + e, by omega⟩)) + bb (ix1 o) := by
  subst hx hy hw hb
  after_reads_at
  have e1 : upto post14 X 1 (Proc.devRef .tc main_v38) = X (Proc.devRef .tc main_v38) := by
    show after (post14.take 1) X _ = _
    exact after_unwritten [main_v42] rfl (by decide +kernel) X
  have e2 : upto post14 X 1 (Proc.devRef .tc main_v42) = shapeCast S8x512x32x128 (X (Proc.devRef .tc main_v41)) Gen.shapeCasts_S8x16384x128_S8x512x32x128 := by
    show after (post14.take 1) X _ = _
    simp only [post14, List.take]
    after_reads_simp
    rfl
  rw [e1, e2]
  pointwise []

end Reference

end Cert.Rows

end
-- ==== Proof.Columns.lean ====
/-
  The columns' statistics: the kernel's scale and shift rows between its regions, and the reference's mean, variance and
  normalised layers, each read at an index.
-/
module

public import proofs.«01_k».proof.Proof.Norm
public import proofs.«01_k».proof.Proof.Rows

@[expose] public section

set_option maxRecDepth 16384

noncomputable section

namespace Cert.Columns

open Idealize.ShloMosaic Idealize.ShloMosaic.StableHlo Idealize.ShloMosaic.TcCoe Cert.Norm

section Kernel
open Cert.KernelIdeal Cert.KernelIdeal.Gen

variable (V : Valuation τ sig (Elt Ideal))

/-- The scale and the shift that follow the layer `v50`. -/
theorem scale2 (a s : FVec Ideal S256x1x128 .f32) (g b : FVec Ideal S128 .f32) (ha : V (Proc.devRef .tc main_v50_1) = a) (hs : V (Proc.devRef .tc main_v50_2) = s)
    (hg : V (Proc.devRef .tc main_arg4) = g) (hb : V (Proc.devRef .tc main_arg5) = b) (o : Fin 128) :
    after hostOps2 V (Proc.devRef .tc main_v69) (ix2 0 o) = scale (∑ t : Fin 256, a (ix3 t 0 o)) (∑ t : Fin 256, s (ix3 t 0 o)) (g (ix1 o))
      ∧ after hostOps2 V (Proc.devRef .tc main_v69) (ix2 1 o) = shift (∑ t : Fin 256, a (ix3 t 0 o)) (∑ t : Fin 256, s (ix3 t 0 o)) (g (ix1 o)) (b (ix1 o)) := by
  subst ha hs hg hb
  unfold shift scale
  constructor <;> after_reads_at

/-- The second layer's offsets as a row. -/
theorem bias2 (o : Fin 128) : after hostOps2 V (Proc.devRef .tc main_v70) (ix2 0 o) = V (Proc.devRef .tc main_arg7) (ix1 o) := by
  after_reads_at

/-- The scale and the shift that follow the layer `v71`. -/
theorem scale3 (a s : FVec Ideal S256x1x128 .f32) (g b : FVec Ideal S128 .f32) (ha : V (Proc.devRef .tc main_v71_1) = a) (hs : V (Proc.devRef .tc main_v71_2) = s)
    (hg : V (Proc.devRef .tc main_arg8) = g) (hb : V (Proc.devRef .tc main_arg9) = b) (o : Fin 128) :
    after hostOps3 V (Proc.devRef .tc main_v90) (ix2 0 o) = scale (∑ t : Fin 256, a (ix3 t 0 o)) (∑ t : Fin 256, s (ix3 t 0 o)) (g (ix1 o))
      ∧ after hostOps3 V (Proc.devRef .tc main_v90) (ix2 1 o) = shift (∑ t : Fin 256, a (ix3 t 0 o)) (∑ t : Fin 256, s (ix3 t 0 o)) (g (ix1 o)) (b (ix1 o)) := by
  subst ha hs hg hb
  unfold shift scale
  constructor <;> after_reads_at

/-- The third layer's offsets as a row. -/
theorem bias3 (o : Fin 256) : after hostOps3 V (Proc.devRef .tc main_v91) (ix2 0 o) = V (Proc.devRef .tc main_arg11) (ix1 o) := by
  after_reads_at

/-- The scale and the shift that follow the layer `v92`. -/
theorem scale4 (a s : FVec Ideal S256x1x256 .f32) (g b : FVec Ideal S256 .f32) (ha : V (Proc.devRef .tc main_v92_1) = a) (hs : V (Proc.devRef .tc main_v92_2) = s)
    (hg : V (Proc.devRef .tc main_arg12) = g) (hb : V (Proc.devRef .tc main_arg13) = b) (o : Fin 256) :
    after hostOps4 V (Proc.devRef .tc main_v111) (ix2 0 o) = scale (∑ t : Fin 256, a (ix3 t 0 o)) (∑ t : Fin 256, s (ix3 t 0 o)) (g (ix1 o))
      ∧ after hostOps4 V (Proc.devRef .tc main_v111) (ix2 1 o) = shift (∑ t : Fin 256, a (ix3 t 0 o)) (∑ t : Fin 256, s (ix3 t 0 o)) (g (ix1 o)) (b (ix1 o)) := by
  subst ha hs hg hb
  unfold shift scale
  constructor <;> after_reads_at

/-- The second result is the last call's array, its rows split by batch. -/
theorem result (b : Fin 8) (s : Fin 512) (o : Fin 256) (x : FVec Ideal S4096x256 .f32) (hx : V (Proc.devRef .tc main_v112) = x) :
    after hostOps5 V (Proc.devRef .tc main_v113) (ix3 b s o) = x (ix2 ⟨b * 512 + s, by omega⟩ o) := by
  subst hx
  after_reads_at

end Kernel

/-- A sum over the two leading axes, one after the other. -/
theorem sum_rows {A B N : ℕ} (h : (⟨3, ![A, B, N]⟩ : Shape).ReducesTo [0, 1] ⟨1, ![N]⟩) (v : (⟨3, ![A, B, N]⟩ : Shape).Idx → EReal) (o : Fin N) :
    Ideal.hostReduceAdd h v 0 (ix1 o) = ∑ p : Fin A, ∑ k : Fin B, v (ix3 p k o) := by
  show 0 + ∑ i ∈ Finset.univ.filter (fun i => h.drop i = ix1 o), v i = _
  rw [zero_add, ← Fintype.sum_prod_type' (fun p k => v (ix3 p k o))]
  have hd : ∀ i : (⟨3, ![A, B, N]⟩ : Shape).Idx, (h.drop i 0).val = (i 2).val := fun i => Shape.ReducesTo.drop_apply_val_of_eq h i 0 2 (by show 0 < ([2] : List (Fin 3)).length; decide) (by rfl)
  refine Finset.sum_bij' (fun i _ => (i 0, i 1)) (fun a _ => ix3 a.1 a.2 o) (fun _ _ => Finset.mem_univ _) (fun a _ => ?_) (fun i hi => ?_) (fun _ _ => rfl) (fun i hi => ?_)
  · rw [Finset.mem_filter]
    refine ⟨Finset.mem_univ _, funext fun d => ?_⟩
    fin_cases d
    exact Fin.ext (hd _)
  · rw [Finset.mem_filter] at hi
    have e : (i 2).val = o.val := (hd i).symm.trans (congrArg Fin.val (congrFun hi.2 0))
    funext d
    fin_cases d
    · rfl
    · rfl
    · exact Fin.ext e.symm
  · rw [Finset.mem_filter] at hi
    have e : (i 2).val = o.val := (hd i).symm.trans (congrArg Fin.val (congrFun hi.2 0))
    congr 1
    funext d
    fin_cases d
    · rfl
    · rfl
    · exact Fin.ext e

/-- The number of rows less zero is the number of rows. -/
theorem count : (Ideal.ofBits .f32 1207959552#32 : EReal) - FloatOps.sitofp (F := Ideal) .f32 (constantI Cert.ReferenceIdeal.S_ 32 0#32 ix0) = Ideal.ofBits .f32 1207959552#32 := by
  have e : (FloatOps.sitofp (F := Ideal) .f32 (constantI Cert.ReferenceIdeal.S_ 32 0#32 ix0) : EReal) = 0 := by
    show (((0#32 : BitVec 32).toInt : ℝ) : EReal) = 0
    simp
  rw [e, sub_zero]

/-- The number of rows is positive. -/
theorem positive : (0 : EReal) < Ideal.ofBits .f32 1207959552#32 := by
  show 0 < cnt; rw [cnt_eq]; exact_mod_cast (by norm_num : (0 : ℝ) < 131072)

section Reference
open Cert.ReferenceIdeal Cert.RefRun

/-- The mean of every column, spread over the rows. -/
def middle128 (y : FVec Ideal S4096x32x128 .f32) : FVec Ideal S4096x32x128 .f32 :=
  broadcastInDim S4096x32x128 ![0, 1, 2] Gen.bcast_S1x1x128_S4096x32x128_0_1_2
    (Host.divf (broadcastInDim S1x1x128 ![2] Gen.bcast_S128_S1x1x128_2
        (Host.reduceAdd y (constant S_ .f32 0#32) Gen.reducesTo_S4096x32x128_S128_d0_1 Gen.h_S_))
      (broadcastInDim S1x1x128 ![] Gen.bcast_S_S1x1x128 (constant S_ .f32 1207959552#32)))

/-- The mean inside the variance is the mean of the column, for 128 columns. -/
theorem middle128_apply (y : FVec Ideal S4096x32x128 .f32) (p : Fin 4096) (k : Fin 32) (o : Fin 128) :
    middle128 y (ix3 p k o) = mean (fun p k => y (ix3 p k o)) := by
  have e : middle128 y (ix3 p k o) = Ideal.div (Ideal.hostReduceAdd Gen.reducesTo_S4096x32x128_S128_d0_1 y 0 (ix1 o)) cnt := by
    pointwise [middle128]
  rw [e, sum_rows]
  rfl

/-- The mean of every column, spread over the rows. -/
def middle256 (y : FVec Ideal S4096x32x256 .f32) : FVec Ideal S4096x32x256 .f32 :=
  broadcastInDim S4096x32x256 ![0, 1, 2] Gen.bcast_S1x1x256_S4096x32x256_0_1_2
    (Host.divf (broadcastInDim S1x1x256 ![2] Gen.bcast_S256_S1x1x256_2
        (Host.reduceAdd y (constant S_ .f32 0#32) Gen.reducesTo_S4096x32x256_S256_d0_1 Gen.h_S_))
      (broadcastInDim S1x1x256 ![] Gen.bcast_S_S1x1x256 (constant S_ .f32 1207959552#32)))

/-- The mean inside the variance is the mean of the column, for 256 columns. -/
theorem middle256_apply (y : FVec Ideal S4096x32x256 .f32) (p : Fin 4096) (k : Fin 32) (o : Fin 256) :
    middle256 y (ix3 p k o) = mean (fun p k => y (ix3 p k o)) := by
  have e : middle256 y (ix3 p k o) = Ideal.div (Ideal.hostReduceAdd Gen.reducesTo_S4096x32x256_S256_d0_1 y 0 (ix1 o)) cnt := by
    pointwise [middle256]
  rw [e, sum_rows]
  rfl

variable (X : Valuation τ sig (Elt Ideal))

/-- The mean of a column of `v49`. -/
theorem mean14 (y : FVec Ideal S4096x32x128 .f32) (hy : after post14 X (Proc.devRef .tc main_v49) = y) (o : Fin 128) :
    after post14 X (Proc.devRef .tc main_v52) (ix1 o) = mean (fun p k => y (ix3 p k o)) := by
  have e : after post14 X (Proc.devRef .tc main_v52) = Host.divf (Host.reduceAdd (after post14 X (Proc.devRef .tc main_v49)) (constant (F := Ideal) S_ .f32 0x00000000#32) Gen.reducesTo_S4096x32x128_S128_d0_1 Gen.h_S_)
      (broadcastInDim S128 ![] Gen.bcast_S_S128 (constant S_ .f32 0x48000000#32)) := by
    after_reads_simp
    try rfl
  rw [e, hy]
  unfold mean
  rw [← sum_rows Gen.reducesTo_S4096x32x128_S128_d0_1 y o]
  show Ideal.div (Ideal.hostReduceAdd _ y (Ideal.ofBits .f32 0x00000000#32) (ix1 o)) cnt = _
  rw [Ideal.ofBits_zero_f32]

/-- The count of degrees of freedom taken off is zero. -/
theorem steps14 : after post14 X (Proc.devRef .tc main_c_11) = constantI S_ 32 0#32 := by
  after_reads_simp
  try rfl

/-- Its variance. -/
theorem var14 (y : FVec Ideal S4096x32x128 .f32) (hy : X (Proc.devRef .tc main_v49) = y) (hc : X (Proc.devRef .tc main_c_11) = constantI S_ 32 0#32) (o : Fin 128) :
    after post15 X (Proc.devRef .tc main_v53) (ix1 o) = var (fun p k => y (ix3 p k o)) := by
  after_reads_at
  rw [hy, hc, count, if_pos positive, sum_rows]
  unfold var
  show Ideal.div (∑ p : Fin 4096, ∑ k : Fin 32, (y (ix3 p k o) - middle128 y (ix3 p k o)) * (y (ix3 p k o) - middle128 y (ix3 p k o))) cnt = _
  simp only [middle128_apply]

/-- The mean of a column of `v80`. -/
theorem mean16 (y : FVec Ideal S4096x32x128 .f32) (hy : after post16 X (Proc.devRef .tc main_v80) = y) (o : Fin 128) :
    after post16 X (Proc.devRef .tc main_v83) (ix1 o) = mean (fun p k => y (ix3 p k o)) := by
  have e : after post16 X (Proc.devRef .tc main_v83) = Host.divf (Host.reduceAdd (after post16 X (Proc.devRef .tc main_v80)) (constant (F := Ideal) S_ .f32 0x00000000#32) Gen.reducesTo_S4096x32x128_S128_d0_1 Gen.h_S_)
      (broadcastInDim S128 ![] Gen.bcast_S_S128 (constant S_ .f32 0x48000000#32)) := by
    after_reads_simp
    try rfl
  rw [e, hy]
  unfold mean
  rw [← sum_rows Gen.reducesTo_S4096x32x128_S128_d0_1 y o]
  show Ideal.div (Ideal.hostReduceAdd _ y (Ideal.ofBits .f32 0x00000000#32) (ix1 o)) cnt = _
  rw [Ideal.ofBits_zero_f32]

/-- The count of degrees of freedom taken off is zero. -/
theorem steps16 : after post16 X (Proc.devRef .tc main_c_17) = constantI S_ 32 0#32 := by
  after_reads_simp
  try rfl

/-- Its variance. -/
theorem var16 (y : FVec Ideal S4096x32x128 .f32) (hy : X (Proc.devRef .tc main_v80) = y) (hc : X (Proc.devRef .tc main_c_17) = constantI S_ 32 0#32) (o : Fin 128) :
    after post17 X (Proc.devRef .tc main_v84) (ix1 o) = var (fun p k => y (ix3 p k o)) := by
  after_reads_at
  rw [hy, hc, count, if_pos positive, sum_rows]
  unfold var
  show Ideal.div (∑ p : Fin 4096, ∑ k : Fin 32, (y (ix3 p k o) - middle128 y (ix3 p k o)) * (y (ix3 p k o) - middle128 y (ix3 p k o))) cnt = _
  simp only [middle128_apply]

/-- The mean of a column of `v111`. -/
theorem mean19 (y : FVec Ideal S4096x32x256 .f32) (hy : after post18b X (Proc.devRef .tc main_v111) = y) (o : Fin 256) :
    after post18b X (Proc.devRef .tc main_v114) (ix1 o) = mean (fun p k => y (ix3 p k o)) := by
  have e : after post18b X (Proc.devRef .tc main_v114) = Host.divf (Host.reduceAdd (after post18b X (Proc.devRef .tc main_v111)) (constant (F := Ideal) S_ .f32 0x00000000#32) Gen.reducesTo_S4096x32x256_S256_d0_1 Gen.h_S_)
      (broadcastInDim S256 ![] Gen.bcast_S_S256 (constant S_ .f32 0x48000000#32)) := by
    after_reads_simp
    try rfl
  rw [e, hy]
  unfold mean
  rw [← sum_rows Gen.reducesTo_S4096x32x256_S256_d0_1 y o]
  show Ideal.div (Ideal.hostReduceAdd _ y (Ideal.ofBits .f32 0x00000000#32) (ix1 o)) cnt = _
  rw [Ideal.ofBits_zero_f32]

/-- The count of degrees of freedom taken off is zero. -/
theorem steps19 : after post18b X (Proc.devRef .tc main_c_23) = constantI S_ 32 0#32 := by
  after_reads_simp
  try rfl

/-- Its variance. -/
theorem var19 (y : FVec Ideal S4096x32x256 .f32) (hy : X (Proc.devRef .tc main_v111) = y) (hc : X (Proc.devRef .tc main_c_23) = constantI S_ 32 0#32) (o : Fin 256) :
    after post19 X (Proc.devRef .tc main_v115) (ix1 o) = var (fun p k => y (ix3 p k o)) := by
  after_reads_at
  rw [hy, hc, count, if_pos positive, sum_rows]
  unfold var
  show Ideal.div (∑ p : Fin 4096, ∑ k : Fin 32, (y (ix3 p k o) - middle256 y (ix3 p k o)) * (y (ix3 p k o) - middle256 y (ix3 p k o))) cnt = _
  simp only [middle256_apply]

/-- The second layer, from the first's columns. -/
theorem layer16 (y : FVec Ideal S4096x32x128 .f32) (m v : FVec Ideal S128 .f32) (w : FVec Ideal S128x128 .f32) (g b d : FVec Ideal S128 .f32)
    (hy : X (Proc.devRef .tc main_v49) = y) (hm : X (Proc.devRef .tc main_v52) = m) (hv : X (Proc.devRef .tc main_v53) = v)
    (hg : X (Proc.devRef .tc main_arg4) = g) (hb : X (Proc.devRef .tc main_arg5) = b) (hw : X (Proc.devRef .tc main_arg6) = w)
    (hd : X (Proc.devRef .tc main_arg7) = d) (p : Fin 4096) (k : Fin 32) (o : Fin 128) :
    after post16 X (Proc.devRef .tc main_v80) (ix3 p k o)
      = (∑ e : Fin 128, geluC (normal (y (ix3 p k e)) (m (ix1 e)) (v (ix1 e)) (g (ix1 e)) (b (ix1 e))) * w (ix2 o e)) + d (ix1 o) := by
  subst hy hm hv hg hb hw hd
  unfold geluC normal
  after_reads_at

/-- The third layer, from the second's columns. -/
theorem layer18 (y : FVec Ideal S4096x32x128 .f32) (m v : FVec Ideal S128 .f32) (w : FVec Ideal S256x128 .f32) (g b : FVec Ideal S128 .f32) (d : FVec Ideal S256 .f32)
    (hy : X (Proc.devRef .tc main_v80) = y) (hm : X (Proc.devRef .tc main_v83) = m) (hv : X (Proc.devRef .tc main_v84) = v)
    (hg : X (Proc.devRef .tc main_arg8) = g) (hb : X (Proc.devRef .tc main_arg9) = b) (hw : X (Proc.devRef .tc main_arg10) = w)
    (hd : X (Proc.devRef .tc main_arg11) = d) (p : Fin 4096) (k : Fin 32) (o : Fin 256) :
    after post18b (after post18a X) (Proc.devRef .tc main_v111) (ix3 p k o)
      = (∑ e : Fin 128, geluC (normal (y (ix3 p k e)) (m (ix1 e)) (v (ix1 e)) (g (ix1 e)) (b (ix1 e))) * w (ix2 o e)) + d (ix1 o) := by
  subst hy hm hv hg hb hw hd
  unfold geluC normal
  after_reads_at
  try after_reads_at

/-- The result, from the third layer's columns. -/
theorem layer20 (y : FVec Ideal S4096x32x256 .f32) (m v g b : FVec Ideal S256 .f32)
    (hy : X (Proc.devRef .tc main_v111) = y) (hm : X (Proc.devRef .tc main_v114) = m) (hv : X (Proc.devRef .tc main_v115) = v)
    (hg : X (Proc.devRef .tc main_arg12) = g) (hb : X (Proc.devRef .tc main_arg13) = b) (a : Fin 8) (s : Fin 512) (o : Fin 256) :
    after post20 X (Proc.devRef .tc main_v139) (ix3 a s o)
      = Finset.fold max (Ideal.ofBits .f32 0xFF800000#32 : EReal) (fun k : Fin 32 =>
          geluC (normal (y (ix3 ⟨a * 512 + s, by omega⟩ k o)) (m (ix1 o)) (v (ix1 o)) (g (ix1 o)) (b (ix1 o)))) Finset.univ := by
  subst hy hm hv hg hb
  unfold geluC normal
  after_reads_at

end Reference

end Cert.Columns

end
-- ==== Proof.First.lean ====
/-
  The first layer: the kernel's padded rows against the padded weights, and the reference's rows against the weights, agree.
-/
module

public import proofs.«01_k».proof.Proof.Columns

@[expose] public section

set_option maxRecDepth 16384

noncomputable section

namespace Cert.First

open Idealize.ShloMosaic Idealize.ShloMosaic.StableHlo Idealize.ShloMosaic.TcCoe Idealize.SL.Sem Cert.Norm Cert.Layer Cert.RefRun Cert.Rows Cert.Query
open Cert.KernelIdeal.Gen

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)
  (X : Valuation Cert.ReferenceIdeal.τ Cert.ReferenceIdeal.sig (Elt Ideal))
  (a0 : FVec Ideal Cert.KernelIdeal.S8x8192x3 .f32) (a1 : FVec Ideal Cert.KernelIdeal.S8x8192x128 .f32)
  (a2 : FVec Ideal Cert.KernelIdeal.S128x131 .f32) (a3 : FVec Ideal Cert.KernelIdeal.S128 .f32) (pt : FVec Ideal Cert.KernelIdeal.S8x512x3 .f32)

/-- Each neighbour's coordinates, less the sampled point's, in both programs. -/
theorem coords (h0 : m ((c : Thread Cert.KernelIdeal.nD Cert.KernelIdeal.τ).loc Cert.KernelIdeal.main_arg0) = a0)
    (h0' : ∀ k, postAt X k (Proc.devRef .tc Cert.ReferenceIdeal.main_arg0) = a0)
    (hp : W3 m ρ c (Proc.devRef .tc Cert.KernelIdeal.main_v2) = pt) (hp' : postAt X 2 (Proc.devRef .tc Cert.ReferenceIdeal.main_v6) = pt)
    (b : Fin 8) (s : Fin 512) (k : Fin 32) (e : Fin 3) : ∃ n : Fin 8192,
      W12 m ρ c (Proc.devRef .tc Cert.KernelIdeal.main_v34) (ix4 b s k e) = a0 (ix3 b n e) - pt (ix3 b s e)
      ∧ postAt X 12 (Proc.devRef .tc Cert.ReferenceIdeal.main_v38) (ix4 b s k e) = a0 (ix3 b n e) - pt (ix3 b s e) := by
  let q : Fin 16384 := ⟨s * 32 + k, by omega⟩
  obtain ⟨n, hn⟩ := words_table m ρ c (ix2 b q)
  have ht := same_table X m ρ c (hp.trans hp'.symm) (((W2_args m ρ c Cert.KernelIdeal.main_arg0 (by decide +kernel)).trans h0).trans (h0' 2).symm)
  have hn' : postAt X 10 (Proc.devRef .tc Cert.ReferenceIdeal.main_v31) (ix2 b q) = BitVec.ofNat 32 n := (congrFun ht (ix2 b q)).symm.trans hn
  refine ⟨n, ?_, ?_⟩
  · have e1 : W10 m ρ c (Proc.devRef .tc Cert.KernelIdeal.main_v29) (ix3 b q e) = BitVec.ofNat 32 n := (k29 (W9 m ρ c) b q e).trans hn
    have e2 := k30 (W10 m ρ c) b q e n e1
    have e3 := k34 (W11 m ρ c) _ pt rfl (by
      rw [W11_of m ρ c Cert.KernelIdeal.main_v2 (by decide +kernel), W10_of m ρ c Cert.KernelIdeal.main_v2 (by decide +kernel), W9_of m ρ c Cert.KernelIdeal.main_v2 (by decide +kernel),
        W8_of m ρ c Cert.KernelIdeal.main_v2 (by decide +kernel), W7_of m ρ c Cert.KernelIdeal.main_v2 (by decide +kernel), W6_of m ρ c Cert.KernelIdeal.main_v2 (by decide +kernel),
        W5_of m ρ c Cert.KernelIdeal.main_v2 (by decide +kernel), W4_of m ρ c Cert.KernelIdeal.main_v2 (by decide +kernel)]
      exact hp) b s k e
    refine e3.trans (congrArg (· - pt (ix3 b s e)) (e2.trans ?_))
    exact congrFun ((W10_args m ρ c Cert.KernelIdeal.main_arg0 (by decide +kernel)).trans h0) _
  · have e1 : postAt X 10 (Proc.devRef .tc Cert.ReferenceIdeal.main_v33) (ix3 b q e) = BitVec.ofNat 32 n := (r33 (postAt X 9) b q e).trans hn'
    have e2 := r34 (postAt X 10) b q e n e1
    have e3 := r38 (postAt X 11) _ pt rfl ((postAt_keep X 2 9 Cert.ReferenceIdeal.main_v6 (by decide +kernel)).trans hp') b s k e
    refine e3.trans (congrArg (· - pt (ix3 b s e)) (e2.trans ?_))
    exact congrFun (h0' 10) _

/-- Each neighbour's features, in both programs. -/
theorem feats (h0 : m ((c : Thread Cert.KernelIdeal.nD Cert.KernelIdeal.τ).loc Cert.KernelIdeal.main_arg0) = a0)
    (h0' : ∀ k, postAt X k (Proc.devRef .tc Cert.ReferenceIdeal.main_arg0) = a0)
    (h1 : m ((c : Thread Cert.KernelIdeal.nD Cert.KernelIdeal.τ).loc Cert.KernelIdeal.main_arg1) = a1)
    (h1' : ∀ k, postAt X k (Proc.devRef .tc Cert.ReferenceIdeal.main_arg1) = a1)
    (hp : W3 m ρ c (Proc.devRef .tc Cert.KernelIdeal.main_v2) = pt) (hp' : postAt X 2 (Proc.devRef .tc Cert.ReferenceIdeal.main_v6) = pt)
    (b : Fin 8) (q : Fin 16384) (e : Fin 128) : ∃ n : Fin 8192,
      W13 m ρ c (Proc.devRef .tc Cert.KernelIdeal.main_v37) (ix3 b q e) = a1 (ix3 b n e)
      ∧ postAt X 13 (Proc.devRef .tc Cert.ReferenceIdeal.main_v41) (ix3 b q e) = a1 (ix3 b n e) := by
  obtain ⟨n, hn⟩ := words_table m ρ c (ix2 b q)
  have ht := same_table X m ρ c (hp.trans hp'.symm) (((W2_args m ρ c Cert.KernelIdeal.main_arg0 (by decide +kernel)).trans h0).trans (h0' 2).symm)
  have hn' : postAt X 10 (Proc.devRef .tc Cert.ReferenceIdeal.main_v31) (ix2 b q) = BitVec.ofNat 32 n := (congrFun ht (ix2 b q)).symm.trans hn
  refine ⟨n, ?_, ?_⟩
  · have e1 : W12 m ρ c (Proc.devRef .tc Cert.KernelIdeal.main_v36) (ix3 b q e) = BitVec.ofNat 32 n := by
      refine (k36 (W11 m ρ c) b q e).trans ?_
      rw [W11_of m ρ c Cert.KernelIdeal.main_v27 (by decide +kernel)]
      exact hn
    refine (k37 (W12 m ρ c) b q e n e1).trans ?_
    exact congrFun ((W12_args m ρ c Cert.KernelIdeal.main_arg1 (by decide +kernel)).trans h1) _
  · have e1 : postAt X 12 (Proc.devRef .tc Cert.ReferenceIdeal.main_v40) (ix3 b q e) = BitVec.ofNat 32 n := by
      refine (r40 (postAt X 11) b q e).trans ?_
      exact (congrFun (postAt_keep X 10 1 Cert.ReferenceIdeal.main_v31 (by decide +kernel)) _).trans hn'
    refine (r41 (postAt X 12) b q e n e1).trans ?_
    exact congrFun (h1' 12) _

/-- A padded row against the padded weights is the row against the weights. -/
theorem padded (x : Vec Ideal Cert.KernelIdeal.S131072x256 .f32) (w : Vec Ideal Cert.KernelIdeal.S256x128 .f32) (d : Vec Ideal Cert.KernelIdeal.S1x128 .f32)
    (a2 : FVec Ideal Cert.KernelIdeal.S128x131 .f32) (a3 : FVec Ideal Cert.KernelIdeal.S128 .f32) (u : Fin 3 → EReal) (v : Fin 128 → EReal) (r : Fin 131072) (o : Fin 128)
    (hu : ∀ e : Fin 3, x (ix2 r ⟨e, by omega⟩) = u e) (hv : ∀ e : Fin 128, x (ix2 r ⟨3 + e, by omega⟩) = v e)
    (hz : ∀ e : Fin 125, x (ix2 r ⟨131 + e, by omega⟩) = (0 : EReal)) (hw : ∀ (e : Fin 256) (he : e.val < 131), w (ix2 e o) = a2 (ix2 o ⟨e, he⟩))
    (hd : d (ix2 0 o) = a3 (ix1 o)) :
    y1 x w d r o = (∑ e : Fin 3, u e * a2 (ix2 o ⟨e, by omega⟩) + ∑ e : Fin 128, v e * a2 (ix2 o ⟨3 + e, by omega⟩)) + a3 (ix1 o) := by
  unfold y1
  rw [sum_pad, hd]
  have z : (∑ e : Fin 125, x (ix2 r ⟨131 + e, by omega⟩) * w (ix2 ⟨131 + e, by omega⟩ o) : EReal) = 0 :=
    Finset.sum_eq_zero fun e _ => by rw [hz e]; exact zero_mul _
  rw [z, add_zero]
  refine congrArg (· + a3 (ix1 o)) (congrArg₂ (· + ·) (Finset.sum_congr rfl fun e _ => ?_) (Finset.sum_congr rfl fun e _ => ?_))
  · rw [hu e, hw ⟨e, by omega⟩ (by show e.val < 131; omega)]
  · rw [hv e, hw ⟨3 + e, by omega⟩ (by show 3 + e.val < 131; omega)]

/-- The first layer, row by row, and that it is real. -/
theorem first (h0 : m ((c : Thread Cert.KernelIdeal.nD Cert.KernelIdeal.τ).loc Cert.KernelIdeal.main_arg0) = a0)
    (h0' : ∀ k, postAt X k (Proc.devRef .tc Cert.ReferenceIdeal.main_arg0) = a0)
    (h1 : m ((c : Thread Cert.KernelIdeal.nD Cert.KernelIdeal.τ).loc Cert.KernelIdeal.main_arg1) = a1)
    (h1' : ∀ k, postAt X k (Proc.devRef .tc Cert.ReferenceIdeal.main_arg1) = a1)
    (h2 : m ((c : Thread Cert.KernelIdeal.nD Cert.KernelIdeal.τ).loc Cert.KernelIdeal.main_arg2) = a2)
    (h2' : ∀ k, postAt X k (Proc.devRef .tc Cert.ReferenceIdeal.main_arg2) = a2)
    (h3 : m ((c : Thread Cert.KernelIdeal.nD Cert.KernelIdeal.τ).loc Cert.KernelIdeal.main_arg3) = a3)
    (h3' : ∀ k, postAt X k (Proc.devRef .tc Cert.ReferenceIdeal.main_arg3) = a3)
    (hp : W3 m ρ c (Proc.devRef .tc Cert.KernelIdeal.main_v2) = pt) (hp' : postAt X 2 (Proc.devRef .tc Cert.ReferenceIdeal.main_v6) = pt)
    (p : Fin 4096) (k : Fin 32) (o : Fin 128) :
    postAt X 14 (Proc.devRef .tc Cert.ReferenceIdeal.main_v49) (ix3 p k o)
        = y1 (V14 m ρ c Cert.KernelIdeal.main_v41) (V14 m ρ c Cert.KernelIdeal.main_v45) (V14 m ρ c Cert.KernelIdeal.main_v49) (row p k) o := by
  let b : Fin 8 := ⟨p / 512, by omega⟩
  let s : Fin 512 := ⟨p % 512, by omega⟩
  let q : Fin 16384 := ⟨p % 512 * 32 + k, by omega⟩
  choose n hk hr using coords m ρ c X a0 pt h0 h0' hp hp' b s k
  choose n' hk' hr' using feats m ρ c X a0 a1 pt h0 h0' h1 h1' hp hp' b q
  -- the reference's row
  have eR : postAt X 14 (Proc.devRef .tc Cert.ReferenceIdeal.main_v49) (ix3 p k o)
      = (∑ e : Fin 3, (a0 (ix3 b (n e) e) - pt (ix3 b s e)) * a2 (ix2 o ⟨e, by omega⟩) + ∑ e : Fin 128, a1 (ix3 b (n' e) e) * a2 (ix2 o ⟨3 + e, by omega⟩)) + a3 (ix1 o) := by
    refine (r49 (postAt X 13) (postAt X 12 (Proc.devRef .tc Cert.ReferenceIdeal.main_v38)) _ a2 a3 (postAt_keep X 12 1 Cert.ReferenceIdeal.main_v38 (by decide +kernel)) rfl (h2' 13) (h3' 13) p k o).trans ?_
    exact congrArg (· + a3 (ix1 o)) (congrArg₂ (· + ·) (Finset.sum_congr rfl fun e _ => congrArg (· * a2 (ix2 o ⟨e, by omega⟩)) (hr e))
      (Finset.sum_congr rfl fun e _ => congrArg (· * a2 (ix2 o ⟨3 + e, by omega⟩)) (hr' e)))
  -- the kernel's
  have e41 := k41 (W13 m ρ c) (W12 m ρ c (Proc.devRef .tc Cert.KernelIdeal.main_v34)) (W13 m ρ c (Proc.devRef .tc Cert.KernelIdeal.main_v37))
    (W13_of m ρ c Cert.KernelIdeal.main_v34 (by decide +kernel)) rfl (row p k)
  have i1 : (⟨(row p k).val / 16384, by omega⟩ : Fin 8) = b := Fin.ext (by show (p.val * 32 + k.val) / 16384 = p.val / 512; omega)
  have i2 : (⟨(row p k).val / 32 % 512, by omega⟩ : Fin 512) = s := Fin.ext (by show (p.val * 32 + k.val) / 32 % 512 = p.val % 512; omega)
  have i3 : (⟨(row p k).val % 32, by omega⟩ : Fin 32) = k := Fin.ext (by show (p.val * 32 + k.val) % 32 = k.val; omega)
  have i4 : (⟨(row p k).val % 16384, by omega⟩ : Fin 16384) = q := Fin.ext (by show (p.val * 32 + k.val) % 16384 = p.val % 512 * 32 + k.val; omega)
  have eK : y1 (V14 m ρ c Cert.KernelIdeal.main_v41) (V14 m ρ c Cert.KernelIdeal.main_v45) (V14 m ρ c Cert.KernelIdeal.main_v49) (row p k) o
      = (∑ e : Fin 3, (a0 (ix3 b (n e) e) - pt (ix3 b s e)) * a2 (ix2 o ⟨e, by omega⟩) + ∑ e : Fin 128, a1 (ix3 b (n' e) e) * a2 (ix2 o ⟨3 + e, by omega⟩)) + a3 (ix1 o) := by
    have w := k45 (W13 m ρ c) a2 ((W13_args m ρ c Cert.KernelIdeal.main_arg2 (by decide +kernel)).trans h2)
    refine padded _ _ _ a2 a3 (fun e => a0 (ix3 b (n e) e) - pt (ix3 b s e)) (fun e => a1 (ix3 b (n' e) e)) (row p k) o (fun e => ?_) (fun e => ?_) (fun e => ?_)
      (fun e he => w e he o) ?_
    · have t := e41 ⟨e, by omega⟩
      rw [dif_pos (show e.val < 3 from e.isLt), i1, i2, i3] at t
      exact t.trans (hk e)
    · have t := e41 ⟨3 + e, by omega⟩
      have j : (⟨3 + e.val - 3, by omega⟩ : Fin 128) = e := Fin.ext (by show 3 + e.val - 3 = e.val; omega)
      rw [dif_neg (by show ¬ (3 + e.val < 3); omega), dif_pos (show 3 + e.val - 3 < 128 by omega), i1, i4, j] at t
      exact t.trans (hk' e)
    · have t := e41 ⟨131 + e, by omega⟩
      rw [dif_neg (by show ¬ (131 + e.val < 3); omega), dif_neg (by show ¬ (131 + e.val - 3 < 128); omega)] at t
      exact t
    · exact (k49 (W13 m ρ c) o).trans (congrFun ((W13_args m ρ c Cert.KernelIdeal.main_arg3 (by decide +kernel)).trans h3) _)
  exact eR.trans eK.symm

end Cert.First

end
-- ==== Proof.Layer2.lean ====
/-
  The kernel's second layer at the extended reals: what the region leaves in its result arrays, in terms of the arrays it reads.
-/
module

public import proofs.«01_k».proof.Proof.Layer1
public import proofs.«01_k».proof.Proof.Lemmas
public import Idealize.ShloMosaic.Lib.Pipeline.Value
public import Idealize.ShloMosaic.Lib.WritesUnit
public import Idealize.ShloMosaic.Lib.StableHlo.ReadAt

@[expose] public section

set_option maxRecDepth 16384

noncomputable section

namespace Cert.Layer

open Cert.KernelIdeal Cert.KernelIdeal.Gen Idealize.ShloMosaic Idealize.ShloMosaic.TcCoe Idealize.SL.Sem
open Idealize.ShloMosaic.Pipeline (Dat)

/-- One element of the layer. -/
def y2 {R : ℕ} (x : Vec Ideal ⟨2, ![R, 128]⟩ .f32) (w : Vec Ideal S128x128 .f32) (b : Vec Ideal S1x128 .f32) (ss : Vec Ideal S2x128 .f32) (r : Fin R) (o : Fin 128) : EReal :=
  (∑ e : Fin 128, gelu (x (ix2 r e) * ss (ix2 0 e) + ss (ix2 1 e)) * w (ix2 e o)) + b (ix2 0 o)

/-- Loading row 0 of the scale and shift. -/
theorem row0_2 (ss : Vec Ideal S2x128 .f32) (e : Fin 128) : View.ld ss r2_1 (ix2 0 e) = ss (ix2 0 e) :=
  congrArg ss (funext fun a => Fin.ext (by
    match a with
    | ⟨0, _⟩ => rfl
    | ⟨1, _⟩ => show 0 + 1 * e.val = e.val; omega))

/-- Loading row 1 of the scale and shift. -/
theorem row1_2 (ss : Vec Ideal S2x128 .f32) (e : Fin 128) : View.ld ss r2_2 (ix2 0 e) = ss (ix2 1 e) :=
  congrArg ss (funext fun a => Fin.ext (by
    match a with
    | ⟨0, _⟩ => rfl
    | ⟨1, _⟩ => show 0 + 1 * e.val = e.val; omega))

/-- The value stored, at an index, for any scale and shift rows. -/
theorem pay2_any (x : Vec Ideal S512x128 .f32) (s g : Vec Ideal S1x128 .f32) (w : Vec Ideal S128x128 .f32) (b : Vec Ideal S1x128 .f32) (q : Fin 512) (o : Fin 128) :
    k2_pay1 x s g w b (ix2 q o) = (∑ e : Fin 128, gelu (x (ix2 q e) * s (ix2 0 e) + g (ix2 0 e)) * w (ix2 e o)) + b (ix2 0 o) := by
  simp only [gelu]
  pointwise [k2_pay1]
  rfl

/-- The value stored, when its scale and shift are rows of one array. -/
theorem pay2_of (x : Vec Ideal S512x128 .f32) (s g : Vec Ideal S1x128 .f32) (w : Vec Ideal S128x128 .f32) (b : Vec Ideal S1x128 .f32) (ss : Vec Ideal S2x128 .f32)
    (hs : ∀ e, s (ix2 0 e) = ss (ix2 0 e)) (hg : ∀ e, g (ix2 0 e) = ss (ix2 1 e)) (q : Fin 512) (o : Fin 128) :
    k2_pay1 x s g w b (ix2 q o) = y2 x w b ss q o := by
  rw [pay2_any]
  unfold y2
  simp only [hs, hg]

/-- The value stored, at an index of the tile. -/
theorem pay2_apply (x : Vec Ideal S512x128 .f32) (w : Vec Ideal S128x128 .f32) (b : Vec Ideal S1x128 .f32) (ss : Vec Ideal S2x128 .f32) (q : Fin 512) (o : Fin 128) :
    k2_pay1 x (View.ld ss r2_1) (View.ld ss r2_2) w b (ix2 q o) = y2 x w b ss q o := by
  exact pay2_of x _ _ w b ss (row0_2 ss) (row1_2 ss) q o

/-- A tile's column sums. -/
theorem pay2_sum (x : Vec Ideal S512x128 .f32) (w : Vec Ideal S128x128 .f32) (b : Vec Ideal S1x128 .f32) (ss : Vec Ideal S2x128 .f32) (o : Fin 128) :
    k2_pay2 x (View.ld ss r2_1) (View.ld ss r2_2) w b (ix3 0 0 o) = ∑ q : Fin 512, y2 x w b ss q o := by
  simp only [← pay2_apply]
  pointwise [k2_pay2]

/-- A tile's column sums of squares. -/
theorem pay2_square (x : Vec Ideal S512x128 .f32) (w : Vec Ideal S128x128 .f32) (b : Vec Ideal S1x128 .f32) (ss : Vec Ideal S2x128 .f32) (o : Fin 128) :
    k2_pay3 x (View.ld ss r2_1) (View.ld ss r2_2) w b (ix3 0 0 o) = ∑ q : Fin 512, y2 x w b ss q o * y2 x w b ss q o := by
  simp only [← pay2_apply]
  pointwise [k2_pay3]

/-- The origin in two dimensions. -/
theorem zero2_2 : (![0, 0] : Fin 2 → ℕ) = 0 := by decide
/-- The origin in three dimensions. -/
theorem zero3_2 : (![0, 0, 0] : Fin 3 → ℕ) = 0 := by decide

/-- What one step leaves in the tile of values. -/
theorem out2_4_apply (x0 : Vec Ideal S512x128 .f32) (x1 : Vec Ideal S128x128 .f32) (x2 : Vec Ideal S1x128 .f32) (x3 : Vec Ideal S2x128 .f32) (q : Fin 512) (o : Fin 128) :
    out2_4 x0 x1 x2 x3 (ix2 q o) = y2 x0 x1 x2 x3 q o := by
  unfold out2_4
  rw [View.canon_unit_zero zero2_2, View.ld_unit_zero zero2_2, View.ld_unit_zero zero2_2, View.ld_unit_zero zero2_2]
  exact pay2_apply x0 x1 x2 x3 q o

/-- What one step leaves in the tile of sums. -/
theorem out2_5_apply (x0 : Vec Ideal S512x128 .f32) (x1 : Vec Ideal S128x128 .f32) (x2 : Vec Ideal S1x128 .f32) (x3 : Vec Ideal S2x128 .f32) (o : Fin 128) :
    out2_5 x0 x1 x2 x3 (ix3 0 0 o) = ∑ q : Fin 512, y2 x0 x1 x2 x3 q o := by
  unfold out2_5
  rw [View.canon_unit_zero zero3_2, View.ld_unit_zero zero2_2, View.ld_unit_zero zero2_2, View.ld_unit_zero zero2_2]
  exact pay2_sum x0 x1 x2 x3 o

/-- What one step leaves in the tile of sums of squares. -/
theorem out2_6_apply (x0 : Vec Ideal S512x128 .f32) (x1 : Vec Ideal S128x128 .f32) (x2 : Vec Ideal S1x128 .f32) (x3 : Vec Ideal S2x128 .f32) (o : Fin 128) :
    out2_6 x0 x1 x2 x3 (ix3 0 0 o) = ∑ q : Fin 512, y2 x0 x1 x2 x3 q o * y2 x0 x1 x2 x3 q o := by
  unfold out2_6
  rw [View.canon_unit_zero zero3_2, View.ld_unit_zero zero2_2, View.ld_unit_zero zero2_2, View.ld_unit_zero zero2_2]
  exact pay2_square x0 x1 x2 x3 o

/-- Which block each window holds at a step. -/
theorem index2 : ∀ t : Fin cfg2.N, (win2_0.index t (0 : Fin 2) = t.val ∧ win2_0.index t (1 : Fin 2) = 0)
    ∧ (win2_1.index t (0 : Fin 2) = 0 ∧ win2_1.index t (1 : Fin 2) = 0) ∧ (win2_2.index t (0 : Fin 2) = 0 ∧ win2_2.index t (1 : Fin 2) = 0)
    ∧ (win2_3.index t (0 : Fin 2) = 0 ∧ win2_3.index t (1 : Fin 2) = 0) ∧ (win2_4.index t (0 : Fin 2) = t.val ∧ win2_4.index t (1 : Fin 2) = 0)
    ∧ (win2_5.index t (0 : Fin 3) = t.val ∧ win2_5.index t (1 : Fin 3) = 0 ∧ win2_5.index t (2 : Fin 3) = 0)
    ∧ (win2_6.index t (0 : Fin 3) = t.val ∧ win2_6.index t (1 : Fin 3) = 0 ∧ win2_6.index t (2 : Fin 3) = 0) :=
  (by decide +kernel : ∀ t : Fin grid2.N, _)

/-- Row `q` of block `t`. -/
abbrev row2 (t : Fin cfg2.N) (q : Fin 512) : Fin 131072 := ⟨t.val * 512 + q.val, by have h : t.val < 256 := t.isLt; omega⟩

/-- Where an element of the block lies in its array. -/
theorem emb2_0 (t : Fin cfg2.N) (q : Fin 512) (e : Fin 128) : ((cfg2.win 0).blk t).view.emb (ix2 q e) = ix2 (row2 t q) e := by
  obtain ⟨⟨e0, e1⟩, -⟩ := index2 t
  funext a; apply Fin.ext
  match a with
  | ⟨0, _⟩ => show win2_0.index t (0 : Fin 2) * 512 + 1 * q.val = t.val * 512 + q.val; omega
  | ⟨1, _⟩ => show win2_0.index t (1 : Fin 2) * 128 + 1 * e.val = e.val; omega

/-- Where an element of the block lies in its array. -/
theorem emb2_4 (t : Fin cfg2.N) (q : Fin 512) (e : Fin 128) : ((cfg2.win 4).blk t).view.emb (ix2 q e) = ix2 (row2 t q) e := by
  obtain ⟨-, -, -, -, ⟨e0, e1⟩, -⟩ := index2 t
  funext a; apply Fin.ext
  match a with
  | ⟨0, _⟩ => show win2_4.index t (0 : Fin 2) * 512 + 1 * q.val = t.val * 512 + q.val; omega
  | ⟨1, _⟩ => show win2_4.index t (1 : Fin 2) * 128 + 1 * e.val = e.val; omega

/-- Where an element of the block lies in its array. -/
theorem emb2_1 (t : Fin cfg2.N) (j : S128x128.Idx) : ((cfg2.win 1).blk t).view.emb j = j := by
  obtain ⟨-, ⟨e0, e1⟩, -⟩ := index2 t
  funext a; apply Fin.ext
  match a with
  | ⟨0, _⟩ => show win2_1.index t (0 : Fin 2) * 128 + 1 * (j 0).val = (j 0).val; omega
  | ⟨1, _⟩ => show win2_1.index t (1 : Fin 2) * 128 + 1 * (j 1).val = (j 1).val; omega

/-- Where an element of the block lies in its array. -/
theorem emb2_2 (t : Fin cfg2.N) (j : S1x128.Idx) : ((cfg2.win 2).blk t).view.emb j = j := by
  obtain ⟨-, -, ⟨e0, e1⟩, -⟩ := index2 t
  funext a; apply Fin.ext
  match a with
  | ⟨0, _⟩ => show win2_2.index t (0 : Fin 2) * 1 + 1 * (j 0).val = (j 0).val; omega
  | ⟨1, _⟩ => show win2_2.index t (1 : Fin 2) * 128 + 1 * (j 1).val = (j 1).val; omega

/-- Where an element of the block lies in its array. -/
theorem emb2_3 (t : Fin cfg2.N) (j : S2x128.Idx) : ((cfg2.win 3).blk t).view.emb j = j := by
  obtain ⟨-, -, -, ⟨e0, e1⟩, -⟩ := index2 t
  funext a; apply Fin.ext
  match a with
  | ⟨0, _⟩ => show win2_3.index t (0 : Fin 2) * 2 + 1 * (j 0).val = (j 0).val; omega
  | ⟨1, _⟩ => show win2_3.index t (1 : Fin 2) * 128 + 1 * (j 1).val = (j 1).val; omega

/-- Where an element of the block lies in its array. -/
theorem emb2_5 (t : Fin cfg2.N) (o : Fin 128) : ((cfg2.win 5).blk t).view.emb (ix3 0 0 o) = ix3 (⟨t.val, t.isLt⟩ : Fin 256) 0 o := by
  obtain ⟨-, -, -, -, -, ⟨e0, e1, e2⟩, -⟩ := index2 t
  funext a; apply Fin.ext
  match a with
  | ⟨0, _⟩ => show win2_5.index t (0 : Fin 3) * 1 + 1 * 0 = t.val; omega
  | ⟨1, _⟩ => show win2_5.index t (1 : Fin 3) * 1 + 1 * 0 = 0; omega
  | ⟨2, _⟩ => show win2_5.index t (2 : Fin 3) * 128 + 1 * o.val = o.val; omega

/-- Where an element of the block lies in its array. -/
theorem emb2_6 (t : Fin cfg2.N) (o : Fin 128) : ((cfg2.win 6).blk t).view.emb (ix3 0 0 o) = ix3 (⟨t.val, t.isLt⟩ : Fin 256) 0 o := by
  obtain ⟨-, -, -, -, -, -, ⟨e0, e1, e2⟩⟩ := index2 t
  funext a; apply Fin.ext
  match a with
  | ⟨0, _⟩ => show win2_6.index t (0 : Fin 3) * 1 + 1 * 0 = t.val; omega
  | ⟨1, _⟩ => show win2_6.index t (1 : Fin 3) * 1 + 1 * 0 = 0; omega
  | ⟨2, _⟩ => show win2_6.index t (2 : Fin 3) * 128 + 1 * o.val = o.val; omega

variable (V : (c : Dev nD) → (b : Ref sig .tc) → Buf (Elt Ideal) ((c : Thread nD τ).loc b))

/-- The block of rows that a step reads. -/
theorem iblk2_x (c : Dev nD) (t : Fin cfg2.N) (q : Fin 512) (e : Fin 128) : iblk2 V c 0 t (ix2 q e) = V c main_v50_0 (ix2 (row2 t q) e) :=
  congrArg (V c main_v50_0) (emb2_0 t q e)
/-- A step reads the whole weights. -/
theorem iblk2_w (c : Dev nD) (t : Fin cfg2.N) : iblk2 V c 1 t = V c main_v46 := funext fun j => congrArg (V c main_v46) (emb2_1 t j)
/-- A step reads the whole offset row. -/
theorem iblk2_b (c : Dev nD) (t : Fin cfg2.N) : iblk2 V c 2 t = V c main_v70 := funext fun j => congrArg (V c main_v70) (emb2_2 t j)
/-- A step reads the whole scale and shift. -/
theorem iblk2_s (c : Dev nD) (t : Fin cfg2.N) : iblk2 V c 3 t = V c main_v69 := funext fun j => congrArg (V c main_v69) (emb2_3 t j)

/-- A step's values at an element of its block. -/
theorem block2 (c : Dev nD) (t : Fin cfg2.N) (q : Fin 512) (o : Fin 128) :
    y2 (iblk2 V c 0 t) (iblk2 V c 1 t) (iblk2 V c 2 t) (iblk2 V c 3 t) q o = y2 (V c main_v50_0) (V c main_v46) (V c main_v70) (V c main_v69) (row2 t q) o := by
  rw [iblk2_w, iblk2_b, iblk2_s]
  unfold y2
  simp only [iblk2_x]

/-- The layer's rows. -/
theorem arr2_4 (c : Dev nD) : (dat2 V c).arrAt 4 cfg2.N = (fun i : S131072x128.Idx => y2 (V c main_v50_0) (V c main_v46) (V c main_v70) (V c main_v69) (i 0) (i 1) : S131072x128.Idx → EReal) := by
  refine Dat.arrAt_eq_of_cover (dat2 V c) 4 (fun i : S131072x128.Idx => y2 (V c main_v50_0) (V c main_v46) (V c main_v70) (V c main_v69) (i 0) (i 1) : S131072x128.Idx → EReal) (fun t _ => ?_) (fun i => ?_)
  · show (dat2 V c).after 4 t = _
    rw [after2_4]
    funext j
    have hj : ∃ (q : Fin 512) (o : Fin 128), j = ix2 q o := ⟨j 0, j 1, funext fun a => by fin_cases a <;> rfl⟩
    obtain ⟨q, o, rfl⟩ := hj
    rw [out2_4_apply]
    refine (block2 V c t q o).trans ?_
    exact (congrArg (fun i : S131072x128.Idx => y2 (V c main_v50_0) (V c main_v46) (V c main_v70) (V c main_v69) (i 0) (i 1)) (emb2_4 t q o)).symm
  · have hi : ∃ (r : Fin 131072) (o : Fin 128), i = ix2 r o := ⟨i 0, i 1, funext fun a => by fin_cases a <;> rfl⟩
    obtain ⟨r, o, rfl⟩ := hi
    let t : Fin cfg2.N := ⟨r.val / 512, by show r.val / 512 < 256; omega⟩
    refine ⟨t, flush2_4 _, ?_⟩
    have h := ((cfg2.win 4).blk t).view.emb_mem_set (ix2 (⟨r.val % 512, by omega⟩ : Fin 512) o)
    rw [emb2_4] at h
    have e : row2 t ⟨r.val % 512, by omega⟩ = r := Fin.ext (by show r.val / 512 * 512 + r.val % 512 = r.val; omega)
    rwa [e] at h

/-- The sums of the rows of each block. -/
theorem arr2_5 (c : Dev nD) : (dat2 V c).arrAt 5 cfg2.N = (fun i : S256x1x128.Idx => ∑ q : Fin 512, y2 (V c main_v50_0) (V c main_v46) (V c main_v70) (V c main_v69) (row2 (i 0) q) (i 2) : S256x1x128.Idx → EReal) := by
  refine Dat.arrAt_eq_of_cover (dat2 V c) 5 ((fun i : S256x1x128.Idx => ∑ q : Fin 512, y2 (V c main_v50_0) (V c main_v46) (V c main_v70) (V c main_v69) (row2 (i 0) q) (i 2) : S256x1x128.Idx → EReal)) (fun t _ => ?_) (fun i => ?_)
  · show (dat2 V c).after 5 t = _
    rw [after2_5]
    funext j
    obtain ⟨o, rfl⟩ := one_one j
    rw [out2_5_apply]
    simp only [block2 V c t]
    exact (congrArg ((fun i : S256x1x128.Idx => ∑ q : Fin 512, y2 (V c main_v50_0) (V c main_v46) (V c main_v70) (V c main_v69) (row2 (i 0) q) (i 2) : S256x1x128.Idx → EReal)) (emb2_5 t o)).symm
  · obtain ⟨t, o, rfl⟩ := mid_one (A := 256) (N := 128) i
    refine ⟨(t : Fin cfg2.N), flush2_5 _, ?_⟩
    have h := ((cfg2.win 5).blk (t : Fin cfg2.N)).view.emb_mem_set (ix3 0 0 o)
    have e := emb2_5 (t : Fin cfg2.N) o
    exact e ▸ h

/-- The sums of their squares. -/
theorem arr2_6 (c : Dev nD) : (dat2 V c).arrAt 6 cfg2.N = (fun i : S256x1x128.Idx => ∑ q : Fin 512, y2 (V c main_v50_0) (V c main_v46) (V c main_v70) (V c main_v69) (row2 (i 0) q) (i 2) * y2 (V c main_v50_0) (V c main_v46) (V c main_v70) (V c main_v69) (row2 (i 0) q) (i 2) : S256x1x128.Idx → EReal) := by
  refine Dat.arrAt_eq_of_cover (dat2 V c) 6 ((fun i : S256x1x128.Idx => ∑ q : Fin 512, y2 (V c main_v50_0) (V c main_v46) (V c main_v70) (V c main_v69) (row2 (i 0) q) (i 2) * y2 (V c main_v50_0) (V c main_v46) (V c main_v70) (V c main_v69) (row2 (i 0) q) (i 2) : S256x1x128.Idx → EReal)) (fun t _ => ?_) (fun i => ?_)
  · show (dat2 V c).after 6 t = _
    rw [after2_6]
    funext j
    obtain ⟨o, rfl⟩ := one_one j
    rw [out2_6_apply]
    simp only [block2 V c t]
    exact (congrArg ((fun i : S256x1x128.Idx => ∑ q : Fin 512, y2 (V c main_v50_0) (V c main_v46) (V c main_v70) (V c main_v69) (row2 (i 0) q) (i 2) * y2 (V c main_v50_0) (V c main_v46) (V c main_v70) (V c main_v69) (row2 (i 0) q) (i 2) : S256x1x128.Idx → EReal)) (emb2_6 t o)).symm
  · obtain ⟨t, o, rfl⟩ := mid_one (A := 256) (N := 128) i
    refine ⟨(t : Fin cfg2.N), flush2_6 _, ?_⟩
    have h := ((cfg2.win 6).blk (t : Fin cfg2.N)).view.emb_mem_set (ix3 0 0 o)
    have e := emb2_6 (t : Fin cfg2.N) o
    exact e ▸ h

end Cert.Layer

end
-- ==== Proof.Layer3.lean ====
/-
  The kernel's third layer at the extended reals: what the region leaves in its result arrays, in terms of the arrays it reads.
-/
module

public import proofs.«01_k».proof.Proof.Layer1
public import proofs.«01_k».proof.Proof.Lemmas
public import Idealize.ShloMosaic.Lib.Pipeline.Value
public import Idealize.ShloMosaic.Lib.WritesUnit
public import Idealize.ShloMosaic.Lib.StableHlo.ReadAt

@[expose] public section

set_option maxRecDepth 16384

noncomputable section

namespace Cert.Layer

open Cert.KernelIdeal Cert.KernelIdeal.Gen Idealize.ShloMosaic Idealize.ShloMosaic.TcCoe Idealize.SL.Sem
open Idealize.ShloMosaic.Pipeline (Dat)

/-- One element of the layer. -/
def y3 {R : ℕ} (x : Vec Ideal ⟨2, ![R, 128]⟩ .f32) (w : Vec Ideal S128x256 .f32) (b : Vec Ideal S1x256 .f32) (ss : Vec Ideal S2x128 .f32) (r : Fin R) (o : Fin 256) : EReal :=
  (∑ e : Fin 128, gelu (x (ix2 r e) * ss (ix2 0 e) + ss (ix2 1 e)) * w (ix2 e o)) + b (ix2 0 o)

/-- Loading row 0 of the scale and shift. -/
theorem row0_3 (ss : Vec Ideal S2x128 .f32) (e : Fin 128) : View.ld ss r3_1 (ix2 0 e) = ss (ix2 0 e) :=
  congrArg ss (funext fun a => Fin.ext (by
    match a with
    | ⟨0, _⟩ => rfl
    | ⟨1, _⟩ => show 0 + 1 * e.val = e.val; omega))

/-- Loading row 1 of the scale and shift. -/
theorem row1_3 (ss : Vec Ideal S2x128 .f32) (e : Fin 128) : View.ld ss r3_2 (ix2 0 e) = ss (ix2 1 e) :=
  congrArg ss (funext fun a => Fin.ext (by
    match a with
    | ⟨0, _⟩ => rfl
    | ⟨1, _⟩ => show 0 + 1 * e.val = e.val; omega))

/-- The value stored, at an index, for any scale and shift rows. -/
theorem pay3_any (x : Vec Ideal S512x128 .f32) (s g : Vec Ideal S1x128 .f32) (w : Vec Ideal S128x256 .f32) (b : Vec Ideal S1x256 .f32) (q : Fin 512) (o : Fin 256) :
    k3_pay1 x s g w b (ix2 q o) = (∑ e : Fin 128, gelu (x (ix2 q e) * s (ix2 0 e) + g (ix2 0 e)) * w (ix2 e o)) + b (ix2 0 o) := by
  simp only [gelu]
  pointwise [k3_pay1]
  rfl

/-- The value stored, when its scale and shift are rows of one array. -/
theorem pay3_of (x : Vec Ideal S512x128 .f32) (s g : Vec Ideal S1x128 .f32) (w : Vec Ideal S128x256 .f32) (b : Vec Ideal S1x256 .f32) (ss : Vec Ideal S2x128 .f32)
    (hs : ∀ e, s (ix2 0 e) = ss (ix2 0 e)) (hg : ∀ e, g (ix2 0 e) = ss (ix2 1 e)) (q : Fin 512) (o : Fin 256) :
    k3_pay1 x s g w b (ix2 q o) = y3 x w b ss q o := by
  rw [pay3_any]
  unfold y3
  simp only [hs, hg]

/-- The value stored, at an index of the tile. -/
theorem pay3_apply (x : Vec Ideal S512x128 .f32) (w : Vec Ideal S128x256 .f32) (b : Vec Ideal S1x256 .f32) (ss : Vec Ideal S2x128 .f32) (q : Fin 512) (o : Fin 256) :
    k3_pay1 x (View.ld ss r3_1) (View.ld ss r3_2) w b (ix2 q o) = y3 x w b ss q o := by
  exact pay3_of x _ _ w b ss (row0_3 ss) (row1_3 ss) q o

/-- A tile's column sums. -/
theorem pay3_sum (x : Vec Ideal S512x128 .f32) (w : Vec Ideal S128x256 .f32) (b : Vec Ideal S1x256 .f32) (ss : Vec Ideal S2x128 .f32) (o : Fin 256) :
    k3_pay2 x (View.ld ss r3_1) (View.ld ss r3_2) w b (ix3 0 0 o) = ∑ q : Fin 512, y3 x w b ss q o := by
  simp only [← pay3_apply]
  pointwise [k3_pay2]

/-- A tile's column sums of squares. -/
theorem pay3_square (x : Vec Ideal S512x128 .f32) (w : Vec Ideal S128x256 .f32) (b : Vec Ideal S1x256 .f32) (ss : Vec Ideal S2x128 .f32) (o : Fin 256) :
    k3_pay3 x (View.ld ss r3_1) (View.ld ss r3_2) w b (ix3 0 0 o) = ∑ q : Fin 512, y3 x w b ss q o * y3 x w b ss q o := by
  simp only [← pay3_apply]
  pointwise [k3_pay3]

/-- The origin in two dimensions. -/
theorem zero2_3 : (![0, 0] : Fin 2 → ℕ) = 0 := by decide
/-- The origin in three dimensions. -/
theorem zero3_3 : (![0, 0, 0] : Fin 3 → ℕ) = 0 := by decide

/-- What one step leaves in the tile of values. -/
theorem out3_4_apply (x0 : Vec Ideal S512x128 .f32) (x1 : Vec Ideal S128x256 .f32) (x2 : Vec Ideal S1x256 .f32) (x3 : Vec Ideal S2x128 .f32) (q : Fin 512) (o : Fin 256) :
    out3_4 x0 x1 x2 x3 (ix2 q o) = y3 x0 x1 x2 x3 q o := by
  unfold out3_4
  rw [View.canon_unit_zero zero2_3, View.ld_unit_zero zero2_3, View.ld_unit_zero zero2_3, View.ld_unit_zero zero2_3]
  exact pay3_apply x0 x1 x2 x3 q o

/-- What one step leaves in the tile of sums. -/
theorem out3_5_apply (x0 : Vec Ideal S512x128 .f32) (x1 : Vec Ideal S128x256 .f32) (x2 : Vec Ideal S1x256 .f32) (x3 : Vec Ideal S2x128 .f32) (o : Fin 256) :
    out3_5 x0 x1 x2 x3 (ix3 0 0 o) = ∑ q : Fin 512, y3 x0 x1 x2 x3 q o := by
  unfold out3_5
  rw [View.canon_unit_zero zero3_3, View.ld_unit_zero zero2_3, View.ld_unit_zero zero2_3, View.ld_unit_zero zero2_3]
  exact pay3_sum x0 x1 x2 x3 o

/-- What one step leaves in the tile of sums of squares. -/
theorem out3_6_apply (x0 : Vec Ideal S512x128 .f32) (x1 : Vec Ideal S128x256 .f32) (x2 : Vec Ideal S1x256 .f32) (x3 : Vec Ideal S2x128 .f32) (o : Fin 256) :
    out3_6 x0 x1 x2 x3 (ix3 0 0 o) = ∑ q : Fin 512, y3 x0 x1 x2 x3 q o * y3 x0 x1 x2 x3 q o := by
  unfold out3_6
  rw [View.canon_unit_zero zero3_3, View.ld_unit_zero zero2_3, View.ld_unit_zero zero2_3, View.ld_unit_zero zero2_3]
  exact pay3_square x0 x1 x2 x3 o

/-- Which block each window holds at a step. -/
theorem index3 : ∀ t : Fin cfg3.N, (win3_0.index t (0 : Fin 2) = t.val ∧ win3_0.index t (1 : Fin 2) = 0)
    ∧ (win3_1.index t (0 : Fin 2) = 0 ∧ win3_1.index t (1 : Fin 2) = 0) ∧ (win3_2.index t (0 : Fin 2) = 0 ∧ win3_2.index t (1 : Fin 2) = 0)
    ∧ (win3_3.index t (0 : Fin 2) = 0 ∧ win3_3.index t (1 : Fin 2) = 0) ∧ (win3_4.index t (0 : Fin 2) = t.val ∧ win3_4.index t (1 : Fin 2) = 0)
    ∧ (win3_5.index t (0 : Fin 3) = t.val ∧ win3_5.index t (1 : Fin 3) = 0 ∧ win3_5.index t (2 : Fin 3) = 0)
    ∧ (win3_6.index t (0 : Fin 3) = t.val ∧ win3_6.index t (1 : Fin 3) = 0 ∧ win3_6.index t (2 : Fin 3) = 0) :=
  (by decide +kernel : ∀ t : Fin grid3.N, _)

/-- Row `q` of block `t`. -/
abbrev row3 (t : Fin cfg3.N) (q : Fin 512) : Fin 131072 := ⟨t.val * 512 + q.val, by have h : t.val < 256 := t.isLt; omega⟩

/-- Where an element of the block lies in its array. -/
theorem emb3_0 (t : Fin cfg3.N) (q : Fin 512) (e : Fin 128) : ((cfg3.win 0).blk t).view.emb (ix2 q e) = ix2 (row3 t q) e := by
  obtain ⟨⟨e0, e1⟩, -⟩ := index3 t
  funext a; apply Fin.ext
  match a with
  | ⟨0, _⟩ => show win3_0.index t (0 : Fin 2) * 512 + 1 * q.val = t.val * 512 + q.val; omega
  | ⟨1, _⟩ => show win3_0.index t (1 : Fin 2) * 128 + 1 * e.val = e.val; omega

/-- Where an element of the block lies in its array. -/
theorem emb3_4 (t : Fin cfg3.N) (q : Fin 512) (e : Fin 256) : ((cfg3.win 4).blk t).view.emb (ix2 q e) = ix2 (row3 t q) e := by
  obtain ⟨-, -, -, -, ⟨e0, e1⟩, -⟩ := index3 t
  funext a; apply Fin.ext
  match a with
  | ⟨0, _⟩ => show win3_4.index t (0 : Fin 2) * 512 + 1 * q.val = t.val * 512 + q.val; omega
  | ⟨1, _⟩ => show win3_4.index t (1 : Fin 2) * 256 + 1 * e.val = e.val; omega

/-- Where an element of the block lies in its array. -/
theorem emb3_1 (t : Fin cfg3.N) (j : S128x256.Idx) : ((cfg3.win 1).blk t).view.emb j = j := by
  obtain ⟨-, ⟨e0, e1⟩, -⟩ := index3 t
  funext a; apply Fin.ext
  match a with
  | ⟨0, _⟩ => show win3_1.index t (0 : Fin 2) * 128 + 1 * (j 0).val = (j 0).val; omega
  | ⟨1, _⟩ => show win3_1.index t (1 : Fin 2) * 256 + 1 * (j 1).val = (j 1).val; omega

/-- Where an element of the block lies in its array. -/
theorem emb3_2 (t : Fin cfg3.N) (j : S1x256.Idx) : ((cfg3.win 2).blk t).view.emb j = j := by
  obtain ⟨-, -, ⟨e0, e1⟩, -⟩ := index3 t
  funext a; apply Fin.ext
  match a with
  | ⟨0, _⟩ => show win3_2.index t (0 : Fin 2) * 1 + 1 * (j 0).val = (j 0).val; omega
  | ⟨1, _⟩ => show win3_2.index t (1 : Fin 2) * 256 + 1 * (j 1).val = (j 1).val; omega

/-- Where an element of the block lies in its array. -/
theorem emb3_3 (t : Fin cfg3.N) (j : S2x128.Idx) : ((cfg3.win 3).blk t).view.emb j = j := by
  obtain ⟨-, -, -, ⟨e0, e1⟩, -⟩ := index3 t
  funext a; apply Fin.ext
  match a with
  | ⟨0, _⟩ => show win3_3.index t (0 : Fin 2) * 2 + 1 * (j 0).val = (j 0).val; omega
  | ⟨1, _⟩ => show win3_3.index t (1 : Fin 2) * 128 + 1 * (j 1).val = (j 1).val; omega

/-- Where an element of the block lies in its array. -/
theorem emb3_5 (t : Fin cfg3.N) (o : Fin 256) : ((cfg3.win 5).blk t).view.emb (ix3 0 0 o) = ix3 (⟨t.val, t.isLt⟩ : Fin 256) 0 o := by
  obtain ⟨-, -, -, -, -, ⟨e0, e1, e2⟩, -⟩ := index3 t
  funext a; apply Fin.ext
  match a with
  | ⟨0, _⟩ => show win3_5.index t (0 : Fin 3) * 1 + 1 * 0 = t.val; omega
  | ⟨1, _⟩ => show win3_5.index t (1 : Fin 3) * 1 + 1 * 0 = 0; omega
  | ⟨2, _⟩ => show win3_5.index t (2 : Fin 3) * 256 + 1 * o.val = o.val; omega

/-- Where an element of the block lies in its array. -/
theorem emb3_6 (t : Fin cfg3.N) (o : Fin 256) : ((cfg3.win 6).blk t).view.emb (ix3 0 0 o) = ix3 (⟨t.val, t.isLt⟩ : Fin 256) 0 o := by
  obtain ⟨-, -, -, -, -, -, ⟨e0, e1, e2⟩⟩ := index3 t
  funext a; apply Fin.ext
  match a with
  | ⟨0, _⟩ => show win3_6.index t (0 : Fin 3) * 1 + 1 * 0 = t.val; omega
  | ⟨1, _⟩ => show win3_6.index t (1 : Fin 3) * 1 + 1 * 0 = 0; omega
  | ⟨2, _⟩ => show win3_6.index t (2 : Fin 3) * 256 + 1 * o.val = o.val; omega

variable (V : (c : Dev nD) → (b : Ref sig .tc) → Buf (Elt Ideal) ((c : Thread nD τ).loc b))

/-- The block of rows that a step reads. -/
theorem iblk3_x (c : Dev nD) (t : Fin cfg3.N) (q : Fin 512) (e : Fin 128) : iblk3 V c 0 t (ix2 q e) = V c main_v71_0 (ix2 (row3 t q) e) :=
  congrArg (V c main_v71_0) (emb3_0 t q e)
/-- A step reads the whole weights. -/
theorem iblk3_w (c : Dev nD) (t : Fin cfg3.N) : iblk3 V c 1 t = V c main_v47 := funext fun j => congrArg (V c main_v47) (emb3_1 t j)
/-- A step reads the whole offset row. -/
theorem iblk3_b (c : Dev nD) (t : Fin cfg3.N) : iblk3 V c 2 t = V c main_v91 := funext fun j => congrArg (V c main_v91) (emb3_2 t j)
/-- A step reads the whole scale and shift. -/
theorem iblk3_s (c : Dev nD) (t : Fin cfg3.N) : iblk3 V c 3 t = V c main_v90 := funext fun j => congrArg (V c main_v90) (emb3_3 t j)

/-- A step's values at an element of its block. -/
theorem block3 (c : Dev nD) (t : Fin cfg3.N) (q : Fin 512) (o : Fin 256) :
    y3 (iblk3 V c 0 t) (iblk3 V c 1 t) (iblk3 V c 2 t) (iblk3 V c 3 t) q o = y3 (V c main_v71_0) (V c main_v47) (V c main_v91) (V c main_v90) (row3 t q) o := by
  rw [iblk3_w, iblk3_b, iblk3_s]
  unfold y3
  simp only [iblk3_x]

/-- The layer's rows. -/
theorem arr3_4 (c : Dev nD) : (dat3 V c).arrAt 4 cfg3.N = (fun i : S131072x256.Idx => y3 (V c main_v71_0) (V c main_v47) (V c main_v91) (V c main_v90) (i 0) (i 1) : S131072x256.Idx → EReal) := by
  refine Dat.arrAt_eq_of_cover (dat3 V c) 4 (fun i : S131072x256.Idx => y3 (V c main_v71_0) (V c main_v47) (V c main_v91) (V c main_v90) (i 0) (i 1) : S131072x256.Idx → EReal) (fun t _ => ?_) (fun i => ?_)
  · show (dat3 V c).after 4 t = _
    rw [after3_4]
    funext j
    have hj : ∃ (q : Fin 512) (o : Fin 256), j = ix2 q o := ⟨j 0, j 1, funext fun a => by fin_cases a <;> rfl⟩
    obtain ⟨q, o, rfl⟩ := hj
    rw [out3_4_apply]
    refine (block3 V c t q o).trans ?_
    exact (congrArg (fun i : S131072x256.Idx => y3 (V c main_v71_0) (V c main_v47) (V c main_v91) (V c main_v90) (i 0) (i 1)) (emb3_4 t q o)).symm
  · have hi : ∃ (r : Fin 131072) (o : Fin 256), i = ix2 r o := ⟨i 0, i 1, funext fun a => by fin_cases a <;> rfl⟩
    obtain ⟨r, o, rfl⟩ := hi
    let t : Fin cfg3.N := ⟨r.val / 512, by show r.val / 512 < 256; omega⟩
    refine ⟨t, flush3_4 _, ?_⟩
    have h := ((cfg3.win 4).blk t).view.emb_mem_set (ix2 (⟨r.val % 512, by omega⟩ : Fin 512) o)
    rw [emb3_4] at h
    have e : row3 t ⟨r.val % 512, by omega⟩ = r := Fin.ext (by show r.val / 512 * 512 + r.val % 512 = r.val; omega)
    rwa [e] at h

/-- The sums of the rows of each block. -/
theorem arr3_5 (c : Dev nD) : (dat3 V c).arrAt 5 cfg3.N = (fun i : S256x1x256.Idx => ∑ q : Fin 512, y3 (V c main_v71_0) (V c main_v47) (V c main_v91) (V c main_v90) (row3 (i 0) q) (i 2) : S256x1x256.Idx → EReal) := by
  refine Dat.arrAt_eq_of_cover (dat3 V c) 5 ((fun i : S256x1x256.Idx => ∑ q : Fin 512, y3 (V c main_v71_0) (V c main_v47) (V c main_v91) (V c main_v90) (row3 (i 0) q) (i 2) : S256x1x256.Idx → EReal)) (fun t _ => ?_) (fun i => ?_)
  · show (dat3 V c).after 5 t = _
    rw [after3_5]
    funext j
    obtain ⟨o, rfl⟩ := one_one j
    rw [out3_5_apply]
    simp only [block3 V c t]
    exact (congrArg ((fun i : S256x1x256.Idx => ∑ q : Fin 512, y3 (V c main_v71_0) (V c main_v47) (V c main_v91) (V c main_v90) (row3 (i 0) q) (i 2) : S256x1x256.Idx → EReal)) (emb3_5 t o)).symm
  · obtain ⟨t, o, rfl⟩ := mid_one (A := 256) (N := 256) i
    refine ⟨(t : Fin cfg3.N), flush3_5 _, ?_⟩
    have h := ((cfg3.win 5).blk (t : Fin cfg3.N)).view.emb_mem_set (ix3 0 0 o)
    have e := emb3_5 (t : Fin cfg3.N) o
    exact e ▸ h

/-- The sums of their squares. -/
theorem arr3_6 (c : Dev nD) : (dat3 V c).arrAt 6 cfg3.N = (fun i : S256x1x256.Idx => ∑ q : Fin 512, y3 (V c main_v71_0) (V c main_v47) (V c main_v91) (V c main_v90) (row3 (i 0) q) (i 2) * y3 (V c main_v71_0) (V c main_v47) (V c main_v91) (V c main_v90) (row3 (i 0) q) (i 2) : S256x1x256.Idx → EReal) := by
  refine Dat.arrAt_eq_of_cover (dat3 V c) 6 ((fun i : S256x1x256.Idx => ∑ q : Fin 512, y3 (V c main_v71_0) (V c main_v47) (V c main_v91) (V c main_v90) (row3 (i 0) q) (i 2) * y3 (V c main_v71_0) (V c main_v47) (V c main_v91) (V c main_v90) (row3 (i 0) q) (i 2) : S256x1x256.Idx → EReal)) (fun t _ => ?_) (fun i => ?_)
  · show (dat3 V c).after 6 t = _
    rw [after3_6]
    funext j
    obtain ⟨o, rfl⟩ := one_one j
    rw [out3_6_apply]
    simp only [block3 V c t]
    exact (congrArg ((fun i : S256x1x256.Idx => ∑ q : Fin 512, y3 (V c main_v71_0) (V c main_v47) (V c main_v91) (V c main_v90) (row3 (i 0) q) (i 2) * y3 (V c main_v71_0) (V c main_v47) (V c main_v91) (V c main_v90) (row3 (i 0) q) (i 2) : S256x1x256.Idx → EReal)) (emb3_6 t o)).symm
  · obtain ⟨t, o, rfl⟩ := mid_one (A := 256) (N := 256) i
    refine ⟨(t : Fin cfg3.N), flush3_6 _, ?_⟩
    have h := ((cfg3.win 6).blk (t : Fin cfg3.N)).view.emb_mem_set (ix3 0 0 o)
    have e := emb3_6 (t : Fin cfg3.N) o
    exact e ▸ h

end Cert.Layer

end
-- ==== Proof.Layer4.lean ====
/-
  The kernel's last region at the extended reals: the largest activation among the 32 rows of each point.
-/
module

public import proofs.«01_k».proof.Proof.Layer1
public import proofs.«01_k».proof.Proof.Lemmas
public import Idealize.ShloMosaic.Lib.Pipeline.Value
public import Idealize.ShloMosaic.Lib.WritesUnit
public import Idealize.ShloMosaic.Lib.StableHlo.ReadAt

@[expose] public section

set_option maxRecDepth 16384

noncomputable section

namespace Cert.Layer

open Cert.KernelIdeal Cert.KernelIdeal.Gen Idealize.ShloMosaic Idealize.ShloMosaic.TcCoe Idealize.SL.Sem
open Idealize.ShloMosaic.Pipeline (Dat)

/-- The largest activation among 32 consecutive rows. -/
def top {R : ℕ} (x : Vec Ideal ⟨2, ![R * 32, 256]⟩ .f32) (ss : Vec Ideal S2x256 .f32) (r : Fin R) (o : Fin 256) : EReal :=
  Finset.fold max (Ideal.ofBits .f32 0xFF800000#32 : EReal)
    (fun k : Fin 32 => gelu (x (ix2 ⟨r.val * 32 + k.val, by omega⟩ o) * ss (ix2 0 o) + ss (ix2 1 o))) Finset.univ

/-- Loading row 0 of the scale and shift. -/
theorem row0_4 (ss : Vec Ideal S2x256 .f32) (e : Fin 256) : View.ld ss r4_1 (ix2 0 e) = ss (ix2 0 e) :=
  congrArg ss (funext fun a => Fin.ext (by
    match a with
    | ⟨0, _⟩ => rfl
    | ⟨1, _⟩ => show 0 + 1 * e.val = e.val; omega))

/-- Loading row 1 of the scale and shift. -/
theorem row1_4 (ss : Vec Ideal S2x256 .f32) (e : Fin 256) : View.ld ss r4_2 (ix2 0 e) = ss (ix2 1 e) :=
  congrArg ss (funext fun a => Fin.ext (by
    match a with
    | ⟨0, _⟩ => rfl
    | ⟨1, _⟩ => show 0 + 1 * e.val = e.val; omega))

/-- The value stored, at an index, for any scale and shift rows. -/
theorem pay4_any (x : Vec Ideal S512x256 .f32) (s g : Vec Ideal S1x256 .f32) (q : Fin 16) (o : Fin 256) :
    k4_pay1 x s g (ix2 q o) = Finset.fold max (Ideal.ofBits .f32 0xFF800000#32 : EReal)
      (fun k : Fin 32 => gelu (x (ix2 ⟨q.val * 32 + k.val, by omega⟩ o) * s (ix2 0 o) + g (ix2 0 o))) Finset.univ := by
  simp only [gelu]
  pointwise [k4_pay1]
  rfl

/-- The value stored, when its scale and shift are rows of one array. -/
theorem pay4_of (x : Vec Ideal S512x256 .f32) (s g : Vec Ideal S1x256 .f32) (ss : Vec Ideal S2x256 .f32)
    (hs : ∀ e, s (ix2 0 e) = ss (ix2 0 e)) (hg : ∀ e, g (ix2 0 e) = ss (ix2 1 e)) (q : Fin 16) (o : Fin 256) :
    k4_pay1 x s g (ix2 q o) = top (R := 16) x ss q o := by
  rw [pay4_any]
  unfold top
  simp only [hs, hg]

/-- The value stored, at an index of the tile. -/
theorem pay4_apply (x : Vec Ideal S512x256 .f32) (ss : Vec Ideal S2x256 .f32) (q : Fin 16) (o : Fin 256) :
    k4_pay1 x (View.ld ss r4_1) (View.ld ss r4_2) (ix2 q o) = top (R := 16) x ss q o :=
  pay4_of x _ _ ss (row0_4 ss) (row1_4 ss) q o

/-- The origin in two dimensions. -/
theorem zero2_4 : (![0, 0] : Fin 2 → ℕ) = 0 := by decide

/-- What one step leaves in the result tile. -/
theorem out4_2_apply (x0 : Vec Ideal S512x256 .f32) (x1 : Vec Ideal S2x256 .f32) (q : Fin 16) (o : Fin 256) :
    out4_2 x0 x1 (ix2 q o) = top (R := 16) x0 x1 q o := by
  unfold out4_2
  rw [View.canon_unit_zero zero2_4, View.ld_unit_zero zero2_4]
  exact pay4_apply x0 x1 q o

/-- Which block each window holds at a step. -/
theorem index4 : ∀ t : Fin cfg4.N, (win4_0.index t (0 : Fin 2) = t.val ∧ win4_0.index t (1 : Fin 2) = 0)
    ∧ (win4_1.index t (0 : Fin 2) = 0 ∧ win4_1.index t (1 : Fin 2) = 0) ∧ (win4_2.index t (0 : Fin 2) = t.val ∧ win4_2.index t (1 : Fin 2) = 0) :=
  (by decide +kernel : ∀ t : Fin grid4.N, _)

/-- Where an element of the block lies in its array. -/
theorem emb4_0 (t : Fin cfg4.N) (q : Fin 512) (e : Fin 256) :
    ((cfg4.win 0).blk t).view.emb (ix2 q e) = ix2 (⟨t.val * 512 + q.val, by have h : t.val < 256 := t.isLt; omega⟩ : Fin 131072) e := by
  obtain ⟨⟨e0, e1⟩, -⟩ := index4 t
  funext a; apply Fin.ext
  match a with
  | ⟨0, _⟩ => show win4_0.index t (0 : Fin 2) * 512 + 1 * q.val = t.val * 512 + q.val; omega
  | ⟨1, _⟩ => show win4_0.index t (1 : Fin 2) * 256 + 1 * e.val = e.val; omega

/-- Where an element of the block lies in its array. -/
theorem emb4_1 (t : Fin cfg4.N) (j : S2x256.Idx) : ((cfg4.win 1).blk t).view.emb j = j := by
  obtain ⟨-, ⟨e0, e1⟩, -⟩ := index4 t
  funext a; apply Fin.ext
  match a with
  | ⟨0, _⟩ => show win4_1.index t (0 : Fin 2) * 2 + 1 * (j 0).val = (j 0).val; omega
  | ⟨1, _⟩ => show win4_1.index t (1 : Fin 2) * 256 + 1 * (j 1).val = (j 1).val; omega

/-- Row `q` of output block `t`. -/
abbrev row4 (t : Fin cfg4.N) (q : Fin 16) : Fin 4096 := ⟨t.val * 16 + q.val, by have h : t.val < 256 := t.isLt; omega⟩

/-- Where an element of the block lies in its array. -/
theorem emb4_2 (t : Fin cfg4.N) (q : Fin 16) (e : Fin 256) : ((cfg4.win 2).blk t).view.emb (ix2 q e) = ix2 (row4 t q) e := by
  obtain ⟨-, -, ⟨e0, e1⟩⟩ := index4 t
  funext a; apply Fin.ext
  match a with
  | ⟨0, _⟩ => show win4_2.index t (0 : Fin 2) * 16 + 1 * q.val = t.val * 16 + q.val; omega
  | ⟨1, _⟩ => show win4_2.index t (1 : Fin 2) * 256 + 1 * e.val = e.val; omega

variable (V : (c : Dev nD) → (b : Ref sig .tc) → Buf (Elt Ideal) ((c : Thread nD τ).loc b))

/-- The block of rows that a step reads. -/
theorem iblk4_x (c : Dev nD) (t : Fin cfg4.N) (q : Fin 512) (e : Fin 256) :
    iblk4 V c 0 t (ix2 q e) = V c main_v92_0 (ix2 (⟨t.val * 512 + q.val, by have h : t.val < 256 := t.isLt; omega⟩ : Fin 131072) e) :=
  congrArg (V c main_v92_0) (emb4_0 t q e)
/-- A step reads the whole scale and shift. -/
theorem iblk4_s (c : Dev nD) (t : Fin cfg4.N) : iblk4 V c 1 t = V c main_v111 := funext fun j => congrArg (V c main_v111) (emb4_1 t j)

/-- A step's values at an element of its block. -/
theorem block4 (c : Dev nD) (t : Fin cfg4.N) (q : Fin 16) (o : Fin 256) :
    top (R := 16) (iblk4 V c 0 t) (iblk4 V c 1 t) q o = top (R := 4096) (V c main_v92_0) (V c main_v111) (row4 t q) o := by
  rw [iblk4_s]
  unfold top
  simp only [iblk4_x]
  congr 1
  funext k
  have e : (⟨t.val * 512 + (q.val * 32 + k.val), by have h : t.val < 256 := t.isLt; omega⟩ : Fin 131072) = ⟨(row4 t q).val * 32 + k.val, by have h := (row4 t q).isLt; omega⟩ :=
    Fin.ext (by show t.val * 512 + (q.val * 32 + k.val) = (t.val * 16 + q.val) * 32 + k.val; omega)
  rw [e]

/-- The largest activations, one row per point. -/
theorem arr4_2 (c : Dev nD) : (dat4 V c).arrAt 2 cfg4.N = (fun i : S4096x256.Idx => top (R := 4096) (V c main_v92_0) (V c main_v111) (i 0) (i 1) : S4096x256.Idx → EReal) := by
  refine Dat.arrAt_eq_of_cover (dat4 V c) 2 (fun i : S4096x256.Idx => top (R := 4096) (V c main_v92_0) (V c main_v111) (i 0) (i 1) : S4096x256.Idx → EReal) (fun t _ => ?_) (fun i => ?_)
  · show (dat4 V c).after 2 t = _
    rw [after4_2]
    funext j
    have hj : ∃ (q : Fin 16) (o : Fin 256), j = ix2 q o := ⟨j 0, j 1, funext fun a => by fin_cases a <;> rfl⟩
    obtain ⟨q, o, rfl⟩ := hj
    rw [out4_2_apply]
    refine (block4 V c t q o).trans ?_
    exact (congrArg (fun i : S4096x256.Idx => top (R := 4096) (V c main_v92_0) (V c main_v111) (i 0) (i 1)) (emb4_2 t q o)).symm
  · have hi : ∃ (r : Fin 4096) (o : Fin 256), i = ix2 r o := ⟨i 0, i 1, funext fun a => by fin_cases a <;> rfl⟩
    obtain ⟨r, o, rfl⟩ := hi
    let t : Fin cfg4.N := ⟨r.val / 16, by show r.val / 16 < 256; omega⟩
    refine ⟨t, flush4_2 _, ?_⟩
    have h := ((cfg4.win 2).blk t).view.emb_mem_set (ix2 (⟨r.val % 16, by omega⟩ : Fin 16) o)
    have e := emb4_2 t ⟨r.val % 16, by omega⟩ o
    have e' : row4 t ⟨r.val % 16, by omega⟩ = r := Fin.ext (by show r.val / 16 * 16 + r.val % 16 = r.val; omega)
    rw [e'] at e
    exact e ▸ h

end Cert.Layer

end
-- ==== Proof.Deep.lean ====
/-
  The layers, one after the other: each program's values at an index in terms of the layer before.
-/
module

public import proofs.«01_k».proof.Proof.Columns
public import proofs.«01_k».proof.Proof.Layer2
public import proofs.«01_k».proof.Proof.Layer3
public import proofs.«01_k».proof.Proof.Layer4

@[expose] public section

set_option maxRecDepth 16384

noncomputable section

namespace Cert.Deep

open Idealize.ShloMosaic Idealize.ShloMosaic.StableHlo Idealize.ShloMosaic.TcCoe Idealize.SL.Sem Cert.Norm Cert.Layer Cert.RefRun Cert.Rows Cert.Columns

section Kernel
open Cert.KernelIdeal Cert.KernelIdeal.Gen

variable (m : (ℓ : Loc nD τ sig) → Buf (Elt Ideal) ℓ) (ρ : Dev nD → PrngReg) (c : Dev nD)

/-- The first layer. -/
def Y1 (r : Fin 131072) (o : Fin 128) : EReal := y1 (V14 m ρ c main_v41) (V14 m ρ c main_v45) (V14 m ρ c main_v49) r o
/-- The second layer. -/
def Y2 (r : Fin 131072) (o : Fin 128) : EReal := y2 (V16 m ρ c main_v50_0) (V16 m ρ c main_v46) (V16 m ρ c main_v70) (V16 m ρ c main_v69) r o
/-- The third layer. -/
def Y3 (r : Fin 131072) (o : Fin 256) : EReal := y3 (V18 m ρ c main_v71_0) (V18 m ρ c main_v47) (V18 m ρ c main_v91) (V18 m ρ c main_v90) r o

/-- A value's normalisation by the kernel. -/
def knorm {N : ℕ} (Y : Fin 131072 → Fin N → EReal) (g b : EReal) (r : Fin 131072) (e : Fin N) : EReal :=
  Y r e * scale (∑ t, ∑ q, Y (tile t q) e) (∑ t, ∑ q, Y (tile t q) e * Y (tile t q) e) g
    + shift (∑ t, ∑ q, Y (tile t q) e) (∑ t, ∑ q, Y (tile t q) e * Y (tile t q) e) g b

/-- A layer's element, when its inputs are known by index. -/
theorem y2_of (x : Vec Ideal S131072x128 .f32) (w : Vec Ideal S128x128 .f32) (d : Vec Ideal S1x128 .f32) (ss : Vec Ideal S2x128 .f32)
    (Y : Fin 131072 → Fin 128 → EReal) (g b : FVec Ideal S128 .f32) (a : FVec Ideal S128x128 .f32) (f : FVec Ideal S128 .f32) (hx : ∀ r e, x (ix2 r e) = Y r e)
    (hw : ∀ e o, w (ix2 e o) = a (ix2 o e)) (hd : ∀ o, d (ix2 0 o) = f (ix1 o))
    (hs : ∀ e, ss (ix2 0 e) = scale (∑ t, ∑ q, Y (tile t q) e) (∑ t, ∑ q, Y (tile t q) e * Y (tile t q) e) (g (ix1 e))
      ∧ ss (ix2 1 e) = shift (∑ t, ∑ q, Y (tile t q) e) (∑ t, ∑ q, Y (tile t q) e * Y (tile t q) e) (g (ix1 e)) (b (ix1 e))) (r : Fin 131072) (o : Fin 128) :
    y2 x w d ss r o = (∑ e, gelu (knorm Y (g (ix1 e)) (b (ix1 e)) r e) * a (ix2 o e)) + f (ix1 o) := by
  unfold y2 knorm
  rw [hd]
  refine congrArg (· + f (ix1 o)) (Finset.sum_congr rfl fun e _ => ?_)
  rw [hx, hw, (hs e).1, (hs e).2]

/-- The second layer in terms of the first. -/
theorem Y2_eq (g b : FVec Ideal S128 .f32) (a : FVec Ideal S128x128 .f32) (f : FVec Ideal S128 .f32) (hg : m ((c : Thread nD τ).loc main_arg4) = g)
    (hb : m ((c : Thread nD τ).loc main_arg5) = b) (ha : m ((c : Thread nD τ).loc main_arg6) = a) (hf : m ((c : Thread nD τ).loc main_arg7) = f)
    (r : Fin 131072) (o : Fin 128) :
    Y2 m ρ c r o = (∑ e, gelu (knorm (Y1 m ρ c) (g (ix1 e)) (b (ix1 e)) r e) * a (ix2 o e)) + f (ix1 o) := by
  refine y2_of _ _ _ _ (Y1 m ρ c) g b a f (fun r e => ?_) (fun e o => ?_) (fun o => ?_) (fun e => ?_) r o
  · exact congrFun ((W16_of m ρ c main_v50_0 (by decide +kernel)).trans ((W15_arr m ρ c 4).trans (arr1_4 (V14 m ρ) c))) (ix2 r e)
  · refine (congrFun ((W16_of m ρ c main_v46 (by decide +kernel)).trans (W15_of m ρ c main_v46 (by decide +kernel))) (ix2 e o)).trans ?_
    refine (k46 (W13 m ρ c) _ _).trans ?_
    exact congrFun ((W13_args m ρ c main_arg6 (by decide +kernel)).trans ha) _
  · refine (bias2 (W15 m ρ c) o).trans ?_
    exact congrFun ((W15_args m ρ c main_arg7 (by decide +kernel)).trans hf) _
  · exact scale2 (W15 m ρ c) _ _ g b ((W15_arr m ρ c 5).trans (arr1_5 (V14 m ρ) c)) ((W15_arr m ρ c 6).trans (arr1_6 (V14 m ρ) c))
      ((W15_args m ρ c main_arg4 (by decide +kernel)).trans hg) ((W15_args m ρ c main_arg5 (by decide +kernel)).trans hb) e

/-- A layer's element, when its inputs are known by index. -/
theorem y3_of (x : Vec Ideal S131072x128 .f32) (w : Vec Ideal S128x256 .f32) (d : Vec Ideal S1x256 .f32) (ss : Vec Ideal S2x128 .f32)
    (Y : Fin 131072 → Fin 128 → EReal) (g b : FVec Ideal S128 .f32) (a : FVec Ideal S256x128 .f32) (f : FVec Ideal S256 .f32) (hx : ∀ r e, x (ix2 r e) = Y r e)
    (hw : ∀ e o, w (ix2 e o) = a (ix2 o e)) (hd : ∀ o, d (ix2 0 o) = f (ix1 o))
    (hs : ∀ e, ss (ix2 0 e) = scale (∑ t, ∑ q, Y (tile t q) e) (∑ t, ∑ q, Y (tile t q) e * Y (tile t q) e) (g (ix1 e))
      ∧ ss (ix2 1 e) = shift (∑ t, ∑ q, Y (tile t q) e) (∑ t, ∑ q, Y (tile t q) e * Y (tile t q) e) (g (ix1 e)) (b (ix1 e))) (r : Fin 131072) (o : Fin 256) :
    y3 x w d ss r o = (∑ e, gelu (knorm Y (g (ix1 e)) (b (ix1 e)) r e) * a (ix2 o e)) + f (ix1 o) := by
  unfold y3 knorm
  rw [hd]
  refine congrArg (· + f (ix1 o)) (Finset.sum_congr rfl fun e _ => ?_)
  rw [hx, hw, (hs e).1, (hs e).2]

/-- The third layer in terms of the second. -/
theorem Y3_eq (g b : FVec Ideal S128 .f32) (a : FVec Ideal S256x128 .f32) (f : FVec Ideal S256 .f32) (hg : m ((c : Thread nD τ).loc main_arg8) = g)
    (hb : m ((c : Thread nD τ).loc main_arg9) = b) (ha : m ((c : Thread nD τ).loc main_arg10) = a) (hf : m ((c : Thread nD τ).loc main_arg11) = f)
    (r : Fin 131072) (o : Fin 256) :
    Y3 m ρ c r o = (∑ e, gelu (knorm (Y2 m ρ c) (g (ix1 e)) (b (ix1 e)) r e) * a (ix2 o e)) + f (ix1 o) := by
  refine y3_of _ _ _ _ (Y2 m ρ c) g b a f (fun r e => ?_) (fun e o => ?_) (fun o => ?_) (fun e => ?_) r o
  · exact congrFun ((W18_of m ρ c main_v71_0 (by decide +kernel)).trans ((W17_arr m ρ c 4).trans (arr2_4 (V16 m ρ) c))) (ix2 r e)
  · refine (congrFun ((W18_of m ρ c main_v47 (by decide +kernel)).trans ((W17_of m ρ c main_v47 (by decide +kernel)).trans ((W16_of m ρ c main_v47 (by decide +kernel)).trans (W15_of m ρ c main_v47 (by decide +kernel))))) (ix2 e o)).trans ?_
    refine (k47 (W13 m ρ c) _ _).trans ?_
    exact congrFun ((W13_args m ρ c main_arg10 (by decide +kernel)).trans ha) _
  · refine (bias3 (W17 m ρ c) o).trans ?_
    exact congrFun ((W17_args m ρ c main_arg11 (by decide +kernel)).trans hf) _
  · exact scale3 (W17 m ρ c) _ _ g b ((W17_arr m ρ c 5).trans (arr2_5 (V16 m ρ) c)) ((W17_arr m ρ c 6).trans (arr2_6 (V16 m ρ) c))
      ((W17_args m ρ c main_arg8 (by decide +kernel)).trans hg) ((W17_args m ρ c main_arg9 (by decide +kernel)).trans hb) e

/-- The last call's maximum, when its inputs are known by index. -/
theorem top_of (x : Vec Ideal S131072x256 .f32) (ss : Vec Ideal S2x256 .f32) (Y : Fin 131072 → Fin 256 → EReal) (g b : FVec Ideal S256 .f32)
    (hx : ∀ r e, x (ix2 r e) = Y r e)
    (hs : ∀ e, ss (ix2 0 e) = scale (∑ t, ∑ q, Y (tile t q) e) (∑ t, ∑ q, Y (tile t q) e * Y (tile t q) e) (g (ix1 e))
      ∧ ss (ix2 1 e) = shift (∑ t, ∑ q, Y (tile t q) e) (∑ t, ∑ q, Y (tile t q) e * Y (tile t q) e) (g (ix1 e)) (b (ix1 e))) (p : Fin 4096) (o : Fin 256) :
    top (R := 4096) x ss p o = Finset.fold max (Ideal.ofBits .f32 0xFF800000#32 : EReal) (fun k : Fin 32 => gelu (knorm Y (g (ix1 o)) (b (ix1 o)) (row p k) o)) Finset.univ := by
  unfold top knorm
  refine congrArg (fun f => Finset.fold max (Ideal.ofBits .f32 0xFF800000#32 : EReal) f Finset.univ) (funext fun k => congrArg gelu ?_)
  rw [(hs o).1, (hs o).2]
  exact congrArg (fun z : EReal => z * _ + _) (hx _ o)

/-- The kernel's second result. -/
theorem kernel_result (g b : FVec Ideal S256 .f32) (hg : m ((c : Thread nD τ).loc main_arg12) = g) (hb : m ((c : Thread nD τ).loc main_arg13) = b)
    (a : Fin 8) (s : Fin 512) (o : Fin 256) :
    W22 m ρ c (Proc.devRef .tc main_v113) (ix3 a s o)
      = Finset.fold max (Ideal.ofBits .f32 0xFF800000#32 : EReal) (fun k : Fin 32 => gelu (knorm (Y3 m ρ c) (g (ix1 o)) (b (ix1 o)) (row ⟨a * 512 + s, by omega⟩ k) o)) Finset.univ := by
  refine (result (W21 m ρ c) a s o _ ((W21_arr m ρ c 2).trans (arr4_2 (V20 m ρ) c))).trans ?_
  refine top_of _ _ (Y3 m ρ c) g b (fun r e => ?_) (fun e => ?_) ⟨a * 512 + s, by omega⟩ o
  · exact congrFun ((W20_of m ρ c main_v92_0 (by decide +kernel)).trans ((W19_arr m ρ c 4).trans (arr3_4 (V18 m ρ) c))) (ix2 r e)
  · exact scale4 (W19 m ρ c) _ _ g b ((W19_arr m ρ c 5).trans (arr3_5 (V18 m ρ) c)) ((W19_arr m ρ c 6).trans (arr3_6 (V18 m ρ) c))
      ((W19_args m ρ c main_arg12 (by decide +kernel)).trans hg) ((W19_args m ρ c main_arg13 (by decide +kernel)).trans hb) e

end Kernel

section Reference
open Cert.ReferenceIdeal

variable (X : Valuation τ sig (Elt Ideal))

/-- The reference's layer `v80` from `v49`. -/
theorem second (g b : FVec Ideal S128 .f32) (a : FVec Ideal S128x128 .f32) (f : FVec Ideal S128 .f32) (hg : ∀ k, postAt X k (Proc.devRef .tc main_arg4) = g)
    (hb : ∀ k, postAt X k (Proc.devRef .tc main_arg5) = b) (ha : ∀ k, postAt X k (Proc.devRef .tc main_arg6) = a) (hf : ∀ k, postAt X k (Proc.devRef .tc main_arg7) = f)
    (y : FVec Ideal S4096x32x128 .f32) (hy : postAt X 14 (Proc.devRef .tc main_v49) = y) (p : Fin 4096) (k : Fin 32) (o : Fin 128) :
    postAt X 16 (Proc.devRef .tc main_v80) (ix3 p k o)
      = (∑ e : Fin 128, geluC (normal (y (ix3 p k e)) (mean fun p k => y (ix3 p k e)) (var fun p k => y (ix3 p k e)) (g (ix1 e)) (b (ix1 e))) * a (ix2 o e)) + f (ix1 o) := by
  refine (layer16 (postAt X 15) y _ _ a g b f ((postAt_keep X 14 1 main_v49 (by decide +kernel)).trans hy) rfl rfl (hg 15) (hb 15) (ha 15) (hf 15) p k o).trans ?_
  refine congrArg (· + f (ix1 o)) (Finset.sum_congr rfl fun e _ => ?_)
  have e1 : postAt X 15 (Proc.devRef .tc main_v52) (ix1 e) = mean (fun p k => y (ix3 p k e)) :=
    (congrFun (postAt_keep X 14 1 main_v52 (by decide +kernel)) (ix1 e)).trans (mean14 (postAt X 13) y hy e)
  have e2 : postAt X 15 (Proc.devRef .tc main_v53) (ix1 e) = var (fun p k => y (ix3 p k e)) :=
    var14 (postAt X 14) y hy (steps14 (postAt X 13)) e
  rw [e1, e2]

/-- The reference's layer `v111` from `v80`. -/
theorem third (g b : FVec Ideal S128 .f32) (a : FVec Ideal S256x128 .f32) (f : FVec Ideal S256 .f32) (hg : ∀ k, postAt X k (Proc.devRef .tc main_arg8) = g)
    (hb : ∀ k, postAt X k (Proc.devRef .tc main_arg9) = b) (ha : ∀ k, postAt X k (Proc.devRef .tc main_arg10) = a) (hf : ∀ k, postAt X k (Proc.devRef .tc main_arg11) = f)
    (y : FVec Ideal S4096x32x128 .f32) (hy : postAt X 16 (Proc.devRef .tc main_v80) = y) (p : Fin 4096) (k : Fin 32) (o : Fin 256) :
    postAt X 19 (Proc.devRef .tc main_v111) (ix3 p k o)
      = (∑ e : Fin 128, geluC (normal (y (ix3 p k e)) (mean fun p k => y (ix3 p k e)) (var fun p k => y (ix3 p k e)) (g (ix1 e)) (b (ix1 e))) * a (ix2 o e)) + f (ix1 o) := by
  refine (layer18 (postAt X 17) y _ _ a g b f ((postAt_keep X 16 1 main_v80 (by decide +kernel)).trans hy) rfl rfl (hg 17) (hb 17) (ha 17) (hf 17) p k o).trans ?_
  refine congrArg (· + f (ix1 o)) (Finset.sum_congr rfl fun e _ => ?_)
  have e1 : postAt X 17 (Proc.devRef .tc main_v83) (ix1 e) = mean (fun p k => y (ix3 p k e)) :=
    (congrFun (postAt_keep X 16 1 main_v83 (by decide +kernel)) (ix1 e)).trans (mean16 (postAt X 15) y hy e)
  have e2 : postAt X 17 (Proc.devRef .tc main_v84) (ix1 e) = var (fun p k => y (ix3 p k e)) :=
    var16 (postAt X 16) y hy (steps16 (postAt X 15)) e
  rw [e1, e2]

/-- The reference's second result. -/
theorem reference_result (g b : FVec Ideal S256 .f32) (hg : ∀ k, postAt X k (Proc.devRef .tc main_arg12) = g) (hb : ∀ k, postAt X k (Proc.devRef .tc main_arg13) = b)
    (y : FVec Ideal S4096x32x256 .f32) (hy : postAt X 19 (Proc.devRef .tc main_v111) = y) (a : Fin 8) (s : Fin 512) (o : Fin 256) :
    postAt X 21 (Proc.devRef .tc main_v139) (ix3 a s o)
      = Finset.fold max (Ideal.ofBits .f32 0xFF800000#32 : EReal) (fun k : Fin 32 =>
          geluC (normal (y (ix3 ⟨a * 512 + s, by omega⟩ k o)) (mean fun p k => y (ix3 p k o)) (var fun p k => y (ix3 p k o)) (g (ix1 o)) (b (ix1 o)))) Finset.univ := by
  refine (layer20 (postAt X 20) y _ _ g b ((postAt_keep X 19 1 main_v111 (by decide +kernel)).trans hy) rfl rfl (hg 20) (hb 20) a s o).trans ?_
  have e1 : postAt X 20 (Proc.devRef .tc main_v114) (ix1 o) = mean (fun p k => y (ix3 p k o)) :=
    (congrFun (postAt_keep X 19 1 main_v114 (by decide +kernel)) (ix1 o)).trans (mean19 (postAt X 18) y hy o)
  have e2 : postAt X 20 (Proc.devRef .tc main_v115) (ix1 o) = var (fun p k => y (ix3 p k o)) :=
    var19 (postAt X 19) y hy (steps19 (postAt X 18)) o
  rw [e1, e2]

end Reference

end Cert.Deep

end
-- ==== Proof.Pre.lean ====
/-
  The precondition, decoded: each of the three arrays it names holds only real values.
-/
module

public import proofs.«01_k».proof.Proof.Norm
public import proofs.«01_k».proof.Proof.Gen.Pre_finite
public import Idealize.ShloMosaic.Lib.ReduceAll
public import Idealize.ShloMosaic.Lib.StableHlo.ReadAt

@[expose] public section

set_option maxRecDepth 16384

noncomputable section

namespace Cert.PreFinite

open Cert.Pre_finite Cert.Pre_finite.Gen Idealize.ShloMosaic Cert.Norm

/-- A value whose magnitude is below the infinity is real. -/
theorem re_of_abs {x : EReal} (h : BitVec.ofBool (decide (max x (-x) < Ideal.ofBits .f32 0x7F800000#32)) = 1#1) : Re x := by
  have e : (Ideal.ofBits .f32 0x7F800000#32 : EReal) = ⊤ := by simp [Ideal.ofBits, Ideal.ieee]
  rw [e] at h
  induction x with
  | coe r => exact ⟨r, rfl⟩
  | bot => exact absurd h (by simp)
  | top => exact absurd h (by simp)

/-- A single value has one index. -/
instance : Subsingleton S_.Idx := ⟨fun a b => funext fun i => i.elim0⟩

/-- An array whose every magnitude compares below the infinity holds only reals. -/
theorem re_of_all {s : Shape} {axes : List (Fin s.rank)} (x : FVec Ideal s .f32) (b : S_.BroadcastsInDim s (![] : Fin 0 → Fin s.rank))
    (h : s.ReducesTo axes S_) (e : Host.reduce IntOp.andi (cmpf .olt (Host.absf x) (broadcastInDim s ![] b (constant (F := Ideal) S_ .f32 0x7F800000#32)))
      (constantI S_ 1 1#1) h h_S_ ix0 = 1#1) (i : s.Idx) : Re (x i) :=
  re_of_abs (Host.reduce_andi_all _ _ h h_S_ ix0 e i)

/-- Three single values laid end to end are all ones only when each is. -/
theorem all_of_cat (a0 a1 a2 : IVec S_ 1)
    (h : concatenate S3 0 [⟨S1, broadcastInDim S1 ![] bcast_S_S1 a0⟩, ⟨S1, broadcastInDim S1 ![] bcast_S_S1 a1⟩, ⟨S1, broadcastInDim S1 ![] bcast_S_S1 a2⟩]
      concatenates_S1_S1_S1_S3_d0 = fun _ => 1#1) : a0 ix0 = 1#1 ∧ a1 ix0 = 1#1 ∧ a2 ix0 = 1#1 := by
  have e : ∀ (a : IVec S_ 1) (j : S_.Idx), a j = a ix0 := fun a j => congrArg a (Subsingleton.elim _ _)
  exact ⟨(e a0 _).symm.trans (congrFun h (ix1 0)), (e a1 _).symm.trans (congrFun h (ix1 1)), (e a2 _).symm.trans (congrFun h (ix1 2))⟩

/-- What the precondition says of its arrays. -/
theorem reals (x0 : FVec Ideal S8x8192x3 .f32) (x1 : FVec Ideal S8x8192x128 .f32) (x2 : FVec Ideal S128x131 .f32) (x3 x4 x5 : FVec Ideal S128 .f32)
    (x6 : FVec Ideal S128x128 .f32) (x7 x8 x9 : FVec Ideal S128 .f32) (x10 : FVec Ideal S256x128 .f32) (x11 x12 x13 : FVec Ideal S256 .f32)
    (h : fn (F := Ideal) x0 x1 x2 x3 x4 x5 x6 x7 x8 x9 x10 x11 x12 x13 = fun _ => 1#1) :
    (∀ i, Re (x4 i)) ∧ (∀ i, Re (x8 i)) ∧ (∀ i, Re (x12 i)) := by
  obtain ⟨h4, h8, h12⟩ := all_of_cat _ _ _ h
  exact ⟨re_of_all x4 _ _ h4, re_of_all x8 _ _ h8, re_of_all x12 _ _ h12⟩

end Cert.PreFinite

end
-- ==== Proof.Main.lean ====
/-
  The two programs' results are equal.
-/
module

public import proofs.«01_k».proof.Proof.First
public import proofs.«01_k».proof.Proof.Deep
public import proofs.«01_k».proof.Proof.Fps
public import proofs.«01_k».proof.Proof.Pre

@[expose] public section

set_option maxRecDepth 16384

noncomputable section

namespace Cert.Main

open Idealize.ShloMosaic Idealize.ShloMosaic.StableHlo Idealize.ShloMosaic.TcCoe Idealize.SL.Sem Cert.Norm Cert.Layer Cert.RefRun Cert.Deep
open Cert.KernelIdeal.Gen

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)
  (X : Valuation Cert.ReferenceIdeal.τ Cert.ReferenceIdeal.sig (Elt Ideal))

variable (a0 : FVec Ideal Cert.KernelIdeal.S8x8192x3 .f32)
  (a1 : FVec Ideal Cert.KernelIdeal.S8x8192x128 .f32)
  (a2 : FVec Ideal Cert.KernelIdeal.S128x131 .f32)
  (a3 : FVec Ideal Cert.KernelIdeal.S128 .f32)
  (a4 : FVec Ideal Cert.KernelIdeal.S128 .f32)
  (a5 : FVec Ideal Cert.KernelIdeal.S128 .f32)
  (a6 : FVec Ideal Cert.KernelIdeal.S128x128 .f32)
  (a7 : FVec Ideal Cert.KernelIdeal.S128 .f32)
  (a8 : FVec Ideal Cert.KernelIdeal.S128 .f32)
  (a9 : FVec Ideal Cert.KernelIdeal.S128 .f32)
  (a10 : FVec Ideal Cert.KernelIdeal.S256x128 .f32)
  (a11 : FVec Ideal Cert.KernelIdeal.S256 .f32)
  (a12 : FVec Ideal Cert.KernelIdeal.S256 .f32)
  (a13 : FVec Ideal Cert.KernelIdeal.S256 .f32)
  (pt : FVec Ideal Cert.KernelIdeal.S8x512x3 .f32)

/-- Layer 2 agrees when the layer before does. -/
theorem second_eq (h4 : m ((c : Thread Cert.KernelIdeal.nD Cert.KernelIdeal.τ).loc Cert.KernelIdeal.main_arg4) = a4) (h4' : ∀ k, postAt X k (Proc.devRef .tc Cert.ReferenceIdeal.main_arg4) = a4)
    (h5 : m ((c : Thread Cert.KernelIdeal.nD Cert.KernelIdeal.τ).loc Cert.KernelIdeal.main_arg5) = a5) (h5' : ∀ k, postAt X k (Proc.devRef .tc Cert.ReferenceIdeal.main_arg5) = a5)
    (h6 : m ((c : Thread Cert.KernelIdeal.nD Cert.KernelIdeal.τ).loc Cert.KernelIdeal.main_arg6) = a6) (h6' : ∀ k, postAt X k (Proc.devRef .tc Cert.ReferenceIdeal.main_arg6) = a6)
    (h7 : m ((c : Thread Cert.KernelIdeal.nD Cert.KernelIdeal.τ).loc Cert.KernelIdeal.main_arg7) = a7) (h7' : ∀ k, postAt X k (Proc.devRef .tc Cert.ReferenceIdeal.main_arg7) = a7)
    (r4 : ∀ i, Re (a4 i)) (y : FVec Ideal Cert.ReferenceIdeal.S4096x32x128 .f32)
    (hy : postAt X 14 (Proc.devRef .tc Cert.ReferenceIdeal.main_v49) = y) (hv : ∀ p k e, y (ix3 p k e) = Y1 m ρ c (row p k) e)
    (p : Fin 4096) (k : Fin 32) (o : Fin 128) :
    postAt X 16 (Proc.devRef .tc Cert.ReferenceIdeal.main_v80) (ix3 p k o) = Y2 m ρ c (row p k) o := by
  have h := next (Y1 m ρ c) (fun p k e => y (ix3 p k e)) hv (fun e => a4 (ix1 e)) (fun e => a5 (ix1 e)) (fun e => r4 _)
    (fun e o => a6 (ix2 o e)) (fun o => a7 (ix1 o)) p k o
  have hK := (Y2_eq m ρ c a4 a5 a6 a7 h4 h5 h6 h7 (row p k) o).trans h
  exact (second X a4 a5 a6 a7 h4' h5' h6' h7' y hy p k o).trans hK.symm

/-- Layer 3 agrees when the layer before does. -/
theorem third_eq (h8 : m ((c : Thread Cert.KernelIdeal.nD Cert.KernelIdeal.τ).loc Cert.KernelIdeal.main_arg8) = a8) (h8' : ∀ k, postAt X k (Proc.devRef .tc Cert.ReferenceIdeal.main_arg8) = a8)
    (h9 : m ((c : Thread Cert.KernelIdeal.nD Cert.KernelIdeal.τ).loc Cert.KernelIdeal.main_arg9) = a9) (h9' : ∀ k, postAt X k (Proc.devRef .tc Cert.ReferenceIdeal.main_arg9) = a9)
    (h10 : m ((c : Thread Cert.KernelIdeal.nD Cert.KernelIdeal.τ).loc Cert.KernelIdeal.main_arg10) = a10) (h10' : ∀ k, postAt X k (Proc.devRef .tc Cert.ReferenceIdeal.main_arg10) = a10)
    (h11 : m ((c : Thread Cert.KernelIdeal.nD Cert.KernelIdeal.τ).loc Cert.KernelIdeal.main_arg11) = a11) (h11' : ∀ k, postAt X k (Proc.devRef .tc Cert.ReferenceIdeal.main_arg11) = a11)
    (r8 : ∀ i, Re (a8 i)) (y : FVec Ideal Cert.ReferenceIdeal.S4096x32x128 .f32)
    (hy : postAt X 16 (Proc.devRef .tc Cert.ReferenceIdeal.main_v80) = y) (hv : ∀ p k e, y (ix3 p k e) = Y2 m ρ c (row p k) e)
    (p : Fin 4096) (k : Fin 32) (o : Fin 256) :
    postAt X 19 (Proc.devRef .tc Cert.ReferenceIdeal.main_v111) (ix3 p k o) = Y3 m ρ c (row p k) o := by
  have h := next (Y2 m ρ c) (fun p k e => y (ix3 p k e)) hv (fun e => a8 (ix1 e)) (fun e => a9 (ix1 e)) (fun e => r8 _)
    (fun e o => a10 (ix2 o e)) (fun o => a11 (ix1 o)) p k o
  have hK := (Y3_eq m ρ c a8 a9 a10 a11 h8 h9 h10 h11 (row p k) o).trans h
  exact (third X a8 a9 a10 a11 h8' h9' h10' h11' y hy p k o).trans hK.symm

/-- The second results agree when the third layers do. -/
theorem result_eq (h12 : m ((c : Thread Cert.KernelIdeal.nD Cert.KernelIdeal.τ).loc Cert.KernelIdeal.main_arg12) = a12) (h12' : ∀ k, postAt X k (Proc.devRef .tc Cert.ReferenceIdeal.main_arg12) = a12)
    (h13 : m ((c : Thread Cert.KernelIdeal.nD Cert.KernelIdeal.τ).loc Cert.KernelIdeal.main_arg13) = a13) (h13' : ∀ k, postAt X k (Proc.devRef .tc Cert.ReferenceIdeal.main_arg13) = a13)
    (r12 : ∀ i, Re (a12 i)) (y : FVec Ideal Cert.ReferenceIdeal.S4096x32x256 .f32)
    (hy : postAt X 19 (Proc.devRef .tc Cert.ReferenceIdeal.main_v111) = y) (hv : ∀ p k e, y (ix3 p k e) = Y3 m ρ c (row p k) e)
    (a : Fin 8) (s : Fin 512) (o : Fin 256) :
    W22 m ρ c (Proc.devRef .tc Cert.KernelIdeal.main_v113) (ix3 a s o) = postAt X 21 (Proc.devRef .tc Cert.ReferenceIdeal.main_v139) (ix3 a s o) := by
  refine (kernel_result m ρ c a12 a13 h12 h13 a s o).trans (Eq.trans ?_ (reference_result X a12 a13 h12' h13' y hy a s o).symm)
  refine congrArg (fun f => Finset.fold max (Ideal.ofBits .f32 0xFF800000#32 : EReal) f Finset.univ) (funext fun k => ?_)
  rw [geluC_eq]
  exact congrArg gelu (column (fun r => Y3 m ρ c r o) (fun p k => y (ix3 p k o)) (fun p k => hv p k o) (a12 (ix1 o)) (a13 (ix1 o)) (r12 _) _ k)

/-- The second results agree when the sampled points do. -/
theorem feats_eq (h0 : m ((c : Thread Cert.KernelIdeal.nD Cert.KernelIdeal.τ).loc Cert.KernelIdeal.main_arg0) = a0) (h0' : ∀ k, postAt X k (Proc.devRef .tc Cert.ReferenceIdeal.main_arg0) = a0)
    (h1 : m ((c : Thread Cert.KernelIdeal.nD Cert.KernelIdeal.τ).loc Cert.KernelIdeal.main_arg1) = a1) (h1' : ∀ k, postAt X k (Proc.devRef .tc Cert.ReferenceIdeal.main_arg1) = a1)
    (h2 : m ((c : Thread Cert.KernelIdeal.nD Cert.KernelIdeal.τ).loc Cert.KernelIdeal.main_arg2) = a2) (h2' : ∀ k, postAt X k (Proc.devRef .tc Cert.ReferenceIdeal.main_arg2) = a2)
    (h3 : m ((c : Thread Cert.KernelIdeal.nD Cert.KernelIdeal.τ).loc Cert.KernelIdeal.main_arg3) = a3) (h3' : ∀ k, postAt X k (Proc.devRef .tc Cert.ReferenceIdeal.main_arg3) = a3)
    (h4 : m ((c : Thread Cert.KernelIdeal.nD Cert.KernelIdeal.τ).loc Cert.KernelIdeal.main_arg4) = a4) (h4' : ∀ k, postAt X k (Proc.devRef .tc Cert.ReferenceIdeal.main_arg4) = a4)
    (h5 : m ((c : Thread Cert.KernelIdeal.nD Cert.KernelIdeal.τ).loc Cert.KernelIdeal.main_arg5) = a5) (h5' : ∀ k, postAt X k (Proc.devRef .tc Cert.ReferenceIdeal.main_arg5) = a5)
    (h6 : m ((c : Thread Cert.KernelIdeal.nD Cert.KernelIdeal.τ).loc Cert.KernelIdeal.main_arg6) = a6) (h6' : ∀ k, postAt X k (Proc.devRef .tc Cert.ReferenceIdeal.main_arg6) = a6)
    (h7 : m ((c : Thread Cert.KernelIdeal.nD Cert.KernelIdeal.τ).loc Cert.KernelIdeal.main_arg7) = a7) (h7' : ∀ k, postAt X k (Proc.devRef .tc Cert.ReferenceIdeal.main_arg7) = a7)
    (h8 : m ((c : Thread Cert.KernelIdeal.nD Cert.KernelIdeal.τ).loc Cert.KernelIdeal.main_arg8) = a8) (h8' : ∀ k, postAt X k (Proc.devRef .tc Cert.ReferenceIdeal.main_arg8) = a8)
    (h9 : m ((c : Thread Cert.KernelIdeal.nD Cert.KernelIdeal.τ).loc Cert.KernelIdeal.main_arg9) = a9) (h9' : ∀ k, postAt X k (Proc.devRef .tc Cert.ReferenceIdeal.main_arg9) = a9)
    (h10 : m ((c : Thread Cert.KernelIdeal.nD Cert.KernelIdeal.τ).loc Cert.KernelIdeal.main_arg10) = a10) (h10' : ∀ k, postAt X k (Proc.devRef .tc Cert.ReferenceIdeal.main_arg10) = a10)
    (h11 : m ((c : Thread Cert.KernelIdeal.nD Cert.KernelIdeal.τ).loc Cert.KernelIdeal.main_arg11) = a11) (h11' : ∀ k, postAt X k (Proc.devRef .tc Cert.ReferenceIdeal.main_arg11) = a11)
    (h12 : m ((c : Thread Cert.KernelIdeal.nD Cert.KernelIdeal.τ).loc Cert.KernelIdeal.main_arg12) = a12) (h12' : ∀ k, postAt X k (Proc.devRef .tc Cert.ReferenceIdeal.main_arg12) = a12)
    (h13 : m ((c : Thread Cert.KernelIdeal.nD Cert.KernelIdeal.τ).loc Cert.KernelIdeal.main_arg13) = a13) (h13' : ∀ k, postAt X k (Proc.devRef .tc Cert.ReferenceIdeal.main_arg13) = a13)
    (r4 : ∀ i, Re (a4 i)) (r8 : ∀ i, Re (a8 i)) (r12 : ∀ i, Re (a12 i))
    (hp : W3 m ρ c (Proc.devRef .tc Cert.KernelIdeal.main_v2) = pt) (hp' : postAt X 2 (Proc.devRef .tc Cert.ReferenceIdeal.main_v6) = pt)
    (a : Fin 8) (s : Fin 512) (o : Fin 256) :
    W22 m ρ c (Proc.devRef .tc Cert.KernelIdeal.main_v113) (ix3 a s o) = postAt X 21 (Proc.devRef .tc Cert.ReferenceIdeal.main_v139) (ix3 a s o) := by
  have e1 := First.first m ρ c X a0 a1 a2 a3 pt h0 h0' h1 h1' h2 h2' h3 h3' hp hp'
  have e2 := second_eq m ρ c X a4 a5 a6 a7 h4 h4' h5 h5' h6 h6' h7 h7' r4 _ rfl e1
  have e3 := third_eq m ρ c X a8 a9 a10 a11 h8 h8' h9 h9' h10 h10' h11 h11' r8 _ rfl e2
  exact result_eq m ρ c X a12 a13 h12 h12' h13 h13' r12 _ rfl e3 a s o

/-- The sampled points agree. -/
theorem points_eq (m' : (ℓ : Loc Cert.ReferenceIdeal.nD Cert.ReferenceIdeal.τ Cert.ReferenceIdeal.sig) → Buf (Elt Ideal) ℓ)
    (h0 : m ((c : Thread Cert.KernelIdeal.nD Cert.KernelIdeal.τ).loc Cert.KernelIdeal.main_arg0) = a0) (h0' : m' ((c : Thread Cert.ReferenceIdeal.nD Cert.ReferenceIdeal.τ).loc Cert.ReferenceIdeal.main_arg0) = a0)
    (b : Fin 8) (j : Fin 512) (e : Fin 3) :
    W3 m ρ c (Proc.devRef .tc Cert.KernelIdeal.main_v2) (ix3 b j e) = postAt (looped m' c) 2 (Proc.devRef .tc Cert.ReferenceIdeal.main_v6) (ix3 b j e) := by
  obtain ⟨g, hg⟩ := Fps.points m' c (V1 m ρ c Cert.KernelIdeal.main_v0) fun e b n =>
    (Fps.transposed m ρ c e b n).trans (congrFun (h0.trans h0'.symm) (ix3 b n e))
  have hk := (Fps.kernel_xyz m ρ c b j e).trans (hg b j e).2
  exact hk.trans (hg b j e).1.symm

/-- The sampled points stay as they were computed to the end. -/
theorem kept : W22 m ρ c (Proc.devRef .tc Cert.KernelIdeal.main_v2) = W3 m ρ c (Proc.devRef .tc Cert.KernelIdeal.main_v2) :=
  (W22_of m ρ c Cert.KernelIdeal.main_v2 (by decide +kernel)).trans <|
  (W21_of m ρ c Cert.KernelIdeal.main_v2 (by decide +kernel)).trans <|
  (W20_of m ρ c Cert.KernelIdeal.main_v2 (by decide +kernel)).trans <|
  (W19_of m ρ c Cert.KernelIdeal.main_v2 (by decide +kernel)).trans <|
  (W18_of m ρ c Cert.KernelIdeal.main_v2 (by decide +kernel)).trans <|
  (W17_of m ρ c Cert.KernelIdeal.main_v2 (by decide +kernel)).trans <|
  (W16_of m ρ c Cert.KernelIdeal.main_v2 (by decide +kernel)).trans <|
  (W15_of m ρ c Cert.KernelIdeal.main_v2 (by decide +kernel)).trans <|
  (W14_of m ρ c Cert.KernelIdeal.main_v2 (by decide +kernel)).trans <|
  (W13_of m ρ c Cert.KernelIdeal.main_v2 (by decide +kernel)).trans <|
  (W12_of m ρ c Cert.KernelIdeal.main_v2 (by decide +kernel)).trans <|
  (W11_of m ρ c Cert.KernelIdeal.main_v2 (by decide +kernel)).trans <|
  (W10_of m ρ c Cert.KernelIdeal.main_v2 (by decide +kernel)).trans <|
  (W9_of m ρ c Cert.KernelIdeal.main_v2 (by decide +kernel)).trans <|
  (W8_of m ρ c Cert.KernelIdeal.main_v2 (by decide +kernel)).trans <|
  (W7_of m ρ c Cert.KernelIdeal.main_v2 (by decide +kernel)).trans <|
  (W6_of m ρ c Cert.KernelIdeal.main_v2 (by decide +kernel)).trans <|
  (W5_of m ρ c Cert.KernelIdeal.main_v2 (by decide +kernel)).trans <|
  W4_of m ρ c Cert.KernelIdeal.main_v2 (by decide +kernel)

/-- Both results agree, from equal arguments whose three gains are real. -/
theorem values (m' : (ℓ : Loc Cert.ReferenceIdeal.nD Cert.ReferenceIdeal.τ Cert.ReferenceIdeal.sig) → Buf (Elt Ideal) ℓ)
    (hf : Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) = fun _ => 1#1)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    postAt (looped m' c) 21 (Proc.devRef .tc Cert.ReferenceIdeal.main_v6) = W22 m ρ c (Proc.devRef .tc Cert.KernelIdeal.main_v2)
      ∧ postAt (looped m' c) 21 (Proc.devRef .tc Cert.ReferenceIdeal.main_v139) = W22 m ρ c (Proc.devRef .tc Cert.KernelIdeal.main_v113) := by
  obtain ⟨r4, r8, r12⟩ := PreFinite.reals _ _ _ _ _ _ _ _ _ _ _ _ _ _ hf
  have hp := points_eq m ρ c _ m' rfl e0
  have hx : postAt (looped m' c) 2 (Proc.devRef .tc Cert.ReferenceIdeal.main_v6) = W3 m ρ c (Proc.devRef .tc Cert.KernelIdeal.main_v2) := by
    funext i
    rw [eq_ix3 i]
    exact (hp (i 0) (i 1) (i 2)).symm
  constructor
  · exact (postAt_keep _ 2 19 Cert.ReferenceIdeal.main_v6 (by decide +kernel)).trans (hx.trans (kept m ρ c).symm)
  · funext i
    rw [eq_ix3 i]
    refine (feats_eq m ρ c (looped m' c) _ _ _ _ _ _ _ _ _ _ _ _ _ _ _
      rfl (fun k => (args_postAt m' c k Cert.ReferenceIdeal.main_arg0 (by decide +kernel)).trans e0)
      rfl (fun k => (args_postAt m' c k Cert.ReferenceIdeal.main_arg1 (by decide +kernel)).trans e1)
      rfl (fun k => (args_postAt m' c k Cert.ReferenceIdeal.main_arg2 (by decide +kernel)).trans e2)
      rfl (fun k => (args_postAt m' c k Cert.ReferenceIdeal.main_arg3 (by decide +kernel)).trans e3)
      rfl (fun k => (args_postAt m' c k Cert.ReferenceIdeal.main_arg4 (by decide +kernel)).trans e4)
      rfl (fun k => (args_postAt m' c k Cert.ReferenceIdeal.main_arg5 (by decide +kernel)).trans e5)
      rfl (fun k => (args_postAt m' c k Cert.ReferenceIdeal.main_arg6 (by decide +kernel)).trans e6)
      rfl (fun k => (args_postAt m' c k Cert.ReferenceIdeal.main_arg7 (by decide +kernel)).trans e7)
      rfl (fun k => (args_postAt m' c k Cert.ReferenceIdeal.main_arg8 (by decide +kernel)).trans e8)
      rfl (fun k => (args_postAt m' c k Cert.ReferenceIdeal.main_arg9 (by decide +kernel)).trans e9)
      rfl (fun k => (args_postAt m' c k Cert.ReferenceIdeal.main_arg10 (by decide +kernel)).trans e10)
      rfl (fun k => (args_postAt m' c k Cert.ReferenceIdeal.main_arg11 (by decide +kernel)).trans e11)
      rfl (fun k => (args_postAt m' c k Cert.ReferenceIdeal.main_arg12 (by decide +kernel)).trans e12)
      rfl (fun k => (args_postAt m' c k Cert.ReferenceIdeal.main_arg13 (by decide +kernel)).trans e13)
      r4 r8 r12 rfl hx (i 0) (i 1) (i 2)).symm

end Cert.Main

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.KernelRun
public import proofs.«01_k».proof.Proof.Main
public import Idealize.ShloMosaic.Adequacy
public import Idealize.ShloMosaic.Init

@[expose] public section

noncomputable section

namespace Cert.Proof

open Idealize.ShloMosaic Idealize.SL.Sem Cert.Kernel

/-- The reference runs, leaves its arguments unchanged, and declares no semaphore. -/
theorem frame_reference : Cert.quiescent_ReferenceIdeal := fun m g _ =>
  (θ_run Cert.ReferenceIdeal.defs _ _).mono (fun r h => ⟨fun c => ⟨(h c Cert.ReferenceIdeal.main_arg0 (by decide +kernel)).trans (RefRun.args_postAt m c 21 Cert.ReferenceIdeal.main_arg0 (by decide +kernel)),
      (h c Cert.ReferenceIdeal.main_arg1 (by decide +kernel)).trans (RefRun.args_postAt m c 21 Cert.ReferenceIdeal.main_arg1 (by decide +kernel)),
      (h c Cert.ReferenceIdeal.main_arg2 (by decide +kernel)).trans (RefRun.args_postAt m c 21 Cert.ReferenceIdeal.main_arg2 (by decide +kernel)),
      (h c Cert.ReferenceIdeal.main_arg3 (by decide +kernel)).trans (RefRun.args_postAt m c 21 Cert.ReferenceIdeal.main_arg3 (by decide +kernel)),
      (h c Cert.ReferenceIdeal.main_arg4 (by decide +kernel)).trans (RefRun.args_postAt m c 21 Cert.ReferenceIdeal.main_arg4 (by decide +kernel)),
      (h c Cert.ReferenceIdeal.main_arg5 (by decide +kernel)).trans (RefRun.args_postAt m c 21 Cert.ReferenceIdeal.main_arg5 (by decide +kernel)),
      (h c Cert.ReferenceIdeal.main_arg6 (by decide +kernel)).trans (RefRun.args_postAt m c 21 Cert.ReferenceIdeal.main_arg6 (by decide +kernel)),
      (h c Cert.ReferenceIdeal.main_arg7 (by decide +kernel)).trans (RefRun.args_postAt m c 21 Cert.ReferenceIdeal.main_arg7 (by decide +kernel)),
      (h c Cert.ReferenceIdeal.main_arg8 (by decide +kernel)).trans (RefRun.args_postAt m c 21 Cert.ReferenceIdeal.main_arg8 (by decide +kernel)),
      (h c Cert.ReferenceIdeal.main_arg9 (by decide +kernel)).trans (RefRun.args_postAt m c 21 Cert.ReferenceIdeal.main_arg9 (by decide +kernel)),
      (h c Cert.ReferenceIdeal.main_arg10 (by decide +kernel)).trans (RefRun.args_postAt m c 21 Cert.ReferenceIdeal.main_arg10 (by decide +kernel)),
      (h c Cert.ReferenceIdeal.main_arg11 (by decide +kernel)).trans (RefRun.args_postAt m c 21 Cert.ReferenceIdeal.main_arg11 (by decide +kernel)),
      (h c Cert.ReferenceIdeal.main_arg12 (by decide +kernel)).trans (RefRun.args_postAt m c 21 Cert.ReferenceIdeal.main_arg12 (by decide +kernel)),
      (h c Cert.ReferenceIdeal.main_arg13 (by decide +kernel)).trans (RefRun.args_postAt m c 21 Cert.ReferenceIdeal.main_arg13 (by decide +kernel))⟩,
    Idealize.ShloMosaic.sem_eq_zero_of_no_sems (by decide) r.2⟩) (RefRun.run_post (F := Ideal) m g)

/-- The kernel and the reference end with equal results, the arguments being finite. -/
theorem algebraic : Cert.algebraic_KernelIdeal_ReferenceIdeal_pre_finite := fun m g m' g' hf he =>
  have hv := fun c : Dev Cert.KernelIdeal.nD =>
    let ⟨e0, e1, e2, e3, e4, e5, e6, e7, e8, e9, e10, e11, e12, e13⟩ := he c
    Main.values m g c m' (hf c) e0 e1 e2 e3 e4 e5 e6 e7 e8 e9 e10 e11 e12 e13
  ⟨fun c => Cert.KernelIdeal.Gen.W22 m g c (Proc.devRef .tc Cert.KernelIdeal.main_v2), fun c => Cert.KernelIdeal.Gen.W22 m g c (Proc.devRef .tc Cert.KernelIdeal.main_v113),
    (θ_run Cert.KernelIdeal.defs _ _).mono (fun r h c => ⟨h c Cert.KernelIdeal.main_v2 (by decide +kernel), h c Cert.KernelIdeal.main_v113 (by decide +kernel),
      (h c Cert.KernelIdeal.main_arg0 (by decide +kernel)).trans (Cert.KernelIdeal.Gen.W22_args m g c Cert.KernelIdeal.main_arg0 (by decide +kernel)),
      (h c Cert.KernelIdeal.main_arg1 (by decide +kernel)).trans (Cert.KernelIdeal.Gen.W22_args m g c Cert.KernelIdeal.main_arg1 (by decide +kernel)),
      (h c Cert.KernelIdeal.main_arg2 (by decide +kernel)).trans (Cert.KernelIdeal.Gen.W22_args m g c Cert.KernelIdeal.main_arg2 (by decide +kernel)),
      (h c Cert.KernelIdeal.main_arg3 (by decide +kernel)).trans (Cert.KernelIdeal.Gen.W22_args m g c Cert.KernelIdeal.main_arg3 (by decide +kernel)),
      (h c Cert.KernelIdeal.main_arg4 (by decide +kernel)).trans (Cert.KernelIdeal.Gen.W22_args m g c Cert.KernelIdeal.main_arg4 (by decide +kernel)),
      (h c Cert.KernelIdeal.main_arg5 (by decide +kernel)).trans (Cert.KernelIdeal.Gen.W22_args m g c Cert.KernelIdeal.main_arg5 (by decide +kernel)),
      (h c Cert.KernelIdeal.main_arg6 (by decide +kernel)).trans (Cert.KernelIdeal.Gen.W22_args m g c Cert.KernelIdeal.main_arg6 (by decide +kernel)),
      (h c Cert.KernelIdeal.main_arg7 (by decide +kernel)).trans (Cert.KernelIdeal.Gen.W22_args m g c Cert.KernelIdeal.main_arg7 (by decide +kernel)),
      (h c Cert.KernelIdeal.main_arg8 (by decide +kernel)).trans (Cert.KernelIdeal.Gen.W22_args m g c Cert.KernelIdeal.main_arg8 (by decide +kernel)),
      (h c Cert.KernelIdeal.main_arg9 (by decide +kernel)).trans (Cert.KernelIdeal.Gen.W22_args m g c Cert.KernelIdeal.main_arg9 (by decide +kernel)),
      (h c Cert.KernelIdeal.main_arg10 (by decide +kernel)).trans (Cert.KernelIdeal.Gen.W22_args m g c Cert.KernelIdeal.main_arg10 (by decide +kernel)),
      (h c Cert.KernelIdeal.main_arg11 (by decide +kernel)).trans (Cert.KernelIdeal.Gen.W22_args m g c Cert.KernelIdeal.main_arg11 (by decide +kernel)),
      (h c Cert.KernelIdeal.main_arg12 (by decide +kernel)).trans (Cert.KernelIdeal.Gen.W22_args m g c Cert.KernelIdeal.main_arg12 (by decide +kernel)),
      (h c Cert.KernelIdeal.main_arg13 (by decide +kernel)).trans (Cert.KernelIdeal.Gen.W22_args m g c Cert.KernelIdeal.main_arg13 (by decide +kernel))⟩) (KernelRun.run_all (F := Ideal) m g),
    (θ_run Cert.ReferenceIdeal.defs _ _).mono (fun r h c => ⟨(h c Cert.ReferenceIdeal.main_v6 (by decide +kernel)).trans (hv c).1,
      (h c Cert.ReferenceIdeal.main_v139 (by decide +kernel)).trans (hv c).2,
      (h c Cert.ReferenceIdeal.main_arg0 (by decide +kernel)).trans (RefRun.args_postAt m' c 21 Cert.ReferenceIdeal.main_arg0 (by decide +kernel)),
      (h c Cert.ReferenceIdeal.main_arg1 (by decide +kernel)).trans (RefRun.args_postAt m' c 21 Cert.ReferenceIdeal.main_arg1 (by decide +kernel)),
      (h c Cert.ReferenceIdeal.main_arg2 (by decide +kernel)).trans (RefRun.args_postAt m' c 21 Cert.ReferenceIdeal.main_arg2 (by decide +kernel)),
      (h c Cert.ReferenceIdeal.main_arg3 (by decide +kernel)).trans (RefRun.args_postAt m' c 21 Cert.ReferenceIdeal.main_arg3 (by decide +kernel)),
      (h c Cert.ReferenceIdeal.main_arg4 (by decide +kernel)).trans (RefRun.args_postAt m' c 21 Cert.ReferenceIdeal.main_arg4 (by decide +kernel)),
      (h c Cert.ReferenceIdeal.main_arg5 (by decide +kernel)).trans (RefRun.args_postAt m' c 21 Cert.ReferenceIdeal.main_arg5 (by decide +kernel)),
      (h c Cert.ReferenceIdeal.main_arg6 (by decide +kernel)).trans (RefRun.args_postAt m' c 21 Cert.ReferenceIdeal.main_arg6 (by decide +kernel)),
      (h c Cert.ReferenceIdeal.main_arg7 (by decide +kernel)).trans (RefRun.args_postAt m' c 21 Cert.ReferenceIdeal.main_arg7 (by decide +kernel)),
      (h c Cert.ReferenceIdeal.main_arg8 (by decide +kernel)).trans (RefRun.args_postAt m' c 21 Cert.ReferenceIdeal.main_arg8 (by decide +kernel)),
      (h c Cert.ReferenceIdeal.main_arg9 (by decide +kernel)).trans (RefRun.args_postAt m' c 21 Cert.ReferenceIdeal.main_arg9 (by decide +kernel)),
      (h c Cert.ReferenceIdeal.main_arg10 (by decide +kernel)).trans (RefRun.args_postAt m' c 21 Cert.ReferenceIdeal.main_arg10 (by decide +kernel)),
      (h c Cert.ReferenceIdeal.main_arg11 (by decide +kernel)).trans (RefRun.args_postAt m' c 21 Cert.ReferenceIdeal.main_arg11 (by decide +kernel)),
      (h c Cert.ReferenceIdeal.main_arg12 (by decide +kernel)).trans (RefRun.args_postAt m' c 21 Cert.ReferenceIdeal.main_arg12 (by decide +kernel)),
      (h c Cert.ReferenceIdeal.main_arg13 (by decide +kernel)).trans (RefRun.args_postAt m' c 21 Cert.ReferenceIdeal.main_arg13 (by decide +kernel))⟩) (RefRun.run_post (F := Ideal) m' g')⟩

/-- Every claim of the certificate. -/
theorem claim : Cert.Claim := ⟨Cert.Kernel.Gen.facts, Cert.KernelIdeal.Gen.facts, Cert.ReferenceIdeal.Gen.facts, Cert.Pre_finite.Gen.facts,
  fun m g _ => Cert.Kernel.Gen.frame m g, fun m g _ => Cert.KernelIdeal.Gen.frame m g, fun m g _ => Cert.KernelIdeal.Gen.frame m g,
  frame_reference, fun m g _ => frame_reference m g trivial, trivial, algebraic⟩

end Cert.Proof

end
